-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7)
      ∧ r.2.mem ((c.tc : Thread Cert.QkvReferenceIdeal.nD Cert.QkvReferenceIdeal.τ).loc Cert.QkvReferenceIdeal.main_arg8) = m ((c.tc : Thread Cert.QkvReferenceIdeal.nD Cert.QkvReferenceIdeal.τ).loc Cert.QkvReferenceIdeal.main_arg8)
      ∧ r.2.mem ((c.tc : Thread Cert.QkvReferenceIdeal.nD Cert.QkvReferenceIdeal.τ).loc Cert.QkvReferenceIdeal.main_arg9) = m ((c.tc : Thread Cert.QkvReferenceIdeal.nD Cert.QkvReferenceIdeal.τ).loc Cert.QkvReferenceIdeal.main_arg9)
      ∧ r.2.mem ((c.tc : Thread Cert.QkvReferenceIdeal.nD Cert.QkvReferenceIdeal.τ).loc Cert.QkvReferenceIdeal.main_arg10) = m ((c.tc : Thread Cert.QkvReferenceIdeal.nD Cert.QkvReferenceIdeal.τ).loc Cert.QkvReferenceIdeal.main_arg10)
      ∧ r.2.mem ((c.tc : Thread Cert.QkvReferenceIdeal.nD Cert.QkvReferenceIdeal.τ).loc Cert.QkvReferenceIdeal.main_arg11) = m ((c.tc : Thread Cert.QkvReferenceIdeal.nD Cert.QkvReferenceIdeal.τ).loc Cert.QkvReferenceIdeal.main_arg11)
      ∧ r.2.mem ((c.tc : Thread Cert.QkvReferenceIdeal.nD Cert.QkvReferenceIdeal.τ).loc Cert.QkvReferenceIdeal.main_arg12) = m ((c.tc : Thread Cert.QkvReferenceIdeal.nD Cert.QkvReferenceIdeal.τ).loc Cert.QkvReferenceIdeal.main_arg12))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v80) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)
      ∧ m' ((c.tc : Thread Cert.QkvReferenceIdeal.nD Cert.QkvReferenceIdeal.τ).loc Cert.QkvReferenceIdeal.main_arg8) = m ((c.tc : Thread Cert.QkvIdeal.nD Cert.QkvIdeal.τ).loc Cert.QkvIdeal.main_arg8)
      ∧ m' ((c.tc : Thread Cert.QkvReferenceIdeal.nD Cert.QkvReferenceIdeal.τ).loc Cert.QkvReferenceIdeal.main_arg9) = m ((c.tc : Thread Cert.QkvIdeal.nD Cert.QkvIdeal.τ).loc Cert.QkvIdeal.main_arg9)
      ∧ m' ((c.tc : Thread Cert.QkvReferenceIdeal.nD Cert.QkvReferenceIdeal.τ).loc Cert.QkvReferenceIdeal.main_arg10) = m ((c.tc : Thread Cert.QkvIdeal.nD Cert.QkvIdeal.τ).loc Cert.QkvIdeal.main_arg10)
      ∧ m' ((c.tc : Thread Cert.QkvReferenceIdeal.nD Cert.QkvReferenceIdeal.τ).loc Cert.QkvReferenceIdeal.main_arg11) = m ((c.tc : Thread Cert.QkvIdeal.nD Cert.QkvIdeal.τ).loc Cert.QkvIdeal.main_arg11)
      ∧ m' ((c.tc : Thread Cert.QkvReferenceIdeal.nD Cert.QkvReferenceIdeal.τ).loc Cert.QkvReferenceIdeal.main_arg12) = m ((c.tc : Thread Cert.QkvIdeal.nD Cert.QkvIdeal.τ).loc Cert.QkvIdeal.main_arg12)) →
    ∃ (v0 : (c : Dev Cert.QkvIdeal.nD) → Buf (Elt Ideal) ((c.tc : Thread Cert.QkvIdeal.nD Cert.QkvIdeal.τ).loc Cert.QkvIdeal.main_v59_0)) (v1 : (c : Dev Cert.QkvIdeal.nD) → Buf (Elt Ideal) ((c.tc : Thread Cert.QkvIdeal.nD Cert.QkvIdeal.τ).loc Cert.QkvIdeal.main_v59_1)) (v2 : (c : Dev Cert.QkvIdeal.nD) → Buf (Elt Ideal) ((c.tc : Thread Cert.QkvIdeal.nD Cert.QkvIdeal.τ).loc Cert.QkvIdeal.main_v59_2)) (v3 : (c : Dev Cert.QkvIdeal.nD) → Buf (Elt Ideal) ((c.tc : Thread Cert.QkvIdeal.nD Cert.QkvIdeal.τ).loc Cert.QkvIdeal.main_v59_9)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v59_0) = v0 c
          ∧ r.2.mem ((c.tc : Thread Cert.QkvIdeal.nD Cert.QkvIdeal.τ).loc Cert.QkvIdeal.main_v59_1) = v1 c
          ∧ r.2.mem ((c.tc : Thread Cert.QkvIdeal.nD Cert.QkvIdeal.τ).loc Cert.QkvIdeal.main_v59_2) = v2 c
          ∧ r.2.mem ((c.tc : Thread Cert.QkvIdeal.nD Cert.QkvIdeal.τ).loc Cert.QkvIdeal.main_v59_9) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v72) = v0 c
          ∧ r.2.mem ((c.tc : Thread Cert.QkvReferenceIdeal.nD Cert.QkvReferenceIdeal.τ).loc Cert.QkvReferenceIdeal.main_v73) = v1 c
          ∧ r.2.mem ((c.tc : Thread Cert.QkvReferenceIdeal.nD Cert.QkvReferenceIdeal.τ).loc Cert.QkvReferenceIdeal.main_v74) = v2 c
          ∧ r.2.mem ((c.tc : Thread Cert.QkvReferenceIdeal.nD Cert.QkvReferenceIdeal.τ).loc Cert.QkvReferenceIdeal.main_v75) = v3 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7)
          ∧ r.2.mem ((c.tc : Thread Cert.QkvReferenceIdeal.nD Cert.QkvReferenceIdeal.τ).loc Cert.QkvReferenceIdeal.main_arg8) = m' ((c.tc : Thread Cert.QkvReferenceIdeal.nD Cert.QkvReferenceIdeal.τ).loc Cert.QkvReferenceIdeal.main_arg8)
          ∧ r.2.mem ((c.tc : Thread Cert.QkvReferenceIdeal.nD Cert.QkvReferenceIdeal.τ).loc Cert.QkvReferenceIdeal.main_arg9) = m' ((c.tc : Thread Cert.QkvReferenceIdeal.nD Cert.QkvReferenceIdeal.τ).loc Cert.QkvReferenceIdeal.main_arg9)
          ∧ r.2.mem ((c.tc : Thread Cert.QkvReferenceIdeal.nD Cert.QkvReferenceIdeal.τ).loc Cert.QkvReferenceIdeal.main_arg10) = m' ((c.tc : Thread Cert.QkvReferenceIdeal.nD Cert.QkvReferenceIdeal.τ).loc Cert.QkvReferenceIdeal.main_arg10)
          ∧ r.2.mem ((c.tc : Thread Cert.QkvReferenceIdeal.nD Cert.QkvReferenceIdeal.τ).loc Cert.QkvReferenceIdeal.main_arg11) = m' ((c.tc : Thread Cert.QkvReferenceIdeal.nD Cert.QkvReferenceIdeal.τ).loc Cert.QkvReferenceIdeal.main_arg11)
          ∧ r.2.mem ((c.tc : Thread Cert.QkvReferenceIdeal.nD Cert.QkvReferenceIdeal.τ).loc Cert.QkvReferenceIdeal.main_arg12) = m' ((c.tc : Thread Cert.QkvReferenceIdeal.nD Cert.QkvReferenceIdeal.τ).loc Cert.QkvReferenceIdeal.main_arg12))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hQkv : Cert.Qkv.Facts) (hQkvIdeal : Cert.QkvIdeal.Facts) (hQkvReferenceIdeal : Cert.QkvReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Tail (hTail := hTail)
    ∧ quiescent_TailIdeal (hTailIdeal := hTailIdeal)
    ∧ quiescent_TailReferenceIdeal (hTailReferenceIdeal := hTailReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Tail_TailIdeal
    ∧ algebraic_TailIdeal_TailReferenceIdeal (hTailIdeal := hTailIdeal) (hTailReferenceIdeal := hTailReferenceIdeal)
    ∧ preserves_Qkv_QkvIdeal
    ∧ algebraic_QkvIdeal_QkvReferenceIdeal (hQkvIdeal := hQkvIdeal) (hQkvReferenceIdeal := hQkvReferenceIdeal)
-- ==== Pre_finite_scores.lean ====
abbrev S2x8192x512 : Shape := ⟨3, ![2, 8192, 512]⟩
abbrev S8x15x31 : Shape := ⟨3, ![8, 15, 31]⟩
abbrev S_ : Shape := ⟨0, ![]⟩

class Facts : Prop where
  bcast_S_S2x8192x512 : S_.BroadcastsInDim S2x8192x512 (![] : Fin 0 → Fin S2x8192x512.rank)
  bcast_S_S8x15x31 : S_.BroadcastsInDim S8x15x31 (![] : Fin 0 → Fin S8x15x31.rank)

variable [Facts]

def fn {F : FTy → Type} [FloatOps F] (main_arg0 : FVec F S2x8192x512 .f32) (main_arg1 : FVec F S2x8192x512 .f32) (main_arg2 : FVec F S2x8192x512 .f32) (main_arg3 : FVec F S8x15x31 .f32) : IVec S2x8192x512 1 × IVec S2x8192x512 1 × IVec S8x15x31 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x8192x512 .f32 := Host.absf main_arg1
  let main_cst_0 : FVec F S_ .f32 := constant S_ .f32 0x7F800000#32
  let main_v4 : FVec F S2x8192x512 .f32 := broadcastInDim S2x8192x512 ![] bcast_S_S2x8192x512 main_cst_0
  let main_v5 : IVec S2x8192x512 1 := cmpf .olt main_v3 main_v4
  let main_v6 : FVec F S8x15x31 .f32 := Host.absf main_arg3
  let main_cst_1 : FVec F S_ .f32 := constant S_ .f32 0x7F800000#32
  let main_v7 : FVec F S8x15x31 .f32 := broadcastInDim S8x15x31 ![] bcast_S_S8x15x31 main_cst_1
  let main_v8 : IVec S8x15x31 1 := cmpf .olt main_v6 main_v7
  (main_v2, main_v5, main_v8)
-- ==== Kernel.lean ====
abbrev S2x8192x512 : Shape := ⟨3, ![2, 8192, 512]⟩
abbrev S8x15x31 : Shape := ⟨3, ![8, 15, 31]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x1x1x2x1 : Shape := ⟨5, ![2, 1, 1, 2, 1]⟩
abbrev S1x31x64x1x64 : Shape := ⟨5, ![1, 31, 64, 1, 64]⟩
abbrev S2x31x64x2x64 : Shape := ⟨5, ![2, 31, 64, 2, 64]⟩
abbrev S64x1x64 : Shape := ⟨3, ![64, 1, 64]⟩
abbrev S64x2x64 : Shape := ⟨3, ![64, 2, 64]⟩
abbrev S62x8192 : Shape := ⟨2, ![62, 8192]⟩
abbrev S1x8192 : Shape := ⟨2, ![1, 8192]⟩
abbrev S63x8192 : Shape := ⟨2, ![63, 8192]⟩
abbrev S8x14x31 : Shape := ⟨3, ![8, 14, 31]⟩
abbrev S8x14x1x31 : Shape := ⟨4, ![8, 14, 1, 31]⟩
abbrev S8x14x2x31 : Shape := ⟨4, ![8, 14, 2, 31]⟩
abbrev S112x62 : Shape := ⟨2, ![112, 62]⟩
abbrev S112x1 : Shape := ⟨2, ![112, 1]⟩
abbrev S112x63 : Shape := ⟨2, ![112, 63]⟩
abbrev S112x63x1 : Shape := ⟨3, ![112, 63, 1]⟩
abbrev S1x63x8192 : Shape := ⟨3, ![1, 63, 8192]⟩
abbrev S112x63x8192 : Shape := ⟨3, ![112, 63, 8192]⟩
abbrev S112x8192 : Shape := ⟨2, ![112, 8192]⟩
abbrev S112x64x128 : Shape := ⟨3, ![112, 64, 128]⟩
abbrev S1x1024x512 : Shape := ⟨3, ![1, 1024, 512]⟩
abbrev S1x1536x512 : Shape := ⟨3, ![1, 1536, 512]⟩
abbrev S64x128 : Shape := ⟨2, ![64, 128]⟩
abbrev S128x128 : Shape := ⟨2, ![128, 128]⟩
abbrev S1x64x128 : Shape := ⟨3, ![1, 64, 128]⟩
abbrev S1x512x128 : Shape := ⟨3, ![1, 512, 128]⟩
abbrev S512x128 : Shape := ⟨2, ![512, 128]⟩
abbrev S128x512 : Shape := ⟨2, ![128, 512]⟩
abbrev S64x512 : Shape := ⟨2, ![64, 512]⟩
abbrev S512x512 : Shape := ⟨2, ![512, 512]⟩
abbrev S2048x512 : Shape := ⟨2, ![2048, 512]⟩
abbrev S2048 : Shape := ⟨1, ![2048]⟩
abbrev S2048x1 : Shape := ⟨2, ![2048, 1]⟩
abbrev S128x1 : Shape := ⟨2, ![128, 1]⟩

abbrev nBuf : Space → Nat
  | .hbm => 111
  | .vmem => 9
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S8x15x31, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8192x512, .f32⟩
  | .hbm, ⟨11, _⟩ => ⟨S2x8192x512, .f32⟩
  | .hbm, ⟨12, _⟩ => ⟨S2x8192x512, .bf16⟩
  | .hbm, ⟨13, _⟩ => ⟨S2x8192x512, .bf16⟩
  | .hbm, ⟨14, _⟩ => ⟨S2x8192x512, .bf16⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S1x64, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S1x64, .i32⟩
  | .hbm, ⟨33, _⟩ => ⟨S64x1, .i32⟩
  | .hbm, ⟨34, _⟩ => ⟨S_, .i32⟩
  | .hbm, ⟨35, _⟩ => ⟨S64x1, .i32⟩
  | .hbm, ⟨36, _⟩ => ⟨S64x1, .i32⟩
  | .hbm, ⟨37, _⟩ => ⟨S64x64, .i32⟩
  | .hbm, ⟨38, _⟩ => ⟨S64x64, .i32⟩
  | .hbm, ⟨39, _⟩ => ⟨S64x64, .i1⟩
  | .hbm, ⟨40, _⟩ => ⟨S64x64, .i1⟩
  | .hbm, ⟨41, _⟩ => ⟨S1x64, .i32⟩
  | .hbm, ⟨42, _⟩ => ⟨S64x1, .i32⟩
  | .hbm, ⟨43, _⟩ => ⟨S64x64, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S_, .i32⟩
  | .hbm, ⟨55, _⟩ => ⟨S64x64, .i32⟩
  | .hbm, ⟨56, _⟩ => ⟨S64x64, .i32⟩
  | .hbm, ⟨57, _⟩ => ⟨S1x64x64, .i32⟩
  | .hbm, ⟨58, _⟩ => ⟨S31, .i32⟩
  | .hbm, ⟨59, _⟩ => ⟨S31x1x1, .i32⟩
  | .hbm, ⟨60, _⟩ => ⟨S31x64x64, .i32⟩
  | .hbm, ⟨61, _⟩ => ⟨S31x64x64, .i32⟩
  | .hbm, ⟨62, _⟩ => ⟨S31x64x64, .i1⟩
  | .hbm, ⟨63, _⟩ => ⟨S2, .i32⟩
  | .hbm, ⟨64, _⟩ => ⟨S2x1, .i32⟩
  | .hbm, ⟨65, _⟩ => ⟨S2, .i32⟩
  | .hbm, ⟨66, _⟩ => ⟨S1x2, .i32⟩
  | .hbm, ⟨67, _⟩ => ⟨S2x2, .i32⟩
  | .hbm, ⟨68, _⟩ => ⟨S2x2, .i32⟩
  | .hbm, ⟨69, _⟩ => ⟨S2x2, .i1⟩
  | .hbm, ⟨70, _⟩ => ⟨S2x1x1x2x1, .i1⟩
  | .hbm, ⟨71, _⟩ => ⟨S1x31x64x1x64, .i1⟩
  | .hbm, ⟨72, _⟩ => ⟨S2x31x64x2x64, .i1⟩
  | .hbm, ⟨73, _⟩ => ⟨S2x31x64x2x64, .i1⟩
  | .hbm, ⟨74, _⟩ => ⟨S2x31x64x2x64, .i1⟩
  | .hbm, ⟨75, _⟩ => ⟨S2x31x64x2x64, .f32⟩
  | .hbm, ⟨76, _⟩ => ⟨S_, .f32⟩
  | .hbm, ⟨77, _⟩ => ⟨S_, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S64x1x64, .f32⟩
  | .hbm, ⟨82, _⟩ => ⟨S64x2x64, .f32⟩
  | .hbm, ⟨83, _⟩ => ⟨S62x8192, .f32⟩
  | .hbm, ⟨84, _⟩ => ⟨S1x8192, .f32⟩
  | .hbm, ⟨85, _⟩ => ⟨S1x8192, .f32⟩
  | .hbm, ⟨86, _⟩ => ⟨S63x8192, .f32⟩
  | .hbm, ⟨87, _⟩ => ⟨S8x14x31, .f32⟩
  | .hbm, ⟨88, _⟩ => ⟨S8x14x31, .f32⟩
  | .hbm, ⟨89, _⟩ => ⟨S8x14x1x31, .f32⟩
  | .hbm, ⟨90, _⟩ => ⟨S8x14x1x31, .f32⟩
  | .hbm, ⟨91, _⟩ => ⟨S8x14x2x31, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S8x14x2x31, .f32⟩
  | .hbm, ⟨97, _⟩ => ⟨S8x14x2x31, .f32⟩
  | .hbm, ⟨98, _⟩ => ⟨S112x62, .f32⟩
  | .hbm, ⟨99, _⟩ => ⟨S_, .f32⟩
  | .hbm, ⟨100, _⟩ => ⟨S112x1, .f32⟩
  | .hbm, ⟨101, _⟩ => ⟨S112x63, .f32⟩
  | .hbm, ⟨102, _⟩ => ⟨S112x63x1, .f32⟩
  | .hbm, ⟨103, _⟩ => ⟨S1x63x8192, .f32⟩
  | .hbm, ⟨104, _⟩ => ⟨S112x63x8192, .f32⟩
  | .hbm, ⟨105, _⟩ => ⟨S112x63x8192, .f32⟩
  | .hbm, ⟨106, _⟩ => ⟨S112x63x8192, .f32⟩
  | .hbm, ⟨107, _⟩ => ⟨S_, .f32⟩
  | .hbm, ⟨108, _⟩ => ⟨S112x8192, .f32⟩
  | .hbm, ⟨109, _⟩ => ⟨S112x64x128, .f32⟩
  | .hbm, ⟨110, _⟩ => ⟨S2x8192x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S112x64x128, .f32⟩
  | .local _ .vmem, ⟨7, _⟩ => ⟨S1x1024x512, .bf16⟩
  | .local _ .vmem, ⟨8, _⟩ => ⟨S1x1024x512, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_c_7 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_cst_9 : Ref sig .tc := ⟨.hbm, 77, rfl⟩
abbrev main_call2_v0 : Ref sig .tc := ⟨.hbm, 78, rfl⟩
abbrev main_call2_v1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c104_i32 : BitVec 32 := 104#32
  let c0_i32 : BitVec 32 := 0#32
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let c64_i32 : BitVec 32 := 64#32
  let v4 : BitVec 32 := Scalar.muli v3 c64_i32
  v4
def k0_mult2 (i : grid0.Coords) : BitVec 32 :=
  let c104_i32 : BitVec 32 := 104#32
  let c0_i32 : BitVec 32 := 0#32
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let c64_i32 : BitVec 32 := 64#32
  let v4 : BitVec 32 := Scalar.muli v3 c64_i32
  v4
def k0_mult3 (i : grid0.Coords) : BitVec 32 :=
  let c120_i32 : BitVec 32 := 120#32
  let c0_i32_5 : BitVec 32 := 0#32
  let arg1 : BitVec 32 := BitVec.ofNat 32 (i 1).val
  let c16_i32_2 : BitVec 32 := 16#32
  let v15 : BitVec 32 := Scalar.muli arg1 c16_i32_2
  let c0_i32_3 : BitVec 32 := 0#32
  let v16 : BitVec 32 := Scalar.addi v15 c0_i32_3
  let c4_i32_4 : BitVec 32 := 4#32
  let v17 : BitVec 32 := Scalar.subi v16 c4_i32_4
  let v18 : BitVec 32 := Scalar.maxsi c0_i32_5 v17
  let v19 : BitVec 32 := Scalar.minsi c120_i32 v18
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v21 : BitVec 32 := Scalar.subi v19 v3
  let c64_i32_6 : BitVec 32 := 64#32
  let v22 : BitVec 32 := Scalar.muli v21 c64_i32_6
  v22
def k0_off1 (i : grid0.Coords) (c0_i32_3 : BitVec 32) : Fin 3 → Nat :=
  let c0_10 : Index := 0#32
  let c120_i32 : BitVec 32 := 120#32
  let c0_i32_5 : BitVec 32 := 0#32
  let arg1 : BitVec 32 := BitVec.ofNat 32 (i 1).val
  let c16_i32_2 : BitVec 32 := 16#32
  let v15 : BitVec 32 := Scalar.muli arg1 c16_i32_2
  let v16 : BitVec 32 := Scalar.addi v15 c0_i32_3
  let c4_i32_4 : BitVec 32 := 4#32
  let v17 : BitVec 32 := Scalar.subi v16 c4_i32_4
  let v18 : BitVec 32 := Scalar.maxsi c0_i32_5 v17
  let v19 : BitVec 32 := Scalar.minsi c120_i32 v18
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v21 : BitVec 32 := Scalar.subi v19 v3
  let c64_i32_6 : BitVec 32 := 64#32
  let v22 : BitVec 32 := Scalar.muli v21 c64_i32_6
  let v23 : BitVec 32 := v22
  let v29 : Index := Scalar.indexCast v23
  let c0_11 : Index := 0#32
  ![0, v29.toNat, 0]
def k0_off2 (i : grid0.Coords) (c0_i32_3 : BitVec 32) : Fin 3 → Nat :=
  let c0_16 : Index := 0#32
  let c120_i32 : BitVec 32 := 120#32
  let c0_i32_5 : BitVec 32 := 0#32
  let arg1 : BitVec 32 := BitVec.ofNat 32 (i 1).val
  let c16_i32_2 : BitVec 32 := 16#32
  let v15 : BitVec 32 := Scalar.muli arg1 c16_i32_2
  let v16 : BitVec 32 := Scalar.addi v15 c0_i32_3
  let c4_i32_4 : BitVec 32 := 4#32
  let v17 : BitVec 32 := Scalar.subi v16 c4_i32_4
  let v18 : BitVec 32 := Scalar.maxsi c0_i32_5 v17
  let v19 : BitVec 32 := Scalar.minsi c120_i32 v18
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v21 : BitVec 32 := Scalar.subi v19 v3
  let c64_i32_6 : BitVec 32 := 64#32
  let v22 : BitVec 32 := Scalar.muli v21 c64_i32_6
  let v23 : BitVec 32 := v22
  let v38 : Index := Scalar.indexCast v23
  let c128_17 : Index := 128#32
  ![0, v38.toNat, 128]
def k0_off3 (i : grid0.Coords) (c0_i32_3 : BitVec 32) : Fin 3 → Nat :=
  let c0_22 : Index := 0#32
  let c120_i32 : BitVec 32 := 120#32
  let c0_i32_5 : BitVec 32 := 0#32
  let arg1 : BitVec 32 := BitVec.ofNat 32 (i 1).val
  let c16_i32_2 : BitVec 32 := 16#32
  let v15 : BitVec 32 := Scalar.muli arg1 c16_i32_2
  let v16 : BitVec 32 := Scalar.addi v15 c0_i32_3
  let c4_i32_4 : BitVec 32 := 4#32
  let v17 : BitVec 32 := Scalar.subi v16 c4_i32_4
  let v18 : BitVec 32 := Scalar.maxsi c0_i32_5 v17
  let v19 : BitVec 32 := Scalar.minsi c120_i32 v18
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v21 : BitVec 32 := Scalar.subi v19 v3
  let c64_i32_6 : BitVec 32 := 64#32
  let v22 : BitVec 32 := Scalar.muli v21 c64_i32_6
  let v23 : BitVec 32 := v22
  let v47 : Index := Scalar.indexCast v23
  let c256_23 : Index := 256#32
  ![0, v47.toNat, 256]
def k0_off4 (i : grid0.Coords) (c0_i32_3 : BitVec 32) : Fin 3 → Nat :=
  let c0_28 : Index := 0#32
  let c120_i32 : BitVec 32 := 120#32
  let c0_i32_5 : BitVec 32 := 0#32
  let arg1 : BitVec 32 := BitVec.ofNat 32 (i 1).val
  let c16_i32_2 : BitVec 32 := 16#32
  let v15 : BitVec 32 := Scalar.muli arg1 c16_i32_2
  let v16 : BitVec 32 := Scalar.addi v15 c0_i32_3
  let c4_i32_4 : BitVec 32 := 4#32
  let v17 : BitVec 32 := Scalar.subi v16 c4_i32_4
  let v18 : BitVec 32 := Scalar.maxsi c0_i32_5 v17
  let v19 : BitVec 32 := Scalar.minsi c120_i32 v18
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v21 : BitVec 32 := Scalar.subi v19 v3
  let c64_i32_6 : BitVec 32 := 64#32
  let v22 : BitVec 32 := Scalar.muli v21 c64_i32_6
  let v23 : BitVec 32 := v22
  let v56 : Index := Scalar.indexCast v23
  let c384_29 : Index := 384#32
  ![0, v56.toNat, 384]
def k0_off5 (i : grid0.Coords) (c0_i32_31 : BitVec 32) (c0_i32_3 : BitVec 32) : Fin 3 → Nat :=
  let arg1 : BitVec 32 := BitVec.ofNat 32 (i 1).val
  let c16_i32_2 : BitVec 32 := 16#32
  let v15 : BitVec 32 := Scalar.muli arg1 c16_i32_2
  let v16 : BitVec 32 := Scalar.addi v15 c0_i32_3
  let c120_i32 : BitVec 32 := 120#32
  let c0_i32_5 : BitVec 32 := 0#32
  let c4_i32_4 : BitVec 32 := 4#32
  let v17 : BitVec 32 := Scalar.subi v16 c4_i32_4
  let v18 : BitVec 32 := Scalar.maxsi c0_i32_5 v17
  let v19 : BitVec 32 := Scalar.minsi c120_i32 v18
  let v20 : BitVec 32 := Scalar.subi v16 v19
  let v60 : BitVec 32 := Scalar.subi c0_i32_31 v20
  let c8_i32 : BitVec 32 := 8#32
  let v61 : BitVec 32 := Scalar.addi v60 c8_i32
  let c1_i32 : BitVec 32 := 1#32
  let v62 : BitVec 32 := Scalar.subi v61 c1_i32
  let v63 : Index := Scalar.indexCast v62
  let c0_32 : Index := 0#32
  let c0_33 : Index := 0#32
  ![v63.toNat, 0, 0]
def k0_off5_at (r : Fin 512) : BitVec 32 × BitVec 32 :=
  if r.val < 256 then
    if r.val < 128 then
      if r.val < 64 then
        if r.val < 32 then
          if r.val < 16 then
            if r.val < 8 then
              if r.val < 4 then
                if r.val < 2 then
                  if r.val < 1 then
                    (0#32, 0#32)
                  else
                    (2#32, 0#32)
                else
                  if r.val < 3 then
                    (4#32, 0#32)
                  else
                    (6#32, 0#32)
              else
                if r.val < 6 then
                  if r.val < 5 then
                    (14#32, 0#32)
                  else
                    (16#32, 0#32)
                else
                  if r.val < 7 then
                    (18#32, 0#32)
                  else
                    (20#32, 0#32)
            else
              if r.val < 12 then
                if r.val < 10 then
                  if r.val < 9 then
                    (28#32, 0#32)
                  else
                    (30#32, 0#32)
                else
                  if r.val < 11 then
                    (32#32, 0#32)
                  else
                    (34#32, 0#32)
              else
                if r.val < 14 then
                  if r.val < 13 then
                    (42#32, 0#32)
                  else
                    (44#32, 0#32)
                else
                  if r.val < 15 then
                    (46#32, 0#32)
                  else
                    (48#32, 0#32)
          else
            if r.val < 24 then
              if r.val < 20 then
                if r.val < 18 then
                  if r.val < 17 then
                    (56#32, 0#32)
                  else
                    (58#32, 0#32)
                else
                  if r.val < 19 then
                    (60#32, 0#32)
                  else
                    (62#32, 0#32)
              else
                if r.val < 22 then
                  if r.val < 21 then
                    (70#32, 0#32)
                  else
                    (72#32, 0#32)
                else
                  if r.val < 23 then
                    (74#32, 0#32)
                  else
                    (76#32, 0#32)
            else
              if r.val < 28 then
                if r.val < 26 then
                  if r.val < 25 then
                    (84#32, 0#32)
                  else
                    (86#32, 0#32)
                else
                  if r.val < 27 then
                    (88#32, 0#32)
                  else
                    (90#32, 0#32)
              else
                if r.val < 30 then
                  if r.val < 29 then
                    (98#32, 0#32)
                  else
                    (100#32, 0#32)
                else
                  if r.val < 31 then
                    (102#32, 0#32)
                  else
                    (104#32, 0#32)
        else
          if r.val < 48 then
            if r.val < 40 then
              if r.val < 36 then
                if r.val < 34 then
                  if r.val < 33 then
                    (0#32, 1#32)
                  else
                    (2#32, 1#32)
                else
                  if r.val < 35 then
                    (4#32, 1#32)
                  else
                    (6#32, 1#32)
              else
                if r.val < 38 then
                  if r.val < 37 then
                    (14#32, 1#32)
                  else
                    (16#32, 1#32)
                else
                  if r.val < 39 then
                    (18#32, 1#32)
                  else
                    (20#32, 1#32)
            else
              if r.val < 44 then
                if r.val < 42 then
                  if r.val < 41 then
                    (28#32, 1#32)
                  else
                    (30#32, 1#32)
                else
                  if r.val < 43 then
                    (32#32, 1#32)
                  else
                    (34#32, 1#32)
              else
                if r.val < 46 then
                  if r.val < 45 then
                    (42#32, 1#32)
                  else
                    (44#32, 1#32)
                else
                  if r.val < 47 then
                    (46#32, 1#32)
                  else
                    (48#32, 1#32)
          else
            if r.val < 56 then
              if r.val < 52 then
                if r.val < 50 then
                  if r.val < 49 then
                    (56#32, 1#32)
                  else
                    (58#32, 1#32)
                else
                  if r.val < 51 then
                    (60#32, 1#32)
                  else
                    (62#32, 1#32)
              else
                if r.val < 54 then
                  if r.val < 53 then
                    (70#32, 1#32)
                  else
                    (72#32, 1#32)
                else
                  if r.val < 55 then
                    (74#32, 1#32)
                  else
                    (76#32, 1#32)
            else
              if r.val < 60 then
                if r.val < 58 then
                  if r.val < 57 then
                    (84#32, 1#32)
                  else
                    (86#32, 1#32)
                else
                  if r.val < 59 then
                    (88#32, 1#32)
                  else
                    (90#32, 1#32)
              else
                if r.val < 62 then
                  if r.val < 61 then
                    (98#32, 1#32)
                  else
                    (100#32, 1#32)
                else
                  if r.val < 63 then
                    (102#32, 1#32)
                  else
                    (104#32, 1#32)
      else
        if r.val < 96 then
          if r.val < 80 then
            if r.val < 72 then
              if r.val < 68 then
                if r.val < 66 then
                  if r.val < 65 then
                    (0#32, 2#32)
                  else
                    (2#32, 2#32)
                else
                  if r.val < 67 then
                    (4#32, 2#32)
                  else
                    (6#32, 2#32)
              else
                if r.val < 70 then
                  if r.val < 69 then
                    (14#32, 2#32)
                  else
                    (16#32, 2#32)
                else
                  if r.val < 71 then
                    (18#32, 2#32)
                  else
                    (20#32, 2#32)
            else
              if r.val < 76 then
                if r.val < 74 then
                  if r.val < 73 then
                    (28#32, 2#32)
                  else
                    (30#32, 2#32)
                else
                  if r.val < 75 then
                    (32#32, 2#32)
                  else
                    (34#32, 2#32)
              else
                if r.val < 78 then
                  if r.val < 77 then
                    (42#32, 2#32)
                  else
                    (44#32, 2#32)
                else
                  if r.val < 79 then
                    (46#32, 2#32)
                  else
                    (48#32, 2#32)
          else
            if r.val < 88 then
              if r.val < 84 then
                if r.val < 82 then
                  if r.val < 81 then
                    (56#32, 2#32)
                  else
                    (58#32, 2#32)
                else
                  if r.val < 83 then
                    (60#32, 2#32)
                  else
                    (62#32, 2#32)
              else
                if r.val < 86 then
                  if r.val < 85 then
                    (70#32, 2#32)
                  else
                    (72#32, 2#32)
                else
                  if r.val < 87 then
                    (74#32, 2#32)
                  else
                    (76#32, 2#32)
            else
              if r.val < 92 then
                if r.val < 90 then
                  if r.val < 89 then
                    (84#32, 2#32)
                  else
                    (86#32, 2#32)
                else
                  if r.val < 91 then
                    (88#32, 2#32)
                  else
                    (90#32, 2#32)
              else
                if r.val < 94 then
                  if r.val < 93 then
                    (98#32, 2#32)
                  else
                    (100#32, 2#32)
                else
                  if r.val < 95 then
                    (102#32, 2#32)
                  else
                    (104#32, 2#32)
        else
          if r.val < 112 then
            if r.val < 104 then
              if r.val < 100 then
                if r.val < 98 then
                  if r.val < 97 then
                    (0#32, 3#32)
                  else
                    (2#32, 3#32)
                else
                  if r.val < 99 then
                    (4#32, 3#32)
                  else
                    (6#32, 3#32)
              else
                if r.val < 102 then
                  if r.val < 101 then
                    (14#32, 3#32)
                  else
                    (16#32, 3#32)
                else
                  if r.val < 103 then
                    (18#32, 3#32)
                  else
                    (20#32, 3#32)
            else
              if r.val < 108 then
                if r.val < 106 then
                  if r.val < 105 then
                    (28#32, 3#32)
                  else
                    (30#32, 3#32)
                else
                  if r.val < 107 then
                    (32#32, 3#32)
                  else
                    (34#32, 3#32)
              else
                if r.val < 110 then
                  if r.val < 109 then
                    (42#32, 3#32)
                  else
                    (44#32, 3#32)
                else
                  if r.val < 111 then
                    (46#32, 3#32)
                  else
                    (48#32, 3#32)
          else
            if r.val < 120 then
              if r.val < 116 then
                if r.val < 114 then
                  if r.val < 113 then
                    (56#32, 3#32)
                  else
                    (58#32, 3#32)
                else
                  if r.val < 115 then
                    (60#32, 3#32)
                  else
                    (62#32, 3#32)
              else
                if r.val < 118 then
                  if r.val < 117 then
                    (70#32, 3#32)
                  else
                    (72#32, 3#32)
                else
                  if r.val < 119 then
                    (74#32, 3#32)
                  else
                    (76#32, 3#32)
            else
              if r.val < 124 then
                if r.val < 122 then
                  if r.val < 121 then
                    (84#32, 3#32)
                  else
                    (86#32, 3#32)
                else
                  if r.val < 123 then
                    (88#32, 3#32)
                  else
                    (90#32, 3#32)
              else
                if r.val < 126 then
                  if r.val < 125 then
                    (98#32, 3#32)
                  else
                    (100#32, 3#32)
                else
                  if r.val < 127 then
                    (102#32, 3#32)
                  else
                    (104#32, 3#32)
    else
      if r.val < 192 then
        if r.val < 160 then
          if r.val < 144 then
            if r.val < 136 then
              if r.val < 132 then
                if r.val < 130 then
                  if r.val < 129 then
                    (0#32, 4#32)
                  else
                    (2#32, 4#32)
                else
                  if r.val < 131 then
                    (4#32, 4#32)
                  else
                    (6#32, 4#32)
              else
                if r.val < 134 then
                  if r.val < 133 then
                    (14#32, 4#32)
                  else
                    (16#32, 4#32)
                else
                  if r.val < 135 then
                    (18#32, 4#32)
                  else
                    (20#32, 4#32)
            else
              if r.val < 140 then
                if r.val < 138 then
                  if r.val < 137 then
                    (28#32, 4#32)
                  else
                    (30#32, 4#32)
                else
                  if r.val < 139 then
                    (32#32, 4#32)
                  else
                    (34#32, 4#32)
              else
                if r.val < 142 then
                  if r.val < 141 then
                    (42#32, 4#32)
                  else
                    (44#32, 4#32)
                else
                  if r.val < 143 then
                    (46#32, 4#32)
                  else
                    (48#32, 4#32)
          else
            if r.val < 152 then
              if r.val < 148 then
                if r.val < 146 then
                  if r.val < 145 then
                    (56#32, 4#32)
                  else
                    (58#32, 4#32)
                else
                  if r.val < 147 then
                    (60#32, 4#32)
                  else
                    (62#32, 4#32)
              else
                if r.val < 150 then
                  if r.val < 149 then
                    (70#32, 4#32)
                  else
                    (72#32, 4#32)
                else
                  if r.val < 151 then
                    (74#32, 4#32)
                  else
                    (76#32, 4#32)
            else
              if r.val < 156 then
                if r.val < 154 then
                  if r.val < 153 then
                    (84#32, 4#32)
                  else
                    (86#32, 4#32)
                else
                  if r.val < 155 then
                    (88#32, 4#32)
                  else
                    (90#32, 4#32)
              else
                if r.val < 158 then
                  if r.val < 157 then
                    (98#32, 4#32)
                  else
                    (100#32, 4#32)
                else
                  if r.val < 159 then
                    (102#32, 4#32)
                  else
                    (104#32, 4#32)
        else
          if r.val < 176 then
            if r.val < 168 then
              if r.val < 164 then
                if r.val < 162 then
                  if r.val < 161 then
                    (0#32, 5#32)
                  else
                    (2#32, 5#32)
                else
                  if r.val < 163 then
                    (4#32, 5#32)
                  else
                    (6#32, 5#32)
              else
                if r.val < 166 then
                  if r.val < 165 then
                    (14#32, 5#32)
                  else
                    (16#32, 5#32)
                else
                  if r.val < 167 then
                    (18#32, 5#32)
                  else
                    (20#32, 5#32)
            else
              if r.val < 172 then
                if r.val < 170 then
                  if r.val < 169 then
                    (28#32, 5#32)
                  else
                    (30#32, 5#32)
                else
                  if r.val < 171 then
                    (32#32, 5#32)
                  else
                    (34#32, 5#32)
              else
                if r.val < 174 then
                  if r.val < 173 then
                    (42#32, 5#32)
                  else
                    (44#32, 5#32)
                else
                  if r.val < 175 then
                    (46#32, 5#32)
                  else
                    (48#32, 5#32)
          else
            if r.val < 184 then
              if r.val < 180 then
                if r.val < 178 then
                  if r.val < 177 then
                    (56#32, 5#32)
                  else
                    (58#32, 5#32)
                else
                  if r.val < 179 then
                    (60#32, 5#32)
                  else
                    (62#32, 5#32)
              else
                if r.val < 182 then
                  if r.val < 181 then
                    (70#32, 5#32)
                  else
                    (72#32, 5#32)
                else
                  if r.val < 183 then
                    (74#32, 5#32)
                  else
                    (76#32, 5#32)
            else
              if r.val < 188 then
                if r.val < 186 then
                  if r.val < 185 then
                    (84#32, 5#32)
                  else
                    (86#32, 5#32)
                else
                  if r.val < 187 then
                    (88#32, 5#32)
                  else
                    (90#32, 5#32)
              else
                if r.val < 190 then
                  if r.val < 189 then
                    (98#32, 5#32)
                  else
                    (100#32, 5#32)
                else
                  if r.val < 191 then
                    (102#32, 5#32)
                  else
                    (104#32, 5#32)
      else
        if r.val < 224 then
          if r.val < 208 then
            if r.val < 200 then
              if r.val < 196 then
                if r.val < 194 then
                  if r.val < 193 then
                    (0#32, 6#32)
                  else
                    (2#32, 6#32)
                else
                  if r.val < 195 then
                    (4#32, 6#32)
                  else
                    (6#32, 6#32)
              else
                if r.val < 198 then
                  if r.val < 197 then
                    (14#32, 6#32)
                  else
                    (16#32, 6#32)
                else
                  if r.val < 199 then
                    (18#32, 6#32)
                  else
                    (20#32, 6#32)
            else
              if r.val < 204 then
                if r.val < 202 then
                  if r.val < 201 then
                    (28#32, 6#32)
                  else
                    (30#32, 6#32)
                else
                  if r.val < 203 then
                    (32#32, 6#32)
                  else
                    (34#32, 6#32)
              else
                if r.val < 206 then
                  if r.val < 205 then
                    (42#32, 6#32)
                  else
                    (44#32, 6#32)
                else
                  if r.val < 207 then
                    (46#32, 6#32)
                  else
                    (48#32, 6#32)
          else
            if r.val < 216 then
              if r.val < 212 then
                if r.val < 210 then
                  if r.val < 209 then
                    (56#32, 6#32)
                  else
                    (58#32, 6#32)
                else
                  if r.val < 211 then
                    (60#32, 6#32)
                  else
                    (62#32, 6#32)
              else
                if r.val < 214 then
                  if r.val < 213 then
                    (70#32, 6#32)
                  else
                    (72#32, 6#32)
                else
                  if r.val < 215 then
                    (74#32, 6#32)
                  else
                    (76#32, 6#32)
            else
              if r.val < 220 then
                if r.val < 218 then
                  if r.val < 217 then
                    (84#32, 6#32)
                  else
                    (86#32, 6#32)
                else
                  if r.val < 219 then
                    (88#32, 6#32)
                  else
                    (90#32, 6#32)
              else
                if r.val < 222 then
                  if r.val < 221 then
                    (98#32, 6#32)
                  else
                    (100#32, 6#32)
                else
                  if r.val < 223 then
                    (102#32, 6#32)
                  else
                    (104#32, 6#32)
        else
          if r.val < 240 then
            if r.val < 232 then
              if r.val < 228 then
                if r.val < 226 then
                  if r.val < 225 then
                    (0#32, 7#32)
                  else
                    (2#32, 7#32)
                else
                  if r.val < 227 then
                    (4#32, 7#32)
                  else
                    (6#32, 7#32)
              else
                if r.val < 230 then
                  if r.val < 229 then
                    (14#32, 7#32)
                  else
                    (16#32, 7#32)
                else
                  if r.val < 231 then
                    (18#32, 7#32)
                  else
                    (20#32, 7#32)
            else
              if r.val < 236 then
                if r.val < 234 then
                  if r.val < 233 then
                    (28#32, 7#32)
                  else
                    (30#32, 7#32)
                else
                  if r.val < 235 then
                    (32#32, 7#32)
                  else
                    (34#32, 7#32)
              else
                if r.val < 238 then
                  if r.val < 237 then
                    (42#32, 7#32)
                  else
                    (44#32, 7#32)
                else
                  if r.val < 239 then
                    (46#32, 7#32)
                  else
                    (48#32, 7#32)
          else
            if r.val < 248 then
              if r.val < 244 then
                if r.val < 242 then
                  if r.val < 241 then
                    (56#32, 7#32)
                  else
                    (58#32, 7#32)
                else
                  if r.val < 243 then
                    (60#32, 7#32)
                  else
                    (62#32, 7#32)
              else
                if r.val < 246 then
                  if r.val < 245 then
                    (70#32, 7#32)
                  else
                    (72#32, 7#32)
                else
                  if r.val < 247 then
                    (74#32, 7#32)
                  else
                    (76#32, 7#32)
            else
              if r.val < 252 then
                if r.val < 250 then
                  if r.val < 249 then
                    (84#32, 7#32)
                  else
                    (86#32, 7#32)
                else
                  if r.val < 251 then
                    (88#32, 7#32)
                  else
                    (90#32, 7#32)
              else
                if r.val < 254 then
                  if r.val < 253 then
                    (98#32, 7#32)
                  else
                    (100#32, 7#32)
                else
                  if r.val < 255 then
                    (102#32, 7#32)
                  else
                    (104#32, 7#32)
  else
    if r.val < 384 then
      if r.val < 320 then
        if r.val < 288 then
          if r.val < 272 then
            if r.val < 264 then
              if r.val < 260 then
                if r.val < 258 then
                  if r.val < 257 then
                    (0#32, 8#32)
                  else
                    (2#32, 8#32)
                else
                  if r.val < 259 then
                    (4#32, 8#32)
                  else
                    (6#32, 8#32)
              else
                if r.val < 262 then
                  if r.val < 261 then
                    (14#32, 8#32)
                  else
                    (16#32, 8#32)
                else
                  if r.val < 263 then
                    (18#32, 8#32)
                  else
                    (20#32, 8#32)
            else
              if r.val < 268 then
                if r.val < 266 then
                  if r.val < 265 then
                    (28#32, 8#32)
                  else
                    (30#32, 8#32)
                else
                  if r.val < 267 then
                    (32#32, 8#32)
                  else
                    (34#32, 8#32)
              else
                if r.val < 270 then
                  if r.val < 269 then
                    (42#32, 8#32)
                  else
                    (44#32, 8#32)
                else
                  if r.val < 271 then
                    (46#32, 8#32)
                  else
                    (48#32, 8#32)
          else
            if r.val < 280 then
              if r.val < 276 then
                if r.val < 274 then
                  if r.val < 273 then
                    (56#32, 8#32)
                  else
                    (58#32, 8#32)
                else
                  if r.val < 275 then
                    (60#32, 8#32)
                  else
                    (62#32, 8#32)
              else
                if r.val < 278 then
                  if r.val < 277 then
                    (70#32, 8#32)
                  else
                    (72#32, 8#32)
                else
                  if r.val < 279 then
                    (74#32, 8#32)
                  else
                    (76#32, 8#32)
            else
              if r.val < 284 then
                if r.val < 282 then
                  if r.val < 281 then
                    (84#32, 8#32)
                  else
                    (86#32, 8#32)
                else
                  if r.val < 283 then
                    (88#32, 8#32)
                  else
                    (90#32, 8#32)
              else
                if r.val < 286 then
                  if r.val < 285 then
                    (98#32, 8#32)
                  else
                    (100#32, 8#32)
                else
                  if r.val < 287 then
                    (102#32, 8#32)
                  else
                    (104#32, 8#32)
        else
          if r.val < 304 then
            if r.val < 296 then
              if r.val < 292 then
                if r.val < 290 then
                  if r.val < 289 then
                    (0#32, 9#32)
                  else
                    (2#32, 9#32)
                else
                  if r.val < 291 then
                    (4#32, 9#32)
                  else
                    (6#32, 9#32)
              else
                if r.val < 294 then
                  if r.val < 293 then
                    (14#32, 9#32)
                  else
                    (16#32, 9#32)
                else
                  if r.val < 295 then
                    (18#32, 9#32)
                  else
                    (20#32, 9#32)
            else
              if r.val < 300 then
                if r.val < 298 then
                  if r.val < 297 then
                    (28#32, 9#32)
                  else
                    (30#32, 9#32)
                else
                  if r.val < 299 then
                    (32#32, 9#32)
                  else
                    (34#32, 9#32)
              else
                if r.val < 302 then
                  if r.val < 301 then
                    (42#32, 9#32)
                  else
                    (44#32, 9#32)
                else
                  if r.val < 303 then
                    (46#32, 9#32)
                  else
                    (48#32, 9#32)
          else
            if r.val < 312 then
              if r.val < 308 then
                if r.val < 306 then
                  if r.val < 305 then
                    (56#32, 9#32)
                  else
                    (58#32, 9#32)
                else
                  if r.val < 307 then
                    (60#32, 9#32)
                  else
                    (62#32, 9#32)
              else
                if r.val < 310 then
                  if r.val < 309 then
                    (70#32, 9#32)
                  else
                    (72#32, 9#32)
                else
                  if r.val < 311 then
                    (74#32, 9#32)
                  else
                    (76#32, 9#32)
            else
              if r.val < 316 then
                if r.val < 314 then
                  if r.val < 313 then
                    (84#32, 9#32)
                  else
                    (86#32, 9#32)
                else
                  if r.val < 315 then
                    (88#32, 9#32)
                  else
                    (90#32, 9#32)
              else
                if r.val < 318 then
                  if r.val < 317 then
                    (98#32, 9#32)
                  else
                    (100#32, 9#32)
                else
                  if r.val < 319 then
                    (102#32, 9#32)
                  else
                    (104#32, 9#32)
      else
        if r.val < 352 then
          if r.val < 336 then
            if r.val < 328 then
              if r.val < 324 then
                if r.val < 322 then
                  if r.val < 321 then
                    (0#32, 10#32)
                  else
                    (2#32, 10#32)
                else
                  if r.val < 323 then
                    (4#32, 10#32)
                  else
                    (6#32, 10#32)
              else
                if r.val < 326 then
                  if r.val < 325 then
                    (14#32, 10#32)
                  else
                    (16#32, 10#32)
                else
                  if r.val < 327 then
                    (18#32, 10#32)
                  else
                    (20#32, 10#32)
            else
              if r.val < 332 then
                if r.val < 330 then
                  if r.val < 329 then
                    (28#32, 10#32)
                  else
                    (30#32, 10#32)
                else
                  if r.val < 331 then
                    (32#32, 10#32)
                  else
                    (34#32, 10#32)
              else
                if r.val < 334 then
                  if r.val < 333 then
                    (42#32, 10#32)
                  else
                    (44#32, 10#32)
                else
                  if r.val < 335 then
                    (46#32, 10#32)
                  else
                    (48#32, 10#32)
          else
            if r.val < 344 then
              if r.val < 340 then
                if r.val < 338 then
                  if r.val < 337 then
                    (56#32, 10#32)
                  else
                    (58#32, 10#32)
                else
                  if r.val < 339 then
                    (60#32, 10#32)
                  else
                    (62#32, 10#32)
              else
                if r.val < 342 then
                  if r.val < 341 then
                    (70#32, 10#32)
                  else
                    (72#32, 10#32)
                else
                  if r.val < 343 then
                    (74#32, 10#32)
                  else
                    (76#32, 10#32)
            else
              if r.val < 348 then
                if r.val < 346 then
                  if r.val < 345 then
                    (84#32, 10#32)
                  else
                    (86#32, 10#32)
                else
                  if r.val < 347 then
                    (88#32, 10#32)
                  else
                    (90#32, 10#32)
              else
                if r.val < 350 then
                  if r.val < 349 then
                    (98#32, 10#32)
                  else
                    (100#32, 10#32)
                else
                  if r.val < 351 then
                    (102#32, 10#32)
                  else
                    (104#32, 10#32)
        else
          if r.val < 368 then
            if r.val < 360 then
              if r.val < 356 then
                if r.val < 354 then
                  if r.val < 353 then
                    (0#32, 11#32)
                  else
                    (2#32, 11#32)
                else
                  if r.val < 355 then
                    (4#32, 11#32)
                  else
                    (6#32, 11#32)
              else
                if r.val < 358 then
                  if r.val < 357 then
                    (14#32, 11#32)
                  else
                    (16#32, 11#32)
                else
                  if r.val < 359 then
                    (18#32, 11#32)
                  else
                    (20#32, 11#32)
            else
              if r.val < 364 then
                if r.val < 362 then
                  if r.val < 361 then
                    (28#32, 11#32)
                  else
                    (30#32, 11#32)
                else
                  if r.val < 363 then
                    (32#32, 11#32)
                  else
                    (34#32, 11#32)
              else
                if r.val < 366 then
                  if r.val < 365 then
                    (42#32, 11#32)
                  else
                    (44#32, 11#32)
                else
                  if r.val < 367 then
                    (46#32, 11#32)
                  else
                    (48#32, 11#32)
          else
            if r.val < 376 then
              if r.val < 372 then
                if r.val < 370 then
                  if r.val < 369 then
                    (56#32, 11#32)
                  else
                    (58#32, 11#32)
                else
                  if r.val < 371 then
                    (60#32, 11#32)
                  else
                    (62#32, 11#32)
              else
                if r.val < 374 then
                  if r.val < 373 then
                    (70#32, 11#32)
                  else
                    (72#32, 11#32)
                else
                  if r.val < 375 then
                    (74#32, 11#32)
                  else
                    (76#32, 11#32)
            else
              if r.val < 380 then
                if r.val < 378 then
                  if r.val < 377 then
                    (84#32, 11#32)
                  else
                    (86#32, 11#32)
                else
                  if r.val < 379 then
                    (88#32, 11#32)
                  else
                    (90#32, 11#32)
              else
                if r.val < 382 then
                  if r.val < 381 then
                    (98#32, 11#32)
                  else
                    (100#32, 11#32)
                else
                  if r.val < 383 then
                    (102#32, 11#32)
                  else
                    (104#32, 11#32)
    else
      if r.val < 448 then
        if r.val < 416 then
          if r.val < 400 then
            if r.val < 392 then
              if r.val < 388 then
                if r.val < 386 then
                  if r.val < 385 then
                    (0#32, 12#32)
                  else
                    (2#32, 12#32)
                else
                  if r.val < 387 then
                    (4#32, 12#32)
                  else
                    (6#32, 12#32)
              else
                if r.val < 390 then
                  if r.val < 389 then
                    (14#32, 12#32)
                  else
                    (16#32, 12#32)
                else
                  if r.val < 391 then
                    (18#32, 12#32)
                  else
                    (20#32, 12#32)
            else
              if r.val < 396 then
                if r.val < 394 then
                  if r.val < 393 then
                    (28#32, 12#32)
                  else
                    (30#32, 12#32)
                else
                  if r.val < 395 then
                    (32#32, 12#32)
                  else
                    (34#32, 12#32)
              else
                if r.val < 398 then
                  if r.val < 397 then
                    (42#32, 12#32)
                  else
                    (44#32, 12#32)
                else
                  if r.val < 399 then
                    (46#32, 12#32)
                  else
                    (48#32, 12#32)
          else
            if r.val < 408 then
              if r.val < 404 then
                if r.val < 402 then
                  if r.val < 401 then
                    (56#32, 12#32)
                  else
                    (58#32, 12#32)
                else
                  if r.val < 403 then
                    (60#32, 12#32)
                  else
                    (62#32, 12#32)
              else
                if r.val < 406 then
                  if r.val < 405 then
                    (70#32, 12#32)
                  else
                    (72#32, 12#32)
                else
                  if r.val < 407 then
                    (74#32, 12#32)
                  else
                    (76#32, 12#32)
            else
              if r.val < 412 then
                if r.val < 410 then
                  if r.val < 409 then
                    (84#32, 12#32)
                  else
                    (86#32, 12#32)
                else
                  if r.val < 411 then
                    (88#32, 12#32)
                  else
                    (90#32, 12#32)
              else
                if r.val < 414 then
                  if r.val < 413 then
                    (98#32, 12#32)
                  else
                    (100#32, 12#32)
                else
                  if r.val < 415 then
                    (102#32, 12#32)
                  else
                    (104#32, 12#32)
        else
          if r.val < 432 then
            if r.val < 424 then
              if r.val < 420 then
                if r.val < 418 then
                  if r.val < 417 then
                    (0#32, 13#32)
                  else
                    (2#32, 13#32)
                else
                  if r.val < 419 then
                    (4#32, 13#32)
                  else
                    (6#32, 13#32)
              else
                if r.val < 422 then
                  if r.val < 421 then
                    (14#32, 13#32)
                  else
                    (16#32, 13#32)
                else
                  if r.val < 423 then
                    (18#32, 13#32)
                  else
                    (20#32, 13#32)
            else
              if r.val < 428 then
                if r.val < 426 then
                  if r.val < 425 then
                    (28#32, 13#32)
                  else
                    (30#32, 13#32)
                else
                  if r.val < 427 then
                    (32#32, 13#32)
                  else
                    (34#32, 13#32)
              else
                if r.val < 430 then
                  if r.val < 429 then
                    (42#32, 13#32)
                  else
                    (44#32, 13#32)
                else
                  if r.val < 431 then
                    (46#32, 13#32)
                  else
                    (48#32, 13#32)
          else
            if r.val < 440 then
              if r.val < 436 then
                if r.val < 434 then
                  if r.val < 433 then
                    (56#32, 13#32)
                  else
                    (58#32, 13#32)
                else
                  if r.val < 435 then
                    (60#32, 13#32)
                  else
                    (62#32, 13#32)
              else
                if r.val < 438 then
                  if r.val < 437 then
                    (70#32, 13#32)
                  else
                    (72#32, 13#32)
                else
                  if r.val < 439 then
                    (74#32, 13#32)
                  else
                    (76#32, 13#32)
            else
              if r.val < 444 then
                if r.val < 442 then
                  if r.val < 441 then
                    (84#32, 13#32)
                  else
                    (86#32, 13#32)
                else
                  if r.val < 443 then
                    (88#32, 13#32)
                  else
                    (90#32, 13#32)
              else
                if r.val < 446 then
                  if r.val < 445 then
                    (98#32, 13#32)
                  else
                    (100#32, 13#32)
                else
                  if r.val < 447 then
                    (102#32, 13#32)
                  else
                    (104#32, 13#32)
      else
        if r.val < 480 then
          if r.val < 464 then
            if r.val < 456 then
              if r.val < 452 then
                if r.val < 450 then
                  if r.val < 449 then
                    (0#32, 14#32)
                  else
                    (2#32, 14#32)
                else
                  if r.val < 451 then
                    (4#32, 14#32)
                  else
                    (6#32, 14#32)
              else
                if r.val < 454 then
                  if r.val < 453 then
                    (14#32, 14#32)
                  else
                    (16#32, 14#32)
                else
                  if r.val < 455 then
                    (18#32, 14#32)
                  else
                    (20#32, 14#32)
            else
              if r.val < 460 then
                if r.val < 458 then
                  if r.val < 457 then
                    (28#32, 14#32)
                  else
                    (30#32, 14#32)
                else
                  if r.val < 459 then
                    (32#32, 14#32)
                  else
                    (34#32, 14#32)
              else
                if r.val < 462 then
                  if r.val < 461 then
                    (42#32, 14#32)
                  else
                    (44#32, 14#32)
                else
                  if r.val < 463 then
                    (46#32, 14#32)
                  else
                    (48#32, 14#32)
          else
            if r.val < 472 then
              if r.val < 468 then
                if r.val < 466 then
                  if r.val < 465 then
                    (56#32, 14#32)
                  else
                    (58#32, 14#32)
                else
                  if r.val < 467 then
                    (60#32, 14#32)
                  else
                    (62#32, 14#32)
              else
                if r.val < 470 then
                  if r.val < 469 then
                    (70#32, 14#32)
                  else
                    (72#32, 14#32)
                else
                  if r.val < 471 then
                    (74#32, 14#32)
                  else
                    (76#32, 14#32)
            else
              if r.val < 476 then
                if r.val < 474 then
                  if r.val < 473 then
                    (84#32, 14#32)
                  else
                    (86#32, 14#32)
                else
                  if r.val < 475 then
                    (88#32, 14#32)
                  else
                    (90#32, 14#32)
              else
                if r.val < 478 then
                  if r.val < 477 then
                    (98#32, 14#32)
                  else
                    (100#32, 14#32)
                else
                  if r.val < 479 then
                    (102#32, 14#32)
                  else
                    (104#32, 14#32)
        else
          if r.val < 496 then
            if r.val < 488 then
              if r.val < 484 then
                if r.val < 482 then
                  if r.val < 481 then
                    (0#32, 15#32)
                  else
                    (2#32, 15#32)
                else
                  if r.val < 483 then
                    (4#32, 15#32)
                  else
                    (6#32, 15#32)
              else
                if r.val < 486 then
                  if r.val < 485 then
                    (14#32, 15#32)
                  else
                    (16#32, 15#32)
                else
                  if r.val < 487 then
                    (18#32, 15#32)
                  else
                    (20#32, 15#32)
            else
              if r.val < 492 then
                if r.val < 490 then
                  if r.val < 489 then
                    (28#32, 15#32)
                  else
                    (30#32, 15#32)
                else
                  if r.val < 491 then
                    (32#32, 15#32)
                  else
                    (34#32, 15#32)
              else
                if r.val < 494 then
                  if r.val < 493 then
                    (42#32, 15#32)
                  else
                    (44#32, 15#32)
                else
                  if r.val < 495 then
                    (46#32, 15#32)
                  else
                    (48#32, 15#32)
          else
            if r.val < 504 then
              if r.val < 500 then
                if r.val < 498 then
                  if r.val < 497 then
                    (56#32, 15#32)
                  else
                    (58#32, 15#32)
                else
                  if r.val < 499 then
                    (60#32, 15#32)
                  else
                    (62#32, 15#32)
              else
                if r.val < 502 then
                  if r.val < 501 then
                    (70#32, 15#32)
                  else
                    (72#32, 15#32)
                else
                  if r.val < 503 then
                    (74#32, 15#32)
                  else
                    (76#32, 15#32)
            else
              if r.val < 508 then
                if r.val < 506 then
                  if r.val < 505 then
                    (84#32, 15#32)
                  else
                    (86#32, 15#32)
                else
                  if r.val < 507 then
                    (88#32, 15#32)
                  else
                    (90#32, 15#32)
              else
                if r.val < 510 then
                  if r.val < 509 then
                    (98#32, 15#32)
                  else
                    (100#32, 15#32)
                else
                  if r.val < 511 then
                    (102#32, 15#32)
                  else
                    (104#32, 15#32)
def k0_mult4 (i : grid0.Coords) : BitVec 32 :=
  let c120_i32_165 : BitVec 32 := 120#32
  let c0_i32_164 : BitVec 32 := 0#32
  let arg1 : BitVec 32 := BitVec.ofNat 32 (i 1).val
  let c16_i32_161 : BitVec 32 := 16#32
  let v263 : BitVec 32 := Scalar.muli arg1 c16_i32_161
  let c1_i32_162 : BitVec 32 := 1#32
  let v264 : BitVec 32 := Scalar.addi v263 c1_i32_162
  let c4_i32_163 : BitVec 32 := 4#32
  let v265 : BitVec 32 := Scalar.subi v264 c4_i32_163
  let v266 : BitVec 32 := Scalar.maxsi c0_i32_164 v265
  let v267 : BitVec 32 := Scalar.minsi c120_i32_165 v266
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v269 : BitVec 32 := Scalar.subi v267 v3
  let c64_i32_166 : BitVec 32 := 64#32
  let v270 : BitVec 32 := Scalar.muli v269 c64_i32_166
  v270
def k0_mult5 (i : grid0.Coords) : BitVec 32 :=
  let c120_i32_358 : BitVec 32 := 120#32
  let c0_i32_357 : BitVec 32 := 0#32
  let arg1 : BitVec 32 := BitVec.ofNat 32 (i 1).val
  let c16_i32_354 : BitVec 32 := 16#32
  let v511 : BitVec 32 := Scalar.muli arg1 c16_i32_354
  let c2_i32_355 : BitVec 32 := 2#32
  let v512 : BitVec 32 := Scalar.addi v511 c2_i32_355
  let c4_i32_356 : BitVec 32 := 4#32
  let v513 : BitVec 32 := Scalar.subi v512 c4_i32_356
  let v514 : BitVec 32 := Scalar.maxsi c0_i32_357 v513
  let v515 : BitVec 32 := Scalar.minsi c120_i32_358 v514
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v517 : BitVec 32 := Scalar.subi v515 v3
  let c64_i32_359 : BitVec 32 := 64#32
  let v518 : BitVec 32 := Scalar.muli v517 c64_i32_359
  v518
def k0_mult6 (i : grid0.Coords) : BitVec 32 :=
  let c120_i32_551 : BitVec 32 := 120#32
  let c0_i32_550 : BitVec 32 := 0#32
  let arg1 : BitVec 32 := BitVec.ofNat 32 (i 1).val
  let c16_i32_548 : BitVec 32 := 16#32
  let v759 : BitVec 32 := Scalar.muli arg1 c16_i32_548
  let c3_i32 : BitVec 32 := 3#32
  let v760 : BitVec 32 := Scalar.addi v759 c3_i32
  let c4_i32_549 : BitVec 32 := 4#32
  let v761 : BitVec 32 := Scalar.subi v760 c4_i32_549
  let v762 : BitVec 32 := Scalar.maxsi c0_i32_550 v761
  let v763 : BitVec 32 := Scalar.minsi c120_i32_551 v762
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v765 : BitVec 32 := Scalar.subi v763 v3
  let c64_i32_552 : BitVec 32 := 64#32
  let v766 : BitVec 32 := Scalar.muli v765 c64_i32_552
  v766
def k0_mult7 (i : grid0.Coords) : BitVec 32 :=
  let c120_i32_843 : BitVec 32 := 120#32
  let c0_i32_842 : BitVec 32 := 0#32
  let arg1 : BitVec 32 := BitVec.ofNat 32 (i 1).val
  let c16_i32_839 : BitVec 32 := 16#32
  let v1258 : BitVec 32 := Scalar.muli arg1 c16_i32_839
  let c4_i32_840 : BitVec 32 := 4#32
  let v1259 : BitVec 32 := Scalar.addi v1258 c4_i32_840
  let c4_i32_841 : BitVec 32 := 4#32
  let v1260 : BitVec 32 := Scalar.subi v1259 c4_i32_841
  let v1261 : BitVec 32 := Scalar.maxsi c0_i32_842 v1260
  let v1262 : BitVec 32 := Scalar.minsi c120_i32_843 v1261
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v1264 : BitVec 32 := Scalar.subi v1262 v3
  let c64_i32_844 : BitVec 32 := 64#32
  let v1265 : BitVec 32 := Scalar.muli v1264 c64_i32_844
  v1265
def k0_mult8 (i : grid0.Coords) : BitVec 32 :=
  let c120_i32_1036 : BitVec 32 := 120#32
  let c0_i32_1035 : BitVec 32 := 0#32
  let arg1 : BitVec 32 := BitVec.ofNat 32 (i 1).val
  let c16_i32_1033 : BitVec 32 := 16#32
  let v1506 : BitVec 32 := Scalar.muli arg1 c16_i32_1033
  let c5_i32 : BitVec 32 := 5#32
  let v1507 : BitVec 32 := Scalar.addi v1506 c5_i32
  let c4_i32_1034 : BitVec 32 := 4#32
  let v1508 : BitVec 32 := Scalar.subi v1507 c4_i32_1034
  let v1509 : BitVec 32 := Scalar.maxsi c0_i32_1035 v1508
  let v1510 : BitVec 32 := Scalar.minsi c120_i32_1036 v1509
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v1512 : BitVec 32 := Scalar.subi v1510 v3
  let c64_i32_1037 : BitVec 32 := 64#32
  let v1513 : BitVec 32 := Scalar.muli v1512 c64_i32_1037
  v1513
def k0_mult9 (i : grid0.Coords) : BitVec 32 :=
  let c120_i32_1229 : BitVec 32 := 120#32
  let c0_i32_1228 : BitVec 32 := 0#32
  let arg1 : BitVec 32 := BitVec.ofNat 32 (i 1).val
  let c16_i32_1225 : BitVec 32 := 16#32
  let v1754 : BitVec 32 := Scalar.muli arg1 c16_i32_1225
  let c6_i32_1226 : BitVec 32 := 6#32
  let v1755 : BitVec 32 := Scalar.addi v1754 c6_i32_1226
  let c4_i32_1227 : BitVec 32 := 4#32
  let v1756 : BitVec 32 := Scalar.subi v1755 c4_i32_1227
  let v1757 : BitVec 32 := Scalar.maxsi c0_i32_1228 v1756
  let v1758 : BitVec 32 := Scalar.minsi c120_i32_1229 v1757
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v1760 : BitVec 32 := Scalar.subi v1758 v3
  let c64_i32_1230 : BitVec 32 := 64#32
  let v1761 : BitVec 32 := Scalar.muli v1760 c64_i32_1230
  v1761
def k0_mult10 (i : grid0.Coords) : BitVec 32 :=
  let c120_i32_1422 : BitVec 32 := 120#32
  let c0_i32_1421 : BitVec 32 := 0#32
  let arg1 : BitVec 32 := BitVec.ofNat 32 (i 1).val
  let c16_i32_1419 : BitVec 32 := 16#32
  let v2002 : BitVec 32 := Scalar.muli arg1 c16_i32_1419
  let c7_i32 : BitVec 32 := 7#32
  let v2003 : BitVec 32 := Scalar.addi v2002 c7_i32
  let c4_i32_1420 : BitVec 32 := 4#32
  let v2004 : BitVec 32 := Scalar.subi v2003 c4_i32_1420
  let v2005 : BitVec 32 := Scalar.maxsi c0_i32_1421 v2004
  let v2006 : BitVec 32 := Scalar.minsi c120_i32_1422 v2005
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v2008 : BitVec 32 := Scalar.subi v2006 v3
  let c64_i32_1423 : BitVec 32 := 64#32
  let v2009 : BitVec 32 := Scalar.muli v2008 c64_i32_1423
  v2009
def k0_mult11 (i : grid0.Coords) : BitVec 32 :=
  let c120_i32_1714 : BitVec 32 := 120#32
  let c0_i32_1713 : BitVec 32 := 0#32
  let arg1 : BitVec 32 := BitVec.ofNat 32 (i 1).val
  let c16_i32_1710 : BitVec 32 := 16#32
  let v2501 : BitVec 32 := Scalar.muli arg1 c16_i32_1710
  let c8_i32_1711 : BitVec 32 := 8#32
  let v2502 : BitVec 32 := Scalar.addi v2501 c8_i32_1711
  let c4_i32_1712 : BitVec 32 := 4#32
  let v2503 : BitVec 32 := Scalar.subi v2502 c4_i32_1712
  let v2504 : BitVec 32 := Scalar.maxsi c0_i32_1713 v2503
  let v2505 : BitVec 32 := Scalar.minsi c120_i32_1714 v2504
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v2507 : BitVec 32 := Scalar.subi v2505 v3
  let c64_i32_1715 : BitVec 32 := 64#32
  let v2508 : BitVec 32 := Scalar.muli v2507 c64_i32_1715
  v2508
def k0_mult12 (i : grid0.Coords) : BitVec 32 :=
  let c120_i32_1906 : BitVec 32 := 120#32
  let c0_i32_1905 : BitVec 32 := 0#32
  let arg1 : BitVec 32 := BitVec.ofNat 32 (i 1).val
  let c16_i32_1903 : BitVec 32 := 16#32
  let v2749 : BitVec 32 := Scalar.muli arg1 c16_i32_1903
  let c9_i32 : BitVec 32 := 9#32
  let v2750 : BitVec 32 := Scalar.addi v2749 c9_i32
  let c4_i32_1904 : BitVec 32 := 4#32
  let v2751 : BitVec 32 := Scalar.subi v2750 c4_i32_1904
  let v2752 : BitVec 32 := Scalar.maxsi c0_i32_1905 v2751
  let v2753 : BitVec 32 := Scalar.minsi c120_i32_1906 v2752
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v2755 : BitVec 32 := Scalar.subi v2753 v3
  let c64_i32_1907 : BitVec 32 := 64#32
  let v2756 : BitVec 32 := Scalar.muli v2755 c64_i32_1907
  v2756
def k0_mult13 (i : grid0.Coords) : BitVec 32 :=
  let c120_i32_2098 : BitVec 32 := 120#32
  let c0_i32_2097 : BitVec 32 := 0#32
  let arg1 : BitVec 32 := BitVec.ofNat 32 (i 1).val
  let c16_i32_2095 : BitVec 32 := 16#32
  let v2997 : BitVec 32 := Scalar.muli arg1 c16_i32_2095
  let c10_i32 : BitVec 32 := 10#32
  let v2998 : BitVec 32 := Scalar.addi v2997 c10_i32
  let c4_i32_2096 : BitVec 32 := 4#32
  let v2999 : BitVec 32 := Scalar.subi v2998 c4_i32_2096
  let v3000 : BitVec 32 := Scalar.maxsi c0_i32_2097 v2999
  let v3001 : BitVec 32 := Scalar.minsi c120_i32_2098 v3000
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v3003 : BitVec 32 := Scalar.subi v3001 v3
  let c64_i32_2099 : BitVec 32 := 64#32
  let v3004 : BitVec 32 := Scalar.muli v3003 c64_i32_2099
  v3004
def k0_mult14 (i : grid0.Coords) : BitVec 32 :=
  let c120_i32_2290 : BitVec 32 := 120#32
  let c0_i32_2289 : BitVec 32 := 0#32
  let arg1 : BitVec 32 := BitVec.ofNat 32 (i 1).val
  let c16_i32_2287 : BitVec 32 := 16#32
  let v3245 : BitVec 32 := Scalar.muli arg1 c16_i32_2287
  let c11_i32 : BitVec 32 := 11#32
  let v3246 : BitVec 32 := Scalar.addi v3245 c11_i32
  let c4_i32_2288 : BitVec 32 := 4#32
  let v3247 : BitVec 32 := Scalar.subi v3246 c4_i32_2288
  let v3248 : BitVec 32 := Scalar.maxsi c0_i32_2289 v3247
  let v3249 : BitVec 32 := Scalar.minsi c120_i32_2290 v3248
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v3251 : BitVec 32 := Scalar.subi v3249 v3
  let c64_i32_2291 : BitVec 32 := 64#32
  let v3252 : BitVec 32 := Scalar.muli v3251 c64_i32_2291
  v3252
def k0_mult15 (i : grid0.Coords) : BitVec 32 :=
  let c120_i32_2581 : BitVec 32 := 120#32
  let c0_i32_2580 : BitVec 32 := 0#32
  let arg1 : BitVec 32 := BitVec.ofNat 32 (i 1).val
  let c16_i32_2578 : BitVec 32 := 16#32
  let v3744 : BitVec 32 := Scalar.muli arg1 c16_i32_2578
  let c12_i32 : BitVec 32 := 12#32
  let v3745 : BitVec 32 := Scalar.addi v3744 c12_i32
  let c4_i32_2579 : BitVec 32 := 4#32
  let v3746 : BitVec 32 := Scalar.subi v3745 c4_i32_2579
  let v3747 : BitVec 32 := Scalar.maxsi c0_i32_2580 v3746
  let v3748 : BitVec 32 := Scalar.minsi c120_i32_2581 v3747
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v3750 : BitVec 32 := Scalar.subi v3748 v3
  let c64_i32_2582 : BitVec 32 := 64#32
  let v3751 : BitVec 32 := Scalar.muli v3750 c64_i32_2582
  v3751
def k0_mult16 (i : grid0.Coords) : BitVec 32 :=
  let c120_i32_2773 : BitVec 32 := 120#32
  let c0_i32_2772 : BitVec 32 := 0#32
  let arg1 : BitVec 32 := BitVec.ofNat 32 (i 1).val
  let c16_i32_2770 : BitVec 32 := 16#32
  let v3992 : BitVec 32 := Scalar.muli arg1 c16_i32_2770
  let c13_i32 : BitVec 32 := 13#32
  let v3993 : BitVec 32 := Scalar.addi v3992 c13_i32
  let c4_i32_2771 : BitVec 32 := 4#32
  let v3994 : BitVec 32 := Scalar.subi v3993 c4_i32_2771
  let v3995 : BitVec 32 := Scalar.maxsi c0_i32_2772 v3994
  let v3996 : BitVec 32 := Scalar.minsi c120_i32_2773 v3995
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v3998 : BitVec 32 := Scalar.subi v3996 v3
  let c64_i32_2774 : BitVec 32 := 64#32
  let v3999 : BitVec 32 := Scalar.muli v3998 c64_i32_2774
  v3999
def k0_mult17 (i : grid0.Coords) : BitVec 32 :=
  let c120_i32_2966 : BitVec 32 := 120#32
  let c0_i32_2965 : BitVec 32 := 0#32
  let arg1 : BitVec 32 := BitVec.ofNat 32 (i 1).val
  let c16_i32_2962 : BitVec 32 := 16#32
  let v4240 : BitVec 32 := Scalar.muli arg1 c16_i32_2962
  let c14_i32_2963 : BitVec 32 := 14#32
  let v4241 : BitVec 32 := Scalar.addi v4240 c14_i32_2963
  let c4_i32_2964 : BitVec 32 := 4#32
  let v4242 : BitVec 32 := Scalar.subi v4241 c4_i32_2964
  let v4243 : BitVec 32 := Scalar.maxsi c0_i32_2965 v4242
  let v4244 : BitVec 32 := Scalar.minsi c120_i32_2966 v4243
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v4246 : BitVec 32 := Scalar.subi v4244 v3
  let c64_i32_2967 : BitVec 32 := 64#32
  let v4247 : BitVec 32 := Scalar.muli v4246 c64_i32_2967
  v4247
def k0_mult18 (i : grid0.Coords) : BitVec 32 :=
  let c120_i32_3158 : BitVec 32 := 120#32
  let c0_i32_3157 : BitVec 32 := 0#32
  let arg1 : BitVec 32 := BitVec.ofNat 32 (i 1).val
  let c16_i32_3155 : BitVec 32 := 16#32
  let v4488 : BitVec 32 := Scalar.muli arg1 c16_i32_3155
  let c15_i32 : BitVec 32 := 15#32
  let v4489 : BitVec 32 := Scalar.addi v4488 c15_i32
  let c4_i32_3156 : BitVec 32 := 4#32
  let v4490 : BitVec 32 := Scalar.subi v4489 c4_i32_3156
  let v4491 : BitVec 32 := Scalar.maxsi c0_i32_3157 v4490
  let v4492 : BitVec 32 := Scalar.minsi c120_i32_3158 v4491
  let c104_i32 : BitVec 32 := 104#32
  let c0_i32 : BitVec 32 := 0#32
  let c16_i32 : BitVec 32 := 16#32
  let v0 : BitVec 32 := Scalar.muli arg1 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v4494 : BitVec 32 := Scalar.subi v4492 v3
  let c64_i32_3159 : BitVec 32 := 64#32
  let v4495 : BitVec 32 := Scalar.muli v4494 c64_i32_3159
  v4495
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c104_i32 : BitVec 32 := 104#32
  let v2 : BitVec 32 := Scalar.maxsi c0_i32 v1
  let v3 : BitVec 32 := Scalar.minsi c104_i32 v2
  let c64_i32 : BitVec 32 := 64#32
  let v4 : BitVec 32 := Scalar.muli v3 c64_i32
  let v5 : BitVec 32 := v4
  let c0_i32_0 : BitVec 32 := 0#32
  let c0_i32_1 : BitVec 32 := 0#32
  ![arg0.toNat, v5.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c104_i32 : BitVec 32 := 104#32
  let v2 : BitVec 32 := Scalar.maxsi c0_i32 v1
  let v3 : BitVec 32 := Scalar.minsi c104_i32 v2
  let c64_i32 : BitVec 32 := 64#32
  let v4 : BitVec 32 := Scalar.muli v3 c64_i32
  let v5 : BitVec 32 := v4
  let c0_i32_0 : BitVec 32 := 0#32
  let c0_i32_1 : BitVec 32 := 0#32
  ![arg0.toNat, v5.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S112x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x512 : Shape := ⟨3, ![2, 8192, 512]⟩
abbrev S8x15x31 : Shape := ⟨3, ![8, 15, 31]⟩
abbrev S2x8192x8x64 : Shape := ⟨4, ![2, 8192, 8, 64]⟩
abbrev S2x128x64x8x64 : Shape := ⟨5, ![2, 128, 64, 8, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S2x128x8x64x8x64 : Shape := ⟨6, ![2, 128, 8, 64, 8, 64]⟩
abbrev S2x128x512x8x64 : Shape := ⟨5, ![2, 128, 512, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x1x64 : Shape := ⟨3, ![64, 1, 64]⟩
abbrev S64x8x64 : Shape := ⟨3, ![64, 8, 64]⟩
abbrev S64x512 : Shape := ⟨2, ![64, 512]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S8x128x64x512 : Shape := ⟨4, ![8, 128, 64, 512]⟩
abbrev S2x8x128x64x512 : Shape := ⟨5, ![2, 8, 128, 64, 512]⟩
abbrev S1x8x128x64x512 : Shape := ⟨5, ![1, 8, 128, 64, 512]⟩
abbrev S2x8x128x64 : Shape := ⟨4, ![2, 8, 128, 64]⟩
abbrev S2x8x128x64x1 : Shape := ⟨5, ![2, 8, 128, 64, 1]⟩
abbrev S2x128x8x64x64 : Shape := ⟨5, ![2, 128, 8, 64, 64]⟩

abbrev nBuf : Space → Nat
  | .hbm => 152
  | .vmem => 0
  | .smem => 0
  | _ => 0

abbrev hbmTy0_0 (i : Nat) : BufTy := match i % 128 with
  | 0 => ⟨S2x8192x512, .f32⟩
  | 1 => ⟨S2x8192x512, .f32⟩
  | 2 => ⟨S2x8192x512, .f32⟩
  | 3 => ⟨S8x15x31, .f32⟩
  | 4 => ⟨S2x8192x8x64, .f32⟩
  | 5 => ⟨S2x8192x8x64, .f32⟩
  | 6 => ⟨S2x8192x8x64, .f32⟩
  | 7 => ⟨S2x128x64x8x64, .f32⟩
  | 8 => ⟨S2x128x64x8x64, .f32⟩
  | 9 => ⟨S2x128x64x8x64, .f32⟩
  | 10 => ⟨S128, .i32⟩
  | 11 => ⟨S_, .i32⟩
  | 12 => ⟨S128, .i32⟩
  | 13 => ⟨S128, .i32⟩
  | 14 => ⟨S_, .i32⟩
  | 15 => ⟨S_, .i32⟩
  | 16 => ⟨S_, .i32⟩
  | 17 => ⟨S128, .i32⟩
  | 18 => ⟨S128, .i32⟩
  | 19 => ⟨S_, .i32⟩
  | 20 => ⟨S128, .i32⟩
  | 21 => ⟨S128, .i32⟩
  | 22 => ⟨S128x1, .i32⟩
  | 23 => ⟨S8, .i32⟩
  | 24 => ⟨S1x8, .i32⟩
  | 25 => ⟨S128x8, .i32⟩
  | 26 => ⟨S128x8, .i32⟩
  | 27 => ⟨S128x8, .i32⟩
  | 28 => ⟨S_, .i32⟩
  | 29 => ⟨S128x8, .i32⟩
  | 30 => ⟨S128x8, .i1⟩
  | 31 => ⟨S_, .i32⟩
  | 32 => ⟨S128x8, .i32⟩
  | 33 => ⟨S128x8, .i32⟩
  | 34 => ⟨S128x8, .i32⟩
  | 35 => ⟨S128x8x1, .i32⟩
  | 36 => ⟨S2x128x8x64x8x64, .f32⟩
  | 37 => ⟨S2x128x512x8x64, .f32⟩
  | 38 => ⟨S_, .i32⟩
  | 39 => ⟨S128x8, .i32⟩
  | 40 => ⟨S128x8, .i1⟩
  | 41 => ⟨S_, .i32⟩
  | 42 => ⟨S128x8, .i32⟩
  | 43 => ⟨S128x8, .i32⟩
  | 44 => ⟨S128x8, .i32⟩
  | 45 => ⟨S128x8x1, .i32⟩
  | 46 => ⟨S2x128x8x64x8x64, .f32⟩
  | 47 => ⟨S2x128x512x8x64, .f32⟩
  | 48 => ⟨S64, .i32⟩
  | 49 => ⟨S_, .i32⟩
  | 50 => ⟨S64, .i32⟩
  | 51 => ⟨S64, .i32⟩
  | 52 => ⟨S_, .i32⟩
  | 53 => ⟨S_, .i32⟩
  | 54 => ⟨S_, .i32⟩
  | 55 => ⟨S64, .i32⟩
  | 56 => ⟨S64, .i32⟩
  | 57 => ⟨S_, .i32⟩
  | 58 => ⟨S64, .i32⟩
  | 59 => ⟨S64, .i32⟩
  | 60 => ⟨S1x64, .i32⟩
  | 61 => ⟨S64x1, .i32⟩
  | 62 => ⟨S64x64, .i32⟩
  | 63 => ⟨S64x64, .i32⟩
  | 64 => ⟨S64x64, .i1⟩
  | 65 => ⟨S1x64, .i32⟩
  | 66 => ⟨S64x1, .i32⟩
  | 67 => ⟨S_, .i32⟩
  | 68 => ⟨S64x1, .i32⟩
  | 69 => ⟨S64x1, .i32⟩
  | 70 => ⟨S64x64, .i32⟩
  | 71 => ⟨S64x64, .i32⟩
  | 72 => ⟨S64x64, .i1⟩
  | 73 => ⟨S64x64, .i1⟩
  | 74 => ⟨S64x1x64, .i1⟩
  | 75 => ⟨S64x8x64, .i1⟩
  | 76 => ⟨S64x512, .i1⟩
  | 77 => ⟨S128x1, .i32⟩
  | 78 => ⟨S128x8, .i32⟩
  | 79 => ⟨S128x8, .i32⟩
  | 80 => ⟨S_, .i32⟩
  | 81 => ⟨S128x8, .i32⟩
  | 82 => ⟨S128x8, .i32⟩
  | 83 => ⟨S1x64, .i32⟩
  | 84 => ⟨S64x1, .i32⟩
  | 85 => ⟨S64x64, .i32⟩
  | 86 => ⟨S64x64, .i32⟩
  | 87 => ⟨S64x64, .i32⟩
  | 88 => ⟨S_, .i32⟩
  | 89 => ⟨S64x64, .i32⟩
  | 90 => ⟨S64x64, .i32⟩
  | 91 => ⟨S_, .i32⟩
  | 92 => ⟨S_, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S128x1x8x1, .i32⟩
  | 100 => ⟨S1x64x1x64, .i32⟩
  | 101 => ⟨S_, .i32⟩
  | 102 => ⟨S128x1x8x1, .i32⟩
  | 103 => ⟨S128x1x8x1, .i1⟩
  | 104 => ⟨S_, .i32⟩
  | 105 => ⟨S128x1x8x1, .i32⟩
  | 106 => ⟨S128x1x8x1, .i32⟩
  | 107 => ⟨S128x1x8x1, .i32⟩
  | 108 => ⟨S_, .i32⟩
  | 109 => ⟨S1x64x1x64, .i32⟩
  | 110 => ⟨S1x64x1x64, .i1⟩
  | 111 => ⟨S_, .i32⟩
  | 112 => ⟨S1x64x1x64, .i32⟩
  | 113 => ⟨S1x64x1x64, .i32⟩
  | 114 => ⟨S1x64x1x64, .i32⟩
  | 115 => ⟨S128x64x8x64, .i32⟩
  | 116 => ⟨S128x64x8x64, .i32⟩
  | 117 => ⟨S128x64x8x64x1, .i32⟩
  | 118 => ⟨S128x64x8x64x1, .i32⟩
  | 119 => ⟨S128x64x8x64x2, .i32⟩
  | 120 => ⟨S8x128x64x8x64, .f32⟩
  | 121 => ⟨S8x128x64x512, .f32⟩
  | 122 => ⟨S2x8x128x64x512, .f32⟩
  | 123 => ⟨S_, .f32⟩
  | 124 => ⟨S2x8x128x64x512, .f32⟩
  | 125 => ⟨S2x8x128x64x512, .f32⟩
  | 126 => ⟨S1x8x128x64x512, .f32⟩
  | 127 => ⟨S2x8x128x64x512, .f32⟩
  | _ => ⟨S2x8192x512, .f32⟩

abbrev hbmTy0_1 (i : Nat) : BufTy := match i % 128 with
  | 0 => ⟨S2x8x128x64x512, .f32⟩
  | 1 => ⟨S_, .f32⟩
  | 2 => ⟨S_, .f32⟩
  | 3 => ⟨S2x8x128x64x512, .i1⟩
  | 4 => ⟨S2x8x128x64x512, .f32⟩
  | 5 => ⟨S2x8x128x64x512, .f32⟩
  | 6 => ⟨S_, .f32⟩
  | 7 => ⟨S2x8x128x64, .f32⟩
  | 8 => ⟨S_, .f32⟩
  | 9 => ⟨S2x8x128x64, .f32⟩
  | 10 => ⟨S2x8x128x64, .f32⟩
  | 11 => ⟨S2x8x128x64x1, .f32⟩
  | 12 => ⟨S2x8x128x64x512, .f32⟩
  | 13 => ⟨S2x8x128x64x512, .f32⟩
  | 14 => ⟨S2x8x128x64x512, .f32⟩
  | 15 => ⟨S_, .f32⟩
  | 16 => ⟨S2x8x128x64, .f32⟩
  | 17 => ⟨S2x8x128x64x1, .f32⟩
  | 18 => ⟨S2x8x128x64x512, .f32⟩
  | 19 => ⟨S2x8x128x64x512, .f32⟩
  | 20 => ⟨S2x128x8x64x64, .f32⟩
  | 21 => ⟨S2x128x64x8x64, .f32⟩
  | 22 => ⟨S2x8192x512, .f32⟩
  | 23 => ⟨S2x8192x512, .bf16⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_c_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_c_13 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_cst_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_21 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩

abbrev nD : Nat := 1
abbrev τ : Topo := Topo.v7x

variable {F : FTy → Type} [FloatOps F]
-- ==== Tail.lean ====
abbrev S2x8192x1024 : Shape := ⟨3, ![2, 8192, 1024]⟩
abbrev S2x8192x512 : Shape := ⟨3, ![2, 8192, 512]⟩
abbrev S2x8192x256 : Shape := ⟨3, ![2, 8192, 256]⟩
abbrev S2x6144 : Shape := ⟨2, ![2, 6144]⟩
abbrev S1024 : Shape := ⟨1, ![1024]⟩
abbrev S1024x5888 : Shape := ⟨2, ![1024, 5888]⟩
abbrev S2048 : Shape := ⟨1, ![2048]⟩
abbrev S512x1024 : Shape := ⟨2, ![512, 1024]⟩
abbrev S256x1024 : Shape := ⟨2, ![256, 1024]⟩
abbrev S1024x1024 : Shape := ⟨2, ![1024, 1024]⟩
abbrev S1024x5632 : Shape := ⟨2, ![1024, 5632]⟩
abbrev S2816x1024 : Shape := ⟨2, ![2816, 1024]⟩
abbrev S2x6x1024 : Shape := ⟨3, ![2, 6, 1024]⟩
abbrev S1x1024 : Shape := ⟨2, ![1, 1024]⟩
abbrev S1x2048 : Shape := ⟨2, ![1, 2048]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x6x1024 : Shape := ⟨3, ![1, 6, 1024]⟩
abbrev S1024x256 : Shape := ⟨2, ![1024, 256]⟩
abbrev S1024x2816 : Shape := ⟨2, ![1024, 2816]⟩
abbrev S2 : Shape := ⟨1, ![2]⟩
abbrev S1 : Shape := ⟨1, ![1]⟩
abbrev S_ : Shape := ⟨0, ![]⟩
abbrev S6x1024 : Shape := ⟨2, ![6, 1024]⟩
abbrev S1x512x1024 : Shape := ⟨3, ![1, 512, 1024]⟩
abbrev S512 : Shape := ⟨1, ![512]⟩
abbrev S512x1 : Shape := ⟨2, ![512, 1]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩
abbrev S1x256 : Shape := ⟨2, ![1, 256]⟩
abbrev S256x256 : Shape := ⟨2, ![256, 256]⟩
abbrev S512x2816 : Shape := ⟨2, ![512, 2816]⟩

abbrev nBuf : Space → Nat
  | .hbm => 26
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x256, .f32⟩
  | .hbm, ⟨3, _⟩ => ⟨S2x6144, .f32⟩
  | .hbm, ⟨4, _⟩ => ⟨S1024, .f32⟩
  | .hbm, ⟨5, _⟩ => ⟨S1024, .f32⟩
  | .hbm, ⟨6, _⟩ => ⟨S1024x5888, .f32⟩
  | .hbm, ⟨7, _⟩ => ⟨S2048, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S2x8192x512, .bf16⟩
  | .hbm, ⟨14, _⟩ => ⟨S2x8192x256, .bf16⟩
  | .hbm, ⟨15, _⟩ => ⟨S2x6x1024, .f32⟩
  | .hbm, ⟨16, _⟩ => ⟨S1x1024, .f32⟩
  | .hbm, ⟨17, _⟩ => ⟨S1x1024, .f32⟩
  | .hbm, ⟨18, _⟩ => ⟨S1024x5888, .bf16⟩
  | .hbm, ⟨19, _⟩ => ⟨S1x2048, .f32⟩
  | .hbm, ⟨20, _⟩ => ⟨S512x1024, .bf16⟩
  | .hbm, ⟨21, _⟩ => ⟨S256x1024, .bf16⟩
  | .hbm, ⟨22, _⟩ => ⟨S1024x1024, .bf16⟩
  | .hbm, ⟨23, _⟩ => ⟨S1024x5632, .bf16⟩
  | .hbm, ⟨24, _⟩ => ⟨S2816x1024, .bf16⟩
  | .hbm, ⟨25, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S512x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1x1024x1024, .f32⟩
  | .local _ .vmem, ⟨23, _⟩ => ⟨S1x1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x2816, .bf16⟩
  | .local _ .vmem, ⟨28, _⟩ => ⟨S1024x5632, .bf16⟩
  | .local _ .vmem, ⟨29, _⟩ => ⟨S2816x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let c0_i32_0 : BitVec 32 := 0#32
  ![c0_i32.toNat, c15_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![c0_i32.toNat, c16_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![c0_i32.toNat, c17_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c18_i32 : BitVec 32 := 18#32
  let c0_i32_0 : BitVec 32 := 0#32
  ![c0_i32.toNat, c18_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c19_i32 : BitVec 32 := 19#32
  let c0_i32_0 : BitVec 32 := 0#32
  ![c0_i32.toNat, c19_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![c0_i32.toNat, c20_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c21_i32 : BitVec 32 := 21#32
  let c0_i32_0 : BitVec 32 := 0#32
  ![c0_i32.toNat, c21_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c22_i32 : BitVec 32 := 22#32
  let c0_i32_0 : BitVec 32 := 0#32
  ![c0_i32.toNat, c22_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== TailReferenceIdeal.lean ====
abbrev S2x8192x1024 : Shape := ⟨3, ![2, 8192, 1024]⟩
abbrev S2x8192x512 : Shape := ⟨3, ![2, 8192, 512]⟩
abbrev S2x8192x256 : Shape := ⟨3, ![2, 8192, 256]⟩
abbrev S2x6144 : Shape := ⟨2, ![2, 6144]⟩
abbrev S1024 : Shape := ⟨1, ![1024]⟩
abbrev S1024x5888 : Shape := ⟨2, ![1024, 5888]⟩
abbrev S2048 : Shape := ⟨1, ![2048]⟩
abbrev S512x1024 : Shape := ⟨2, ![512, 1024]⟩
abbrev S256x1024 : Shape := ⟨2, ![256, 1024]⟩
abbrev S1024x1024 : Shape := ⟨2, ![1024, 1024]⟩
abbrev S1024x5632 : Shape := ⟨2, ![1024, 5632]⟩
abbrev S2816x1024 : Shape := ⟨2, ![2816, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5888 : Shape := ⟨3, ![2, 8192, 5888]⟩
abbrev S2x8192x2048 : Shape := ⟨3, ![2, 8192, 2048]⟩
abbrev S1x1x2048 : Shape := ⟨3, ![1, 1, 2048]⟩
abbrev S2x8192x5632 : Shape := ⟨3, ![2, 8192, 5632]⟩
abbrev S2x8192x2816 : Shape := ⟨3, ![2, 8192, 2816]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x256, .f32⟩
  | .hbm, ⟨3, _⟩ => ⟨S2x6144, .f32⟩
  | .hbm, ⟨4, _⟩ => ⟨S1024, .f32⟩
  | .hbm, ⟨5, _⟩ => ⟨S1024, .f32⟩
  | .hbm, ⟨6, _⟩ => ⟨S1024x5888, .f32⟩
  | .hbm, ⟨7, _⟩ => ⟨S2048, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x1x1024, .f32⟩
  | .hbm, ⟨43, _⟩ => ⟨S2x1x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x5888, .f32⟩
  | .hbm, ⟨49, _⟩ => ⟨S2x8192x2048, .f32⟩
  | .hbm, ⟨50, _⟩ => ⟨S1x1x2048, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S_, .f32⟩
  | .hbm, ⟨56, _⟩ => ⟨S2x8192x2048, .f32⟩
  | .hbm, ⟨57, _⟩ => ⟨S2x8192x2048, .f32⟩
  | .hbm, ⟨58, _⟩ => ⟨S_, .f32⟩
  | .hbm, ⟨59, _⟩ => ⟨S2x8192x2048, .f32⟩
  | .hbm, ⟨60, _⟩ => ⟨S2x8192x2048, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S_, .f32⟩
  | .hbm, ⟨89, _⟩ => ⟨S2x1x1024, .f32⟩
  | .hbm, ⟨90, _⟩ => ⟨S2x1x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S2x8192x5632, .f32⟩
  | .hbm, ⟨96, _⟩ => ⟨S2x8192x2816, .f32⟩
  | .hbm, ⟨97, _⟩ => ⟨S2x8192x2816, .f32⟩
  | .hbm, ⟨98, _⟩ => ⟨S2x8192x2816, .f32⟩
  | .hbm, ⟨99, _⟩ => ⟨S2x8192x2816, .f32⟩
  | .hbm, ⟨100, _⟩ => ⟨S_, .f32⟩
  | .hbm, ⟨101, _⟩ => ⟨S2x8192x2816, .f32⟩
  | .hbm, ⟨102, _⟩ => ⟨S2x8192x2816, .f32⟩
  | .hbm, ⟨103, _⟩ => ⟨S_, .f32⟩
  | .hbm, ⟨104, _⟩ => ⟨S2x8192x2816, .f32⟩
  | .hbm, ⟨105, _⟩ => ⟨S2x8192x2816, .f32⟩
  | .hbm, ⟨106, _⟩ => ⟨S2x8192x2816, .f32⟩
  | .hbm, ⟨107, _⟩ => ⟨S2x8192x2816, .f32⟩
  | .hbm, ⟨108, _⟩ => ⟨S2x8192x1024, .f32⟩
  | .hbm, ⟨109, _⟩ => ⟨S2x8192x1024, .f32⟩
  | .hbm, ⟨110, _⟩ => ⟨S2x8192x1024, .f32⟩
  | .hbm, ⟨111, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_8 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Qkv.lean ====
abbrev S2x8192x1024 : Shape := ⟨3, ![2, 8192, 1024]⟩
abbrev S2x6144 : Shape := ⟨2, ![2, 6144]⟩
abbrev S1024 : Shape := ⟨1, ![1024]⟩
abbrev S1024x5888 : Shape := ⟨2, ![1024, 5888]⟩
abbrev S64 : Shape := ⟨1, ![64]⟩
abbrev S512x1024 : Shape := ⟨2, ![512, 1024]⟩
abbrev S256x1024 : Shape := ⟨2, ![256, 1024]⟩
abbrev S1024x1024 : Shape := ⟨2, ![1024, 1024]⟩
abbrev S1024x5632 : Shape := ⟨2, ![1024, 5632]⟩
abbrev S2816x1024 : Shape := ⟨2, ![2816, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S4x256 : Shape := ⟨2, ![4, 256]⟩
abbrev S_ : Shape := ⟨0, ![]⟩
abbrev S256x1 : Shape := ⟨2, ![256, 1]⟩
abbrev S256x256 : Shape := ⟨2, ![256, 256]⟩
abbrev S2x6x1024 : Shape := ⟨3, ![2, 6, 1024]⟩
abbrev S1x1024 : Shape := ⟨2, ![1, 1024]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x8192x512 : Shape := ⟨3, ![2, 8192, 512]⟩
abbrev S2x8192x256 : Shape := ⟨3, ![2, 8192, 256]⟩
abbrev S1x1024x1024 : Shape := ⟨3, ![1, 1024, 1024]⟩
abbrev S1x6x1024 : Shape := ⟨3, ![1, 6, 1024]⟩
abbrev S1024x3840 : Shape := ⟨2, ![1024, 3840]⟩
abbrev S1024x128 : Shape := ⟨2, ![1024, 128]⟩
abbrev S32x1024 : Shape := ⟨2, ![32, 1024]⟩
abbrev S16x1024 : Shape := ⟨2, ![16, 1024]⟩
abbrev S64x1024 : Shape := ⟨2, ![64, 1024]⟩
abbrev S64x5632 : Shape := ⟨2, ![64, 5632]⟩
abbrev S176x1024 : Shape := ⟨2, ![176, 1024]⟩
abbrev S1x1024x512 : Shape := ⟨3, ![1, 1024, 512]⟩
abbrev S1x1024x256 : Shape := ⟨3, ![1, 1024, 256]⟩
abbrev S2x2x1024x128 : Shape := ⟨4, ![2, 2, 1024, 128]⟩
abbrev S2x1024x128 : Shape := ⟨3, ![2, 1024, 128]⟩
abbrev S6x1024 : Shape := ⟨2, ![6, 1024]⟩
abbrev S1024x1 : Shape := ⟨2, ![1024, 1]⟩
abbrev S512x256 : Shape := ⟨2, ![512, 256]⟩
abbrev S1024x512 : Shape := ⟨2, ![1024, 512]⟩
abbrev S512x512 : Shape := ⟨2, ![512, 512]⟩
abbrev S1x512x256 : Shape := ⟨3, ![1, 512, 256]⟩
abbrev S512x128 : Shape := ⟨2, ![512, 128]⟩
abbrev S1x1x512x128 : Shape := ⟨4, ![1, 1, 512, 128]⟩
abbrev S1x1x256x128 : Shape := ⟨4, ![1, 1, 256, 128]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S1024x256 : Shape := ⟨2, ![1024, 256]⟩

abbrev nBuf : Space → Nat
  | .hbm => 112
  | .vmem => 59
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5888, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S1x64, .f32⟩
  | .hbm, ⟨14, _⟩ => ⟨S4x64, .f32⟩
  | .hbm, ⟨15, _⟩ => ⟨S256, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S4x256, .f32⟩
  | .hbm, ⟨30, _⟩ => ⟨S256, .i32⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256x1, .i32⟩
  | .hbm, ⟨50, _⟩ => ⟨S1x256, .i32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S256x256, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .bf16⟩
  | .hbm, ⟨59, _⟩ => ⟨S2x6x1024, .f32⟩
  | .hbm, ⟨60, _⟩ => ⟨S1x1024, .f32⟩
  | .hbm, ⟨61, _⟩ => ⟨S1024x5888, .bf16⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8192, .i32⟩
  | .hbm, ⟨74, _⟩ => ⟨S8192, .f32⟩
  | .hbm, ⟨75, _⟩ => ⟨S8192x1, .f32⟩
  | .hbm, ⟨76, _⟩ => ⟨S1x8, .f32⟩
  | .hbm, ⟨77, _⟩ => ⟨S8192x8, .f32⟩
  | .hbm, ⟨78, _⟩ => ⟨S8192x8, .f32⟩
  | .hbm, ⟨79, _⟩ => ⟨S8192x8, .f32⟩
  | .hbm, ⟨80, _⟩ => ⟨S8192x8, .f32⟩
  | .hbm, ⟨81, _⟩ => ⟨S8192x8, .f32⟩
  | .hbm, ⟨82, _⟩ => ⟨S_, .f32⟩
  | .hbm, ⟨83, _⟩ => ⟨S8192x48, .f32⟩
  | .hbm, ⟨84, _⟩ => ⟨S8192x64, .f32⟩
  | .hbm, ⟨85, _⟩ => ⟨S8192x8, .f32⟩
  | .hbm, ⟨86, _⟩ => ⟨S_, .f32⟩
  | .hbm, ⟨87, _⟩ => ⟨S8192x48, .f32⟩
  | .hbm, ⟨88, _⟩ => ⟨S8192x64, .f32⟩
  | .hbm, ⟨89, _⟩ => ⟨S1x8192x1x64, .f32⟩
  | .hbm, ⟨90, _⟩ => ⟨S1x8192x2x64, .f32⟩
  | .hbm, ⟨91, _⟩ => ⟨S8192x128, .f32⟩
  | .hbm, ⟨92, _⟩ => ⟨S1x8192x1x64, .f32⟩
  | .hbm, ⟨93, _⟩ => ⟨S1x8192x2x64, .f32⟩
  | .hbm, ⟨94, _⟩ => ⟨S8192x128, .f32⟩
  | .hbm, ⟨95, _⟩ => ⟨S2x8192x512, .bf16⟩
  | .hbm, ⟨96, _⟩ => ⟨S2x8192x512, .bf16⟩
  | .hbm, ⟨97, _⟩ => ⟨S2x8192x512, .bf16⟩
  | .hbm, ⟨98, _⟩ => ⟨S2x8192x256, .bf16⟩
  | .hbm, ⟨99, _⟩ => ⟨S2x8192x256, .bf16⟩
  | .hbm, ⟨100, _⟩ => ⟨S2x8192x256, .bf16⟩
  | .hbm, ⟨101, _⟩ => ⟨S2x8192x256, .bf16⟩
  | .hbm, ⟨102, _⟩ => ⟨S2x8192x256, .bf16⟩
  | .hbm, ⟨103, _⟩ => ⟨S2x8192x256, .bf16⟩
  | .hbm, ⟨104, _⟩ => ⟨S2x8192x256, .bf16⟩
  | .hbm, ⟨105, _⟩ => ⟨S2x8192x256, .bf16⟩
  | .hbm, ⟨106, _⟩ => ⟨S2x8192x256, .bf16⟩
  | .hbm, ⟨107, _⟩ => ⟨S512x1024, .bf16⟩
  | .hbm, ⟨108, _⟩ => ⟨S256x1024, .bf16⟩
  | .hbm, ⟨109, _⟩ => ⟨S1024x1024, .bf16⟩
  | .hbm, ⟨110, _⟩ => ⟨S1024x5632, .bf16⟩
  | .hbm, ⟨111, _⟩ => ⟨S2816x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3840, .bf16⟩
  | .local _ .vmem, ⟨6, _⟩ => ⟨S4x256, .f32⟩
  | .local _ .vmem, ⟨7, _⟩ => ⟨S256x256, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S32x1024, .f32⟩
  | .local _ .vmem, ⟨13, _⟩ => ⟨S32x1024, .f32⟩
  | .local _ .vmem, ⟨14, _⟩ => ⟨S16x1024, .f32⟩
  | .local _ .vmem, ⟨15, _⟩ => ⟨S16x1024, .f32⟩
  | .local _ .vmem, ⟨16, _⟩ => ⟨S64x1024, .f32⟩
  | .local _ .vmem, ⟨17, _⟩ => ⟨S64x1024, .f32⟩
  | .local _ .vmem, ⟨18, _⟩ => ⟨S64x5632, .f32⟩
  | .local _ .vmem, ⟨19, _⟩ => ⟨S64x5632, .f32⟩
  | .local _ .vmem, ⟨20, _⟩ => ⟨S176x1024, .f32⟩
  | .local _ .vmem, ⟨21, _⟩ => ⟨S176x1024, .f32⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x256, .bf16⟩
  | .local _ .vmem, ⟨29, _⟩ => ⟨S1x1024x256, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x1024x256, .bf16⟩
  | .local _ .vmem, ⟨33, _⟩ => ⟨S1x1024x256, .bf16⟩
  | .local _ .vmem, ⟨34, _⟩ => ⟨S1x1024x256, .bf16⟩
  | .local _ .vmem, ⟨35, _⟩ => ⟨S1x1024x256, .bf16⟩
  | .local _ .vmem, ⟨36, _⟩ => ⟨S1x1024x256, .bf16⟩
  | .local _ .vmem, ⟨37, _⟩ => ⟨S1x1024x256, .bf16⟩
  | .local _ .vmem, ⟨38, _⟩ => ⟨S1x1024x256, .bf16⟩
  | .local _ .vmem, ⟨39, _⟩ => ⟨S1x1024x256, .bf16⟩
  | .local _ .vmem, ⟨40, _⟩ => ⟨S1x1024x256, .bf16⟩
  | .local _ .vmem, ⟨41, _⟩ => ⟨S1x1024x256, .bf16⟩
  | .local _ .vmem, ⟨42, _⟩ => ⟨S1x1024x256, .bf16⟩
  | .local _ .vmem, ⟨43, _⟩ => ⟨S1x1024x256, .bf16⟩
  | .local _ .vmem, ⟨44, _⟩ => ⟨S1x1024x256, .bf16⟩
  | .local _ .vmem, ⟨45, _⟩ => ⟨S1x1024x256, .bf16⟩
  | .local _ .vmem, ⟨46, _⟩ => ⟨S32x1024, .bf16⟩
  | .local _ .vmem, ⟨47, _⟩ => ⟨S32x1024, .bf16⟩
  | .local _ .vmem, ⟨48, _⟩ => ⟨S16x1024, .bf16⟩
  | .local _ .vmem, ⟨49, _⟩ => ⟨S16x1024, .bf16⟩
  | .local _ .vmem, ⟨50, _⟩ => ⟨S64x1024, .bf16⟩
  | .local _ .vmem, ⟨51, _⟩ => ⟨S64x1024, .bf16⟩
  | .local _ .vmem, ⟨52, _⟩ => ⟨S64x5632, .bf16⟩
  | .local _ .vmem, ⟨53, _⟩ => ⟨S64x5632, .bf16⟩
  | .local _ .vmem, ⟨54, _⟩ => ⟨S176x1024, .bf16⟩
  | .local _ .vmem, ⟨55, _⟩ => ⟨S176x1024, .bf16⟩
  | .local _ .vmem, ⟨56, _⟩ => ⟨S1024x1024, .bf16⟩
  | .local _ .vmem, ⟨57, _⟩ => ⟨S2x2x1024x128, .f32⟩
  | .local _ .vmem, ⟨58, _⟩ => ⟨S2x1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_0 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_1 : Ref sig .tc := ⟨.hbm, 67, rfl⟩
abbrev main_v35 : Ref sig .tc := ⟨.hbm, 68, rfl⟩
abbrev main_v36 : Ref sig .tc := ⟨.hbm, 69, rfl⟩
abbrev main_cst_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_3 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_4 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59_0 : Ref sig .tc := ⟨.hbm, 95, rfl⟩
abbrev main_v59_1 : Ref sig .tc := ⟨.hbm, 96, rfl⟩
abbrev main_v59_2 : Ref sig .tc := ⟨.hbm, 97, rfl⟩
abbrev main_v59_3 : Ref sig .tc := ⟨.hbm, 98, rfl⟩
abbrev main_v59_4 : Ref sig .tc := ⟨.hbm, 99, rfl⟩
abbrev main_v59_5 : Ref sig .tc := ⟨.hbm, 100, rfl⟩
abbrev main_v59_6 : Ref sig .tc := ⟨.hbm, 101, rfl⟩
abbrev main_v59_7 : Ref sig .tc := ⟨.hbm, 102, rfl⟩
abbrev main_v59_8 : Ref sig .tc := ⟨.hbm, 103, rfl⟩
abbrev main_v59_9 : Ref sig .tc := ⟨.hbm, 104, rfl⟩
abbrev main_v59_10 : Ref sig .tc := ⟨.hbm, 105, rfl⟩
abbrev main_v59_11 : Ref sig .tc := ⟨.hbm, 106, rfl⟩
abbrev main_v59_12 : Ref sig .tc := ⟨.hbm, 107, rfl⟩
abbrev main_v59_13 : Ref sig .tc := ⟨.hbm, 108, rfl⟩
abbrev main_v59_14 : Ref sig .tc := ⟨.hbm, 109, rfl⟩
abbrev main_v59_15 : Ref sig .tc := ⟨.hbm, 110, rfl⟩
abbrev main_v59_16 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_stg27_0 : Ref sig .tc := ⟨.vmem, 50, rfl⟩
abbrev cc0_stg27_1 : Ref sig .tc := ⟨.vmem, 51, rfl⟩
abbrev cc0_stg28_0 : Ref sig .tc := ⟨.vmem, 52, rfl⟩
abbrev cc0_stg28_1 : Ref sig .tc := ⟨.vmem, 53, rfl⟩
abbrev cc0_stg29_0 : Ref sig .tc := ⟨.vmem, 54, rfl⟩
abbrev cc0_stg29_1 : Ref sig .tc := ⟨.vmem, 55, rfl⟩
abbrev cc0_scratch0 : Ref sig .tc := ⟨.vmem, 56, rfl⟩
abbrev cc0_scratch1 : Ref sig .tc := ⟨.vmem, 57, rfl⟩
abbrev cc0_scratch2 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem27_1 : DmaSem sig := 51
abbrev cc0_sem28_0 : DmaSem sig := 52
abbrev cc0_sem28_1 : DmaSem sig := 53
abbrev cc0_sem29_0 : DmaSem sig := 54
abbrev cc0_sem29_1 : DmaSem sig := 55

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_27 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_28 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_29 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1024x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S32x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S16x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S64x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S64x5632 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S176x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== QkvReferenceIdeal.lean ====
abbrev S2x8192x1024 : Shape := ⟨3, ![2, 8192, 1024]⟩
abbrev S2x6144 : Shape := ⟨2, ![2, 6144]⟩
abbrev S1024 : Shape := ⟨1, ![1024]⟩
abbrev S1024x5888 : Shape := ⟨2, ![1024, 5888]⟩
abbrev S64 : Shape := ⟨1, ![64]⟩
abbrev S512x1024 : Shape := ⟨2, ![512, 1024]⟩
abbrev S256x1024 : Shape := ⟨2, ![256, 1024]⟩
abbrev S1024x1024 : Shape := ⟨2, ![1024, 1024]⟩
abbrev S1024x5632 : Shape := ⟨2, ![1024, 5632]⟩
abbrev S2816x1024 : Shape := ⟨2, ![2816, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5888 : Shape := ⟨3, ![2, 8192, 5888]⟩
abbrev S2x8192x512 : Shape := ⟨3, ![2, 8192, 512]⟩
abbrev S2x8192x768 : Shape := ⟨3, ![2, 8192, 768]⟩
abbrev S2x8192x2048 : Shape := ⟨3, ![2, 8192, 2048]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x12x64 : Shape := ⟨4, ![2, 8192, 12, 64]⟩
abbrev S2x8192x4x64 : Shape := ⟨4, ![2, 8192, 4, 64]⟩
abbrev S2x8192x256 : Shape := ⟨3, ![2, 8192, 256]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5888, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x1x1024, .f32⟩
  | .hbm, ⟨43, _⟩ => ⟨S2x1x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x5888, .f32⟩
  | .hbm, ⟨49, _⟩ => ⟨S2x8192x512, .f32⟩
  | .hbm, ⟨50, _⟩ => ⟨S2x8192x512, .f32⟩
  | .hbm, ⟨51, _⟩ => ⟨S2x8192x512, .f32⟩
  | .hbm, ⟨52, _⟩ => ⟨S2x8192x768, .f32⟩
  | .hbm, ⟨53, _⟩ => ⟨S2x8192x768, .f32⟩
  | .hbm, ⟨54, _⟩ => ⟨S2x8192x768, .f32⟩
  | .hbm, ⟨55, _⟩ => ⟨S2x8192x2048, .f32⟩
  | .hbm, ⟨56, _⟩ => ⟨S2x8192x8x64, .f32⟩
  | .hbm, ⟨57, _⟩ => ⟨S2x8192x8x64, .f32⟩
  | .hbm, ⟨58, _⟩ => ⟨S_, .f32⟩
  | .hbm, ⟨59, _⟩ => ⟨S2x8192x8, .f32⟩
  | .hbm, ⟨60, _⟩ => ⟨S2x8192x8x1, .f32⟩
  | .hbm, ⟨61, _⟩ => ⟨S_, .f32⟩
  | .hbm, ⟨62, _⟩ => ⟨S2x8192x8x1, .f32⟩
  | .hbm, ⟨63, _⟩ => ⟨S2x8192x8x1, .f32⟩
  | .hbm, ⟨64, _⟩ => ⟨S_, .f32⟩
  | .hbm, ⟨65, _⟩ => ⟨S2x8192x8x1, .f32⟩
  | .hbm, ⟨66, _⟩ => ⟨S2x8192x8x1, .f32⟩
  | .hbm, ⟨67, _⟩ => ⟨S2x8192x8x1, .f32⟩
  | .hbm, ⟨68, _⟩ => ⟨S2x8192x8x64, .f32⟩
  | .hbm, ⟨69, _⟩ => ⟨S2x8192x8x64, .f32⟩
  | .hbm, ⟨70, _⟩ => ⟨S1x1x1x64, .f32⟩
  | .hbm, ⟨71, _⟩ => ⟨S2x8192x8x64, .f32⟩
  | .hbm, ⟨72, _⟩ => ⟨S2x8192x8x64, .f32⟩
  | .hbm, ⟨73, _⟩ => ⟨S2x8192x512, .f32⟩
  | .hbm, ⟨74, _⟩ => ⟨S2x8192x8x64, .f32⟩
  | .hbm, ⟨75, _⟩ => ⟨S2x8192x8x64, .f32⟩
  | .hbm, ⟨76, _⟩ => ⟨S_, .f32⟩
  | .hbm, ⟨77, _⟩ => ⟨S2x8192x8, .f32⟩
  | .hbm, ⟨78, _⟩ => ⟨S2x8192x8x1, .f32⟩
  | .hbm, ⟨79, _⟩ => ⟨S_, .f32⟩
  | .hbm, ⟨80, _⟩ => ⟨S2x8192x8x1, .f32⟩
  | .hbm, ⟨81, _⟩ => ⟨S2x8192x8x1, .f32⟩
  | .hbm, ⟨82, _⟩ => ⟨S_, .f32⟩
  | .hbm, ⟨83, _⟩ => ⟨S2x8192x8x1, .f32⟩
  | .hbm, ⟨84, _⟩ => ⟨S2x8192x8x1, .f32⟩
  | .hbm, ⟨85, _⟩ => ⟨S2x8192x8x1, .f32⟩
  | .hbm, ⟨86, _⟩ => ⟨S2x8192x8x64, .f32⟩
  | .hbm, ⟨87, _⟩ => ⟨S2x8192x8x64, .f32⟩
  | .hbm, ⟨88, _⟩ => ⟨S1x1x1x64, .f32⟩
  | .hbm, ⟨89, _⟩ => ⟨S2x8192x8x64, .f32⟩
  | .hbm, ⟨90, _⟩ => ⟨S2x8192x8x64, .f32⟩
  | .hbm, ⟨91, _⟩ => ⟨S2x8192x512, .f32⟩
  | .hbm, ⟨92, _⟩ => ⟨S2x8192x12x64, .f32⟩
  | .hbm, ⟨93, _⟩ => ⟨S2x8192x4x64, .f32⟩
  | .hbm, ⟨94, _⟩ => ⟨S2x8192x256, .f32⟩
  | .hbm, ⟨95, _⟩ => ⟨S2x8192x512, .bf16⟩
  | .hbm, ⟨96, _⟩ => ⟨S2x8192x512, .bf16⟩
  | .hbm, ⟨97, _⟩ => ⟨S2x8192x512, .bf16⟩
  | .hbm, ⟨98, _⟩ => ⟨S2x8192x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.Consts.lean ====
module

public import Idealize.ShloMosaic.PureOps.Ideal.Laws

/-! The numbers that the programs' float words stand for. -/

@[expose] public section

namespace Cert.Consts

open Idealize.ShloMosaic

/-- The word of minus infinity. -/
theorem negInf : Ideal.ofBits .f32 0xFF800000#32 = ⊥ := by simp [Ideal.ofBits, Ideal.ieee]

/-- The word of infinity. -/
theorem posInf : Ideal.ofBits .f32 0x7F800000#32 = ⊤ := by simp [Ideal.ofBits, Ideal.ieee]

/-- The word of one eighth. -/
theorem eighth : Ideal.ofBits .f32 0x3E000000#32 = ((1 / 8 : ℝ) : EReal) := by
  simp [Ideal.ofBits, Ideal.ieee]
  rw [← EReal.coe_mul]
  norm_num

/-- The word of one. -/
theorem one_f32 : Ideal.ofBits .f32 0x3F800000#32 = 1 := by
  simp [Ideal.ofBits, Ideal.ieee]
  rw [← EReal.coe_mul]
  norm_num

/-- The word of two. -/
theorem two_f32 : Ideal.ofBits .f32 0x40000000#32 = ((2 : ℝ) : EReal) := by
  simp [Ideal.ofBits, Ideal.ieee]
  rw [← EReal.coe_mul]
  norm_num

end Cert.Consts
-- ==== Proof.Spec.lean ====
module

public import Idealize.ShloMosaic.Lib.ValueIdx
public import Idealize.ShloMosaic.PureOps.Ideal.Laws
public import proofs.«01_k».proof.Proof.Consts

/-! The geometry of the neighbourhood attention on a grid of 128 rows of 64 columns: which keys a query sees, and
which entry of the bias table each of them takes. -/

@[expose] public section

noncomputable section

namespace Cert.Spec

open Idealize.ShloMosaic Idealize.ShloMosaic.ValueIdx

/-- The first of the eight grid rows the query row `r` attends to. -/
def rowStart (r : Nat) : Nat := min (r - 4) 120

/-- The first of the sixteen columns the query column `q` attends to. -/
def colStart (q : Nat) : Nat := min (q - 8) 48

/-- Whether the query column `q` attends to the key column `c`. -/
def seen (q c : Nat) : Bool := decide (colStart q ≤ c ∧ c < colStart q + 16)

/-- The bias table's column for query column `q` and key column `c`. -/
def colOff (q c : Nat) : Nat := min (c + 15 - q) 30

/-- The bias table's row for query row `r` and its `j`-th key row. -/
def rowOff (r j : Nat) : Nat := rowStart r + j + 7 - r

/-- No window begins below row 120. -/
theorem rowStart_le (r : Nat) : rowStart r ≤ 120 := Nat.min_le_right _ _

/-- A row of the bias table. -/
theorem rowOff_lt (r : Fin 128) (j : Fin 8) : rowOff r.val j.val < 15 := by
  unfold rowOff rowStart; omega

/-- The token of grid row `r`, column `q`. -/
def tok (r : Fin 128) (q : Fin 64) : Fin 8192 := ⟨64 * r.val + q.val, by omega⟩

/-- The lane of head `h`, component `d`. -/
def lane (h : Fin 8) (d : Fin 64) : Fin 512 := ⟨64 * h.val + d.val, by omega⟩

/-- The grid row of the key `k` of query row `r`. -/
def keyRow (r : Fin 128) (k : Fin 512) : Fin 128 :=
  ⟨rowStart r.val + k.val / 64, by have := rowStart_le r.val; omega⟩

/-- The column of the key `k`. -/
def keyCol (k : Fin 512) : Fin 64 := ⟨k.val % 64, by omega⟩

/-- The token of the key `k` of query row `r`. -/
def keyTok (r : Fin 128) (k : Fin 512) : Fin 8192 := tok (keyRow r k) (keyCol k)

/-- An array of the activations: batch, token, lane. -/
abbrev Act : Type := (⟨3, ![2, 8192, 512]⟩ : Shape).Idx → EReal

/-- The relative bias: head, row, column. -/
abbrev Rpb : Type := (⟨3, ![8, 15, 31]⟩ : Shape).Idx → EReal

/-- The bias of query `(r, q)` and key `k` in head `h`. -/
def bias (B : Rpb) (r : Fin 128) (q : Fin 64) (h : Fin 8) (k : Fin 512) : EReal :=
  B (ix3 h ⟨rowOff r.val (k.val / 64), rowOff_lt r ⟨k.val / 64, by omega⟩⟩
    ⟨colOff q.val (k.val % 64), by unfold colOff; omega⟩)

/-- The product of the query `(r, q)` and its key `k` in head `h`. -/
def dot (Q K : Act) (b : Fin 2) (r : Fin 128) (q : Fin 64) (h : Fin 8) (k : Fin 512) : EReal :=
  ∑ e : Fin 64, Q (ix3 b (tok r q) (lane h e)) * K (ix3 b (keyTok r k) (lane h e))

/-- The score of the query `(r, q)` and its key `k` in head `h`: an unseen key's is `⊥`. -/
def score (Q K : Act) (B : Rpb) (b : Fin 2) (r : Fin 128) (q : Fin 64) (h : Fin 8) (k : Fin 512) : EReal :=
  if seen q.val (k.val % 64) then dot Q K b r q h k * ((1 / 8 : ℝ) : EReal) + bias B r q h k else ⊥

/-- The largest of 512 scores. -/
def top (s : Fin 512 → EReal) : EReal := Finset.univ.fold max ⊥ s

/-- The weighted mean of `v` under the softmax of `s`. -/
def softmaxMean (s v : Fin 512 → EReal) : EReal :=
  ∑ k, v k * Ideal.div (Ideal.exp (s k - top s)) (∑ k', Ideal.exp (s k' - top s))

/-- The neighbourhood attention: query `(r, q)` of batch `b`, head `h`, component `d`. -/
def attend (Q K V : Act) (B : Rpb) (b : Fin 2) (r : Fin 128) (q : Fin 64) (h : Fin 8) (d : Fin 64) : EReal :=
  softmaxMean (score Q K B b r q h) fun k => V (ix3 b (keyTok r k) (lane h d))

end Cert.Spec
-- ==== Proof.RefInt.lean ====
module

public import proofs.«01_k».proof.Proof.Spec
public import proofs.«01_k».proof.Proof.Gen.ReferenceIdeal.Read

/-! The integer tables of the reference, read at an index: the key rows, the column mask, the bias table's rows and
columns. -/

@[expose] public section

noncomputable section

namespace Cert.RefInt

open Cert.ReferenceIdeal Cert.ReferenceIdeal.Gen Cert.ReferenceIdeal.Read Idealize.ShloMosaic
  Idealize.ShloMosaic.ValueIdx Cert.Spec

/-- The key rows of each query row. -/
theorem keyRows (r : Fin 128) (j : Fin 8) :
    val_main_v21 (F := Ideal) (ix3 r j 0) = BitVec.ofNat 32 (rowStart r.val + j.val) := by
  revert r j; decide +kernel

/-- The same rows, for the values. -/
theorem keyRows' (r : Fin 128) (j : Fin 8) :
    val_main_v29 (F := Ideal) (ix3 r j 0) = BitVec.ofNat 32 (rowStart r.val + j.val) := by
  revert r j; decide +kernel

/-- The column mask. -/
theorem mask (q c : Fin 64) : val_main_v48 (F := Ideal) (ix2 q c) = BitVec.ofBool (seen q.val c.val) := by
  revert q c; decide +kernel

/-- The bias table's row. -/
theorem biasRow (r : Fin 128) (j : Fin 8) :
    val_main_v71 (F := Ideal) (ix4 r 0 j 0) = BitVec.ofNat 32 (rowOff r.val j.val) := by
  revert r j; decide +kernel

/-- The bias table's column. -/
theorem biasCol (q c : Fin 64) :
    val_main_v76 (F := Ideal) (ix4 0 q 0 c) = BitVec.ofNat 32 (colOff q.val c.val) := by
  revert q c; decide +kernel

end Cert.RefInt
-- ==== Proof.Ref.lean ====
module

public import proofs.«01_k».proof.Proof.RefInt
public import Idealize.ShloMosaic.Lib.ValueIdxRank6

/-! What the reference computes: at each index it is `Spec.attend`. -/

@[expose] public section

noncomputable section

namespace Cert.Ref

open Cert.Consts Cert.ReferenceIdeal Cert.ReferenceIdeal.Gen Cert.ReferenceIdeal.Read Idealize.ShloMosaic
  Idealize.ShloMosaic.ValueIdx Cert.Spec

/-- Two indices of rank 5 with the same coordinates are the same. -/
theorem ext5 {n : Fin 5 → Nat} {i j : (⟨5, n⟩ : Shape).Idx} (h0 : i 0 = j 0) (h1 : i 1 = j 1) (h2 : i 2 = j 2) (h3 : i 3 = j 3)
    (h4 : i 4 = j 4) : i = j := by
  funext a
  match a with
  | ⟨0, _⟩ => exact h0
  | ⟨1, _⟩ => exact h1
  | ⟨2, _⟩ => exact h2
  | ⟨3, _⟩ => exact h3
  | ⟨4, _⟩ => exact h4

/-- The reshaped queries: grid row, column, head, component. -/
theorem q_apply (x : Act) (b : Fin 2) (r : Fin 128) (q : Fin 64) (h : Fin 8) (d : Fin 64) :
    val_main_v3 (F := Ideal) x (ix5 b r q h d) = x (ix3 b (tok r q) (lane h d)) := by
  unfold val_main_v3 val_main_v0
  refine (shapeCast_apply _ _ (ix5 b r q h d) (ix4 b (tok r q) h d) ?_).trans
    (shapeCast_apply x _ (ix4 b (tok r q) h d) (ix3 b (tok r q) (lane h d)) ?_)
  · rw [Shape.rowMajor_val_four, Shape.rowMajor_val_five]
    show ((b.val * 8192 + (64 * r.val + q.val)) * 8 + h.val) * 64 + d.val
      = (((b.val * 128 + r.val) * 64 + q.val) * 8 + h.val) * 64 + d.val
    omega
  · rw [Shape.rowMajor_val_three, Shape.rowMajor_val_four]
    show (b.val * 8192 + (64 * r.val + q.val)) * 512 + (64 * h.val + d.val)
      = ((b.val * 8192 + (64 * r.val + q.val)) * 8 + h.val) * 64 + d.val
    omega

/-- The reshaped keys. -/
theorem k_apply (x : Act) (b : Fin 2) (r : Fin 128) (q : Fin 64) (h : Fin 8) (d : Fin 64) :
    val_main_v4 (F := Ideal) x (ix5 b r q h d) = x (ix3 b (tok r q) (lane h d)) := q_apply x b r q h d

/-- The reshaped values. -/
theorem v_apply (x : Act) (b : Fin 2) (r : Fin 128) (q : Fin 64) (h : Fin 8) (d : Fin 64) :
    val_main_v5 (F := Ideal) x (ix5 b r q h d) = x (ix3 b (tok r q) (lane h d)) := q_apply x b r q h d

/-- A gather of grid rows, at an index whose start index is the row `R`. -/
theorem gatherRows_apply (x : S2x128x64x8x64.Idx → EReal) (idx : IVec S128x8x1 32) (b : Fin 2) (r : Fin 128) (j : Fin 8)
    (q : Fin 64) (h : Fin 8) (d : Fin 64) (R : Fin 128) (hR : idx (ix3 r j 0) = BitVec.ofNat 32 R.val) :
    Host.gather gather_S2x128x64x8x64_S128x8x1_S2x128x8x64x8x64_0345_1_n_n_1_2_2164864 x idx (ix6 b r j q h d)
      = x (ix5 b R q h d) := by
  unfold Host.gather
  refine congrArg x (funext fun a => Fin.ext ?_)
  have e : ∀ R : Fin 128, min (BitVec.ofNat 32 R.val).toInt.toNat (128 - 1) = R.val := by decide
  show GatherDims.start _ _ idx a + GatherDims.batchCoord _ _ a + GatherDims.offCoord _ _ a = _
  match a with
  | ⟨0, _⟩ => show 0 + 0 + b.val = _; rw [Nat.zero_add]
  | ⟨1, _⟩ =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨1, by decide⟩ : Fin S2x128x64x8x64.rank) ∈ gather_S2x128x64x8x64_S128x8x1_S2x128x8x64x8x64_0345_1_n_n_1_2_2164864.startIndexMap
      from List.mem_singleton.mpr rfl)]
    refine Eq.trans ?_ (e R)
    rw [← hR]
    refine congrArg (fun z => min (idx z).toInt.toNat (128 - 1)) (funext fun b => Fin.ext ?_)
    match b with
    | ⟨0, _⟩ => rfl
    | ⟨1, _⟩ => rfl
    | ⟨2, _⟩ => rfl
  | ⟨2, _⟩ => show 0 + 0 + q.val = _; rw [Nat.zero_add]
  | ⟨3, _⟩ => show 0 + 0 + h.val = _; rw [Nat.zero_add]
  | ⟨4, _⟩ => show 0 + 0 + d.val = _; rw [Nat.zero_add]

/-- The gathered rows, flattened to 512 keys. -/
theorem flat_apply (x : S2x128x8x64x8x64.Idx → EReal) (b : Fin 2) (r : Fin 128) (k : Fin 512) (h : Fin 8) (d : Fin 64) :
    shapeCast S2x128x512x8x64 x shapeCasts_S2x128x8x64x8x64_S2x128x512x8x64 (ix5 b r k h d)
      = x (ix6 b r ⟨k.val / 64, by omega⟩ ⟨k.val % 64, by omega⟩ h d) := by
  refine shapeCast_apply x _ _ _ ?_
  rw [Shape.rowMajor_val_six, Shape.rowMajor_val_five]
  show ((((b.val * 128 + r.val) * 8 + k.val / 64) * 64 + k.val % 64) * 8 + h.val) * 64 + d.val
    = (((b.val * 128 + r.val) * 512 + k.val) * 8 + h.val) * 64 + d.val
  omega

/-- The keys of a query row. -/
theorem keys_apply (x : Act) (b : Fin 2) (r : Fin 128) (k : Fin 512) (h : Fin 8) (d : Fin 64) :
    val_main_v23 (F := Ideal) x (ix5 b r k h d) = x (ix3 b (keyTok r k) (lane h d)) := by
  unfold val_main_v23
  rw [flat_apply]
  unfold val_main_v22
  rw [gatherRows_apply _ _ _ _ _ _ _ _ (keyRow r k) (RefInt.keyRows r ⟨k.val / 64, by omega⟩), k_apply]
  rfl

/-- The values of a query row. -/
theorem values_apply (x : Act) (b : Fin 2) (r : Fin 128) (k : Fin 512) (h : Fin 8) (d : Fin 64) :
    val_main_v31 (F := Ideal) x (ix5 b r k h d) = x (ix3 b (keyTok r k) (lane h d)) := by
  unfold val_main_v31
  rw [flat_apply]
  unfold val_main_v30
  rw [gatherRows_apply _ _ _ _ _ _ _ _ (keyRow r k) (RefInt.keyRows' r ⟨k.val / 64, by omega⟩), v_apply]
  rfl

/-- The bias gathered at the index pair `(R, C)`. -/
theorem gatherBias_apply (x : Rpb) (idx : IVec S128x64x8x64x2 32) (h : Fin 8) (r : Fin 128) (q : Fin 64) (j : Fin 8)
    (c : Fin 64) (R : Fin 15) (C : Fin 31) (hR : idx (ix5 r q j c 0) = BitVec.ofNat 32 R.val)
    (hC : idx (ix5 r q j c 1) = BitVec.ofNat 32 C.val) :
    Host.gather gather_S8x15x31_S128x64x8x64x2_S8x128x64x8x64_0_12_n_n_12_4_811 x idx (ix5 h r q j c)
      = x (ix3 h R C) := by
  unfold Host.gather
  refine congrArg x (funext fun a => Fin.ext ?_)
  have e : ∀ R : Fin 15, min (BitVec.ofNat 32 R.val).toInt.toNat (15 - 1) = R.val := by decide
  have e' : ∀ R : Fin 31, min (BitVec.ofNat 32 R.val).toInt.toNat (31 - 1) = R.val := by decide
  show GatherDims.start _ _ idx a + GatherDims.batchCoord _ _ a + GatherDims.offCoord _ _ a = _
  match a with
  | ⟨0, _⟩ => show 0 + 0 + h.val = _; rw [Nat.zero_add]
  | ⟨1, _⟩ =>
    rw [GatherDims.batchCoord_eq_zero _ _ _ List.not_mem_nil,
      GatherDims.offCoord_eq_zero _ _ _ (fun h => ((GatherDims.mem_sKept _ _).mp h).1 (by decide : (1 : Fin 3) ∈ ([1, 2] : List (Fin 3))))]
    unfold GatherDims.start
    rw [dif_pos (show (⟨1, by decide⟩ : Fin S8x15x31.rank) ∈ gather_S8x15x31_S128x64x8x64x2_S8x128x64x8x64_0_12_n_n_12_4_811.startIndexMap
      from (by decide : (1 : Fin 3) ∈ ([1, 2] : List (Fin 3))))]
    refine Eq.trans ?_ (e R)
    rw [← hR]
    refine congrArg (fun z => min (idx z).toInt.toNat (15 - 1)) (funext fun b => Fin.ext ?_)
    match b with
    | ⟨0, _⟩ => rfl
    | ⟨1, _⟩ => rfl
    | ⟨2, _⟩ => rfl
    | ⟨3, _⟩ => rfl
    | ⟨4, _⟩ => rfl
  | ⟨2, _⟩ =>
    rw [GatherDims.batchCoord_eq_zero _ _ _ List.not_mem_nil,
      GatherDims.offCoord_eq_zero _ _ _ (fun h => ((GatherDims.mem_sKept _ _).mp h).1 (by decide : (2 : Fin 3) ∈ ([1, 2] : List (Fin 3))))]
    unfold GatherDims.start
    rw [dif_pos (show (⟨2, by decide⟩ : Fin S8x15x31.rank) ∈ gather_S8x15x31_S128x64x8x64x2_S8x128x64x8x64_0_12_n_n_12_4_811.startIndexMap
      from (by decide : (2 : Fin 3) ∈ ([1, 2] : List (Fin 3))))]
    refine Eq.trans ?_ (e' C)
    rw [← hC]
    refine congrArg (fun z => min (idx z).toInt.toNat (31 - 1)) (funext fun b => Fin.ext ?_)
    match b with
    | ⟨0, _⟩ => rfl
    | ⟨1, _⟩ => rfl
    | ⟨2, _⟩ => rfl
    | ⟨3, _⟩ => rfl
    | ⟨4, _⟩ => rfl

/-- The index pair's first component is the bias table's row. -/
theorem pair0 (r : Fin 128) (q : Fin 64) (j : Fin 8) (c : Fin 64) :
    val_main_v81 (F := Ideal) (ix5 r q j c 0) = BitVec.ofNat 32 (rowOff r.val j.val) := by
  rw [← RefInt.biasRow]
  unfold val_main_v81
  refine (concatenate_pair_apply_left (t := S128x64x8x64x2) (s₁ := S128x64x8x64x1) (s₂ := S128x64x8x64x1) 4 _ _ _ (ix5 r q j c (0 : Fin 2)) rfl (ix5 r q j c (0 : Fin 1)) (fun b => ?_)).trans ?_
  · match b with
    | ⟨0, _⟩ => rfl
    | ⟨1, _⟩ => rfl
    | ⟨2, _⟩ => rfl
    | ⟨3, _⟩ => rfl
    | ⟨4, _⟩ => rfl
  · rw [val_main_v79_apply, val_main_v77_apply]
    rfl

/-- The index pair's second component is the bias table's column. -/
theorem pair1 (r : Fin 128) (q : Fin 64) (j : Fin 8) (c : Fin 64) :
    val_main_v81 (F := Ideal) (ix5 r q j c 1) = BitVec.ofNat 32 (colOff q.val c.val) := by
  rw [← RefInt.biasCol]
  unfold val_main_v81
  refine (concatenate_pair_apply_right (t := S128x64x8x64x2) (s₁ := S128x64x8x64x1) (s₂ := S128x64x8x64x1) 4 _ _ _ (ix5 r q j c (1 : Fin 2)) rfl rfl (ix5 r q j c (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · rw [val_main_v80_apply, val_main_v78_apply]
    rfl

/-- The bias of a query and its key. -/
theorem bias_apply (x : Rpb) (h : Fin 8) (r : Fin 128) (q : Fin 64) (k : Fin 512) :
    val_main_v83 (F := Ideal) x (ix4 h r q k) = bias x r q h k := by
  unfold val_main_v83
  refine (shapeCast_apply _ _ (ix4 h r q k) (ix5 h r q ⟨k.val / 64, by omega⟩ ⟨k.val % 64, by omega⟩) ?_).trans ?_
  · rw [Shape.rowMajor_val_five, Shape.rowMajor_val_four]
    show (((h.val * 128 + r.val) * 64 + q.val) * 8 + k.val / 64) * 64 + k.val % 64
      = ((h.val * 128 + r.val) * 64 + q.val) * 512 + k.val
    omega
  unfold val_main_v82
  exact gatherBias_apply x _ h r q _ _ _ _ (pair0 r q _ _) (pair1 r q _ _)

/-- The scores, masked. -/
theorem scores_apply (Q K : Act) (B : Rpb) (b : Fin 2) (h : Fin 8) (r : Fin 128) (q : Fin 64) (k : Fin 512) :
    val_main_v90 (F := Ideal) Q K B (ix5 b h r q k) = score Q K B b r q h k := by
  rw [val_main_v90_apply]
  have em : val_main_call3_v1 (F := Ideal) (ix5 b h r q k) = BitVec.ofBool (seen q.val (k.val % 64)) := by
    rw [val_main_call3_v1_apply, val_main_v51_apply, val_main_v50_apply, val_main_v49_apply, ← RefInt.mask q ⟨k.val % 64, by omega⟩]
    refine congrArg (val_main_v48 (F := Ideal)) (funext fun a => Fin.ext ?_)
    match a with
    | ⟨0, _⟩ => show (q.val * 512 + k.val) / 512 = q.val; omega
    | ⟨1, _⟩ => show (q.val * 512 + k.val) % 64 = k.val % 64; omega
  have eb : val_main_v88 (F := Ideal) B (ix5 b h r q k) = bias B r q h k := by
    rw [val_main_v88_apply, val_main_v87_apply, ← bias_apply]
    rfl
  have ed : val_main_v84 (F := Ideal) Q K (ix5 b h r q k) = dot Q K b r q h k := by
    rw [val_main_v84_apply]
    exact Finset.sum_congr rfl fun e _ => congrArg₂ (· * ·) (q_apply Q b r q h e) (keys_apply K b r k h e)
  rw [em, val_main_v89_apply, eb, val_main_v86_apply, ed]
  unfold score
  cases seen q.val (k.val % 64)
  · exact negInf
  · exact congrArg (fun z => dot Q K b r q h k * z + bias B r q h k) eighth

/-- The largest score. -/
theorem max_apply (Q K : Act) (B : Rpb) (b : Fin 2) (h : Fin 8) (r : Fin 128) (q : Fin 64) :
    val_main_v93 (F := Ideal) Q K B (ix4 b h r q) = top (score Q K B b r q h) := by
  rw [val_main_v93_apply]
  have e : val_main_v91 (F := Ideal) Q K B (ix4 b h r q) = top (score Q K B b r q h) := by
    unfold val_main_v91
    rw [Host.reduce_eq_fold_single FloatOps.maximumf _ _ reducesTo_S2x8x128x64x512_S2x8x128x64_d4 (by decide) h_S_]
    show Finset.fold max (Ideal.ofBits .f32 0xFF800000#32) _ _ = _
    rw [negInf]
    unfold top
    refine congrArg (fun f => Finset.fold max ⊥ f (Finset.univ : Finset (Fin 512))) (funext fun k => ?_)
    refine Eq.trans ?_ (scores_apply Q K B b h r q k)
    refine congrArg (val_main_v90 (F := Ideal) Q K B) (funext fun a => Fin.ext ?_)
    match a with
    | ⟨0, _⟩ => rfl
    | ⟨1, _⟩ => rfl
    | ⟨2, _⟩ => rfl
    | ⟨3, _⟩ => rfl
    | ⟨4, _⟩ => rfl
  rw [e]
  show max (Ideal.ofBits .f32 0xFF800000#32) _ = _
  rw [negInf]
  exact max_eq_right bot_le

/-- The weights before the division. -/
theorem exp_apply (Q K : Act) (B : Rpb) (b : Fin 2) (h : Fin 8) (r : Fin 128) (q : Fin 64) (k : Fin 512) :
    val_main_v97 (F := Ideal) Q K B (ix5 b h r q k)
      = Ideal.exp (score Q K B b r q h k - top (score Q K B b r q h)) := by
  rw [val_main_v97_apply, val_main_v96_apply, scores_apply, val_main_v95_apply, val_main_v94_apply]
  have e : idx_main_v94 (idx_main_v95 (ix5 b h r q k)) = ix4 b h r q := by
    funext a
    match a with
    | ⟨0, _⟩ => rfl
    | ⟨1, _⟩ => rfl
    | ⟨2, _⟩ => rfl
    | ⟨3, _⟩ => rfl
  rw [e, max_apply]
  rfl

/-- The reference is the neighbourhood attention. -/
theorem ref_apply (Q K V : Act) (B : Rpb) (b : Fin 2) (r : Fin 128) (q : Fin 64) (h : Fin 8) (d : Fin 64) :
    val_main_v105 (F := Ideal) Q K V B (ix3 b (tok r q) (lane h d)) = attend Q K V B b r q h d := by
  rw [val_main_v105_apply]
  show val_main_v104 (F := Ideal) Q K V B (ix3 b (tok r q) (lane h d)) = _
  have e : val_main_v104 (F := Ideal) Q K V B (ix3 b (tok r q) (lane h d))
      = val_main_v103 (F := Ideal) Q K V B (ix5 b r q h d) := by
    unfold val_main_v104
    refine shapeCast_apply _ _ _ _ ?_
    rw [Shape.rowMajor_val_five, Shape.rowMajor_val_three]
    show (((b.val * 128 + r.val) * 64 + q.val) * 8 + h.val) * 64 + d.val
      = (b.val * 8192 + (64 * r.val + q.val)) * 512 + (64 * h.val + d.val)
    omega
  have e' : idx_main_v103 (ix5 b r q h d) = ix5 b r h d q := ext5 rfl rfl rfl rfl rfl
  rw [e, val_main_v103_apply, e', val_main_v102_apply]
  unfold attend softmaxMean
  refine Finset.sum_congr rfl fun k _ => ?_
  have el : lidx_main_v102 (ix5 b r h d q) k = ix5 b r k h d := ext5 rfl rfl rfl rfl rfl
  have er : ridx_main_v102 (ix5 b r h d q) k = ix5 b h r q k := ext5 rfl rfl rfl rfl rfl
  have ei : idx_main_v99 (idx_main_v100 (ix5 b h r q k)) = ix4 b h r q := by
    funext a
    match a with
    | ⟨0, _⟩ => rfl
    | ⟨1, _⟩ => rfl
    | ⟨2, _⟩ => rfl
    | ⟨3, _⟩ => rfl
  have es (k' : Fin 512) : idx_main_v98 (ix4 b h r q) k' = ix5 b h r q k' := ext5 rfl rfl rfl rfl rfl
  rw [el, er, values_apply, val_main_v101_apply, exp_apply, val_main_v100_apply, val_main_v99_apply, ei, val_main_v98_apply]
  have z : val_main_cst_21 (F := Ideal) (Shape.Idx.first h_S_) = 0 := Ideal.ofBits_zero_f32
  rw [z, zero_add, Finset.sum_congr rfl fun k' _ => by rw [es k', exp_apply]]
  rfl

end Cert.Ref
-- ==== Proof.Block.lean ====
module

public import proofs.«01_k».proof.Proof.Gen.KernelIdeal.Value

/-! What one block of the neighbourhood attention computes, spelled as a function of the tiles the kernel loads:
sixteen grid rows of 64 columns, four rows at a time, the heads in pairs of 128 lanes. -/

@[expose] public section

set_option maxRecDepth 16384

noncomputable section

namespace Cert.NaBlock

open Idealize.ShloMosaic Cert.KernelIdeal Cert.KernelIdeal.Gen

variable {F : FTy → Type} [FloatOps F]

/-- The scores of one grid row against its 512 keys, all heads stacked: head `2 hp + hh`, query column `q` in row
`128 hp + 64 hh + q`. -/
def rowScores (q : Fin 4 → Vec F S1x64x128 .bf16) (k : Fin 4 → Vec F S1x512x128 .bf16)
    (T : Fin 8 → Fin 4 → Vec F S1x64x128 .f32) : FVec F S512x512 .f32 :=
  addf
    (concatenate S512x512 0 [⟨S128x512, k0_pay5 k0_pay3 (q 0) (k 0)⟩, ⟨S128x512, k0_pay5 k0_pay3 (q 1) (k 1)⟩,
      ⟨S128x512, k0_pay5 k0_pay3 (q 2) (k 2)⟩, ⟨S128x512, k0_pay5 k0_pay3 (q 3) (k 3)⟩]
      concatenates_S128x512_S128x512_S128x512_S128x512_S512x512_d0)
    (concatenate S512x512 0 [⟨S64x512, k0_pay52 (T 0 0) (T 0 1) (T 0 2) (T 0 3)⟩,
      ⟨S64x512, k0_pay52 (T 1 0) (T 1 1) (T 1 2) (T 1 3)⟩, ⟨S64x512, k0_pay52 (T 2 0) (T 2 1) (T 2 2) (T 2 3)⟩,
      ⟨S64x512, k0_pay52 (T 3 0) (T 3 1) (T 3 2) (T 3 3)⟩, ⟨S64x512, k0_pay52 (T 4 0) (T 4 1) (T 4 2) (T 4 3)⟩,
      ⟨S64x512, k0_pay52 (T 5 0) (T 5 1) (T 5 2) (T 5 3)⟩, ⟨S64x512, k0_pay52 (T 6 0) (T 6 1) (T 6 2) (T 6 3)⟩,
      ⟨S64x512, k0_pay52 (T 7 0) (T 7 1) (T 7 2) (T 7 3)⟩]
      concatenates_S64x512_S64x512_S64x512_S64x512_S64x512_S64x512_S64x512_S64x512_S512x512_d0)

/-- Four rows' scores, one under the other. -/
def batchScores (r : Fin 4 → FVec F S512x512 .f32) : FVec F S2048x512 .f32 :=
  concatenate S2048x512 0 [⟨S512x512, r 0⟩, ⟨S512x512, r 1⟩, ⟨S512x512, r 2⟩, ⟨S512x512, r 3⟩]
    concatenates_S512x512_S512x512_S512x512_S512x512_S2048x512_d0

/-- Two to the scores less each row's largest. -/
def batchExp (s : FVec F S2048x512 .f32) : FVec F S2048x512 .f32 :=
  exp2 (subf s (broadcastTo S2048x512 (shapeCast S2048x1
    (multiReduction .maximumf [1] S2048 s 0xFF800000#32 reduces_S2048x512_S2048 (.inl rfl) rfl)
    shapeCasts_S2048_S2048x1) broadcasts_S2048x1_S2048x512))

/-- The 128 rows of one head pair of one row of a batch. -/
theorem slices_p (n : Fin 16) : S2048x512.Slices ![128 * n.val, 0] S128x512 := by
  revert n; decide

/-- The same rows of the sums. -/
theorem slices_l (n : Fin 16) : S2048x1.Slices ![128 * n.val, 0] S128x1 := by
  revert n; decide

/-- One stored tile: 64 columns of one grid row, one head pair, from the weights' 128 rows and the values. -/
def tile (p : FVec F S2048x512 .f32) (n : Fin 16) (v : Vec F S1x512x128 .bf16) : FVec F S1x64x128 .bf16 :=
  k0_pay92 k0_pay2
    (matmul dot_S128x512_S512x128_S128x128_1_0_0_1_n_n none
      (extractStridedSlice S128x512 ![128 * n.val, 0] (k0_pay87 p) (slices_p n))
      (shapeCast S512x128 v shapeCasts_S1x512x128_S512x128) (constant S128x128 .f32 0x00000000#32))
    (extractStridedSlice S128x1 ![128 * n.val, 0] (k0_pay86 p) (slices_l n))

/-- The loaded queries lie in the block. -/
theorem q_inb (a : Fin 16) (hp : Fin 4) (d : Fin 3) :
    (![0, 64 * a.val, 128 * hp.val] : Fin 3 → Nat) d + S1x64x128.size d ≤ S1x1024x512.size d := by
  revert a hp d; decide

/-- Where the keys and values of row `a` of the block, head pair `hp`, begin in the block's window. -/
def kvOff (i : grid0.Coords) (a : Fin 16) (hp : Fin 4) : Fin 3 → Nat :=
  match hp with
  | 0 => k0_off1 i (BitVec.ofNat 32 a.val)
  | 1 => k0_off2 i (BitVec.ofNat 32 a.val)
  | 2 => k0_off3 i (BitVec.ofNat 32 a.val)
  | 3 => k0_off4 i (BitVec.ofNat 32 a.val)

/-- The first of the eight grid rows the query row `r` attends to. -/
def rowStart (r : Nat) : Nat := min (r - 4) 120

/-- The first grid row of the window of row block `b`. -/
def winStart (b : Nat) : Nat := min (16 * b - 4) 104

/-- Where the keys begin, as a number. -/
theorem kvOff_eq (i : grid0.Coords) (a : Fin 16) (hp : Fin 4) :
    kvOff i a hp = ![0, 64 * (rowStart (16 * (i 1).val + a.val) - winStart (i 1).val), 128 * hp.val] := by
  revert i a hp; decide +kernel

/-- The table rows of query row `a`: head `h`, key rows `2 kp` and `2 kp + 1`. -/
def tOff (i : grid0.Coords) (a : Fin 16) (h : Fin 8) (kp : Fin 4) : Fin 3 → Nat :=
  k0_off5 i (BitVec.ofNat 32 (14 * h.val + 2 * kp.val)) (BitVec.ofNat 32 a.val)

/-- The table row, as a number. -/
theorem tOff_eq (i : grid0.Coords) (a : Fin 16) (h : Fin 8) (kp : Fin 4) :
    tOff i a h kp = ![14 * h.val + 2 * kp.val + 7
      - ((16 * (i 1).val + a.val) - rowStart (16 * (i 1).val + a.val)), 0, 0] := by
  revert i a h kp; decide +kernel

/-- The loaded keys lie in the window. -/
theorem kv_inb (i : grid0.Coords) (a : Fin 16) (hp : Fin 4) (d : Fin 3) :
    kvOff i a hp d + S1x512x128.size d ≤ S1x1536x512.size d := by
  revert i a hp d; decide +kernel

/-- The loaded table rows lie in the table. -/
theorem t_inb (i : grid0.Coords) (a : Fin 16) (h : Fin 8) (kp : Fin 4) (d : Fin 3) :
    tOff i a h kp d + S1x64x128.size d ≤ S112x64x128.size d := by
  revert i a h kp d; decide +kernel

section Loads

variable (i : grid0.Coords) (arg2 : Memref sig .tc .vmem S1x1024x512 .bf16) (harg2 : arg2.IsWhole)
  (arg3 : Memref sig .tc .vmem S1x1536x512 .bf16) (harg3 : arg3.IsWhole)
  (arg5 : Memref sig .tc .vmem S112x64x128 .f32) (harg5 : arg5.IsWhole)
  (x0 : Vec F S1x1024x512 .bf16) (x1 : Vec F S1x1536x512 .bf16) (x3 : Vec F S112x64x128 .f32)

/-- The loaded queries of row `a`, head pair `hp`. -/
def qLoad (a : Fin 16) (hp : Fin 4) : Vec F S1x64x128 .bf16 :=
  View.readAt (Elt F) arg2.view (Rect.unit (s := S1x1024x512) ![0, 64 * a.val, 128 * hp.val] S1x64x128.size (q_inb a hp)).toLoadRect
    (harg2.unread x0)

/-- The loaded keys (or values) of row `a`, head pair `hp`. -/
def kvLoad (a : Fin 16) (hp : Fin 4) : Vec F S1x512x128 .bf16 :=
  View.readAt (Elt F) arg3.view (Rect.unit (s := S1x1536x512) (kvOff i a hp) S1x512x128.size (kv_inb i a hp)).toLoadRect
    (harg3.unread x1)

/-- The loaded table rows of query row `a`. -/
def tLoad (a : Fin 16) (h : Fin 8) (kp : Fin 4) : Vec F S1x64x128 .f32 :=
  View.readAt (Elt F) arg5.view (Rect.unit (s := S112x64x128) (tOff i a h kp) S1x64x128.size (t_inb i a h kp)).toLoadRect
    (harg5.unread x3)

/-- The weights of the four rows from row `4 B` of the block on, before the division by their sums. -/
def batch (B : Fin 4) : FVec F S2048x512 .f32 :=
  batchExp (batchScores fun k => rowScores (qLoad arg2 harg2 x0 ⟨4 * B.val + k.val, by omega⟩)
    (kvLoad i arg3 harg3 x1 ⟨4 * B.val + k.val, by omega⟩) (tLoad i arg5 harg5 x3 ⟨4 * B.val + k.val, by omega⟩))

end Loads

end Cert.NaBlock
-- ==== Proof.Pieces.lean ====
module
public import proofs.«01_k».proof.Proof.Block
public import Idealize.ShloMosaic.Lib.Pipeline.ValueKit

/-! The stores of one block are the tiles of Block.lean: the run of the kernel's body, opened. -/

@[expose] public section

set_option maxRecDepth 16384

noncomputable section

namespace Cert.NaBlock
open Idealize.ShloMosaic Idealize.ShloMosaic.Pipeline Cert.KernelIdeal Cert.KernelIdeal.Gen
variable {F : FTy → Type} [FloatOps F]

section Pieces
variable (i : grid0.Coords) (arg2 : Memref sig .tc .vmem S1x1024x512 .bf16) (harg2 : arg2.IsWhole)
  (arg3 : Memref sig .tc .vmem S1x1536x512 .bf16) (harg3 : arg3.IsWhole)
  (arg4 : Memref sig .tc .vmem S1x1536x512 .bf16) (harg4 : arg4.IsWhole)
  (arg5 : Memref sig .tc .vmem S112x64x128 .f32) (harg5 : arg5.IsWhole)
  (x0 : Vec F S1x1024x512 .bf16) (x1 : Vec F S1x1536x512 .bf16) (x2 : Vec F S1x1536x512 .bf16) (x3 : Vec F S112x64x128 .f32)

/-- The tile stored for row `4 B + k` of the block, head pair `hp`. -/
def stored (B k hp : Fin 4) : FVec F S1x64x128 .bf16 :=
  tile (batch i arg2 harg2 arg3 harg3 arg5 harg5 x0 x1 x3 B) ⟨4 * k.val + hp.val, by omega⟩
    (kvLoad i arg4 harg4 x2 ⟨4 * B.val + k.val, by omega⟩ hp)

/-- The stores of a block, the last first: store `n` is row `n / 4`, head pair `n % 4`. -/
def pieces : List (View.Piece (Elt F) S1x1024x512 .bf16) :=
  List.ofFn fun n : Fin 64 =>
    let m := 63 - n.val
    ⟨Rect.unit (s := S1x1024x512) ![0, 64 * (m / 4), 128 * (m % 4)] S1x64x128.size
      (q_inb ⟨m / 4, by omega⟩ ⟨m % 4, by omega⟩),
      stored i arg2 harg2 arg3 harg3 arg4 harg4 arg5 harg5 x0 x1 x2 x3 ⟨m / 16, by omega⟩ ⟨m / 4 % 4, by omega⟩
        ⟨m % 4, by omega⟩⟩

/-- The run's stores are these. -/
theorem run_pieces (c : Dev nD) (arg6 : Memref sig .tc .vmem S1x1024x512 .bf16) (harg6 : arg6.IsWhole) :
    (kernelRun0_A c i arg2 harg2 arg3 harg3 arg4 harg4 arg5 harg5 arg6 harg6 x0 x1 x2 x3).1
      = pieces i arg2 harg2 arg3 harg3 arg4 harg4 arg5 harg5 x0 x1 x2 x3 := by rfl

/-- The stores' tiles are the values of one function on the block: at each index the block holds what the tile over
it holds. -/
theorem out_eq (c : Dev nD) (arg6 : Memref sig .tc .vmem S1x1024x512 .bf16) (harg6 : arg6.IsWhole)
    (y : S1x1024x512.Idx) (v : Elt F .bf16)
    (h : ∀ (B k hp : Fin 4) (x : S1x64x128.Idx),
      (∀ d, (y d : Nat) = (![0, 64 * (4 * B.val + k.val), 128 * hp.val] : Fin 3 → Nat) d + x d) →
      stored i arg2 harg2 arg3 harg3 arg4 harg4 arg5 harg5 x0 x1 x2 x3 B k hp x = v) :
    out0_A_4 c i arg2 harg2 arg3 harg3 arg4 harg4 arg5 harg5 arg6 harg6 x0 x1 x2 x3 y = v := by
  have hc := cover0_A_4 c i arg2 harg2 arg3 harg3 arg4 harg4 arg5 harg5 arg6 harg6 x0 x1 x2 x3
  unfold out0_A_4
  rw [View.read_writes_eq_canon _ _ _ hc]
  refine View.canon_eq_of_allAt _ y v (hc y) ?_
  rw [run_pieces]
  intro p hp
  obtain ⟨n, rfl⟩ := (List.mem_ofFn).mp hp
  intro x hx
  refine h _ _ _ x fun d => ?_
  rw [← hx, Rect.emb_apply]
  have e : (63 - n.val) / 4 = 4 * ((63 - n.val) / 16) + (63 - n.val) / 4 % 4 := by omega
  show _ + 1 * (x d : Nat) = _
  rw [← e, Nat.one_mul]
  rfl

end Pieces
end Cert.NaBlock
-- ==== Proof.Tile.lean ====
module

public import proofs.«01_k».proof.Proof.Block
public import proofs.«01_k».proof.Proof.Spec
public import Idealize.ShloMosaic.Lib.ValueIdx
public import Idealize.ShloMosaic.Lib.MatmulPlain
public import Idealize.ShloMosaic.Lib.Pipeline.Value

/-! The tiles of Block.lean read at an index, over the extended reals: the scores as sums over a head's 64
components, the weights, and the stored tile as the weighted sum divided by the sum of the weights. -/

@[expose] public section

set_option maxRecDepth 16384

noncomputable section

namespace Cert.NaBlock

open Cert.Consts Idealize.ShloMosaic Idealize.ShloMosaic.ValueIdx Cert.KernelIdeal Cert.KernelIdeal.Gen

section Concat

variable {α : Type}

/-- The extents before piece `k` of `L` pieces of one shape. -/
theorem pre_const {S : Shape} {L : Nat} (x : Fin L → S.Idx → α) (g : Shape → Nat) (k : Nat) (hk : k ≤ L) :
    ((((List.ofFn fun a => (⟨S, x a⟩ : (s : Shape) × (s.Idx → α))).take k).map (·.1)).map g).sum = g S * k := by
  rw [List.map_take, List.map_ofFn, List.map_take, List.map_ofFn]
  rw [show (g ∘ (fun y : (s : Shape) × (s.Idx → α) => y.1) ∘ fun a => (⟨S, x a⟩ : (s : Shape) × (s.Idx → α))) = fun _ => g S from rfl,
    List.ofFn_const, List.take_replicate, List.sum_replicate, Nat.min_eq_left hk, smul_eq_mul, Nat.mul_comm]

/-- Arrays of `n` rows stacked, read at row `i` of array `a`. -/
theorem rows {L n w N : Nat} (x : Fin L → (⟨2, ![n, w]⟩ : Shape).Idx → α) (xs : List ((s : Shape) × (s.Idx → α)))
    (hx : xs = List.ofFn fun a => ⟨⟨2, ![n, w]⟩, x a⟩) (h : Shape.Concatenates (xs.map (·.1)) ⟨2, ![N, w]⟩ 0) (a : Fin L) (i : Fin n)
    (c : Fin w) (r : Fin N) (hr : r.val = n * a.val + i.val) :
    concatenate (⟨2, ![N, w]⟩ : Shape) 0 xs h (ix2 r c) = x a (ix2 i c) := by
  subst hx
  refine concatenate_apply_piece (t := ⟨2, ![N, w]⟩) 0 _ h (ix2 r c) a.val (by rw [List.length_ofFn]; exact a.isLt) _ (x a)
    (List.getElem_ofFn _) rfl (n * a.val) (pre_const x _ a.val a.isLt.le) (ix2 i c) ?_ hr.symm
  intro b hb
  match b with
  | ⟨0, _⟩ => exact absurd rfl hb
  | ⟨1, _⟩ => rfl

/-- Arrays of `w` columns side by side, read at column `c` of array `a`. -/
theorem cols {L n w N : Nat} (x : Fin L → (⟨2, ![n, w]⟩ : Shape).Idx → α) (xs : List ((s : Shape) × (s.Idx → α)))
    (hx : xs = List.ofFn fun a => ⟨⟨2, ![n, w]⟩, x a⟩) (h : Shape.Concatenates (xs.map (·.1)) ⟨2, ![n, N]⟩ 1) (a : Fin L) (i : Fin n)
    (c : Fin w) (r : Fin N) (hr : r.val = w * a.val + c.val) :
    concatenate (⟨2, ![n, N]⟩ : Shape) 1 xs h (ix2 i r) = x a (ix2 i c) := by
  subst hx
  refine concatenate_apply_piece (t := ⟨2, ![n, N]⟩) 1 _ h (ix2 i r) a.val (by rw [List.length_ofFn]; exact a.isLt) _ (x a)
    (List.getElem_ofFn _) rfl (w * a.val) (pre_const x _ a.val a.isLt.le) (ix2 i c) ?_ hr.symm
  intro b hb
  match b with
  | ⟨0, _⟩ => rfl
  | ⟨1, _⟩ => exact absurd rfl hb

end Concat

/-- A sum over the 128 lanes of a head pair, zero outside the head `hh`, is the sum over the head's 64 lanes. -/
theorem half_sum (f : Fin 128 → EReal) (hh : Fin 2) (h0 : ∀ e : Fin 128, e.val / 64 ≠ hh.val → f e = 0) :
    ∑ e, f e = ∑ e : Fin 64, f ⟨64 * hh.val + e.val, by omega⟩ := by
  rw [show (∑ e, f e) = ∑ e : Fin (64 + 64), f e from rfl, Fin.sum_univ_add]
  match hh, h0 with
  | 0, h0 =>
    rw [Finset.sum_eq_zero (s := Finset.univ) (f := fun e : Fin 64 => f (Fin.natAdd 64 e)) fun e _ => h0 _ (by
      show (64 + e.val) / 64 ≠ 0; omega), add_zero]
    refine Finset.sum_congr rfl fun e _ => congrArg f (Fin.ext ?_)
    show e.val = 64 * 0 + e.val; omega
  | 1, h0 =>
    rw [Finset.sum_eq_zero (s := Finset.univ) (f := fun e : Fin 64 => f (Fin.castAdd 64 e)) fun e _ => h0 _ (by
      show e.val / 64 ≠ 1; omega), zero_add]
    refine Finset.sum_congr rfl fun e _ => congrArg f (Fin.ext ?_)
    show 64 + e.val = 64 * 1 + e.val; omega

/-- The mask of a head pair's stacked queries: a row's own head's lanes. -/
theorem own_head (i e : Fin 128) : k0_pay3 (ix2 i e) = BitVec.ofBool (decide (e.val / 64 = i.val / 64)) := by
  revert i e; decide +kernel

/-- The mask of the stored tile: the lanes of the pair's first head. -/
theorem first_head (i : Fin 64) (e : Fin 128) : k0_pay2 (ix2 i e) = BitVec.ofBool (decide (e.val / 64 = 0)) := by
  revert i e; decide +kernel

/-- The row of a head pair's two stacked heads. -/
abbrev pairRow (hh : Fin 2) (q : Fin 64) : Fin 128 := ⟨64 * hh.val + q.val, by omega⟩

/-- The bf16 word of zero. -/
theorem zero_bf16 : Ideal.ofBits .bf16 0x0000#16 = 0 := by simp [Ideal.ofBits, Ideal.ieee]

/-- The products of one head pair. -/
theorem pair_apply (q : Vec Ideal S1x64x128 .bf16) (k : Vec Ideal S1x512x128 .bf16) (hh : Fin 2) (qc : Fin 64) (kk : Fin 512) :
    k0_pay5 (F := Ideal) k0_pay3 q k (ix2 (pairRow hh qc) kk)
      = ∑ e : Fin 64, q (ix3 0 qc (pairRow hh e)) * k (ix3 0 kk (pairRow hh e)) := by
  unfold k0_pay5
  refine (Ideal.matmul_transposedRhs_apply (M := 128) (K := 128) (N := 512) none _ _ _ (pairRow hh qc) kk).trans ?_
  have hz : constant (F := Ideal) S128x512 .f32 0x00000000#32 (ix2 (pairRow hh qc) kk) = 0 := Ideal.ofBits_zero_f32
  rw [hz, zero_add, half_sum _ hh]
  · refine Finset.sum_congr rfl fun e _ => congrArg₂ (· * ·) ?_ ?_
    · have hm : k0_pay3 (ix2 (pairRow hh qc) (pairRow hh e)) = 1#1 := by
        rw [own_head, decide_eq_true (show (64 * hh.val + e.val) / 64 = (64 * hh.val + qc.val) / 64 by omega)]; rfl
      unfold select
      refine (if_pos hm).trans ?_
      match hh with
      | 0 =>
        refine (concatenate_pair_apply_left (t := S128x128) (s₁ := S64x128) (s₂ := S64x128) 0 _ _ _ _ rfl (ix2 qc (pairRow 0 e)) ?_).trans ?_
        · intro b
          match b with
          | ⟨0, _⟩ => show qc.val = 64 * 0 + qc.val; omega
          | ⟨1, _⟩ => rfl
        · refine (shapeCast_dropUnit_apply ![64, 128] q _ _).trans (congrArg q ?_)
          funext a
          match a with
          | ⟨0, _⟩ => rfl
          | ⟨1, _⟩ => rfl
          | ⟨2, _⟩ => rfl
      | 1 =>
        refine (concatenate_pair_apply_right (t := S128x128) (s₁ := S64x128) (s₂ := S64x128) 0 _ _ _ _ rfl rfl (ix2 qc (pairRow 1 e)) ?_ ?_).trans ?_
        · intro b hb
          match b with
          | ⟨0, _⟩ => exact absurd rfl hb
          | ⟨1, _⟩ => rfl
        · show qc.val + 64 = 64 * 1 + qc.val; omega
        · refine (shapeCast_dropUnit_apply ![64, 128] q _ _).trans (congrArg q ?_)
          funext a
          match a with
          | ⟨0, _⟩ => rfl
          | ⟨1, _⟩ => rfl
          | ⟨2, _⟩ => rfl
    · refine (shapeCast_dropUnit_apply ![512, 128] k _ _).trans (congrArg k ?_)
      funext a
      match a with
      | ⟨0, _⟩ => rfl
      | ⟨1, _⟩ => rfl
      | ⟨2, _⟩ => rfl
  · intro e he
    have hm : ¬ k0_pay3 (ix2 (pairRow hh qc) e) = 1#1 := by
      rw [own_head, decide_eq_false (show ¬ e.val / 64 = (64 * hh.val + qc.val) / 64 by omega)]; decide
    unfold select
    refine (congrArg (· * _) ((if_neg hm).trans zero_bf16)).trans (zero_mul _)

/-- A row's table tiles, side by side. -/
theorem bias_tile (T : Fin 4 → Vec Ideal S1x64x128 .f32) (qc : Fin 64) (kk : Fin 512) :
    k0_pay52 (T 0) (T 1) (T 2) (T 3) (ix2 qc kk) = T ⟨kk.val / 128, by omega⟩ (ix3 0 qc ⟨kk.val % 128, by omega⟩) := by
  unfold k0_pay52
  refine (cols (L := 4) (fun a => shapeCast S64x128 (T a) shapeCasts_S1x64x128_S64x128) _ rfl _ ⟨kk.val / 128, by omega⟩ qc
    ⟨kk.val % 128, by omega⟩ kk ?_).trans ?_
  · show kk.val = 128 * (kk.val / 128) + kk.val % 128; omega
  · refine (shapeCast_dropUnit_apply ![64, 128] (T _) _ _).trans (congrArg (T _) ?_)
    funext a
    match a with
    | ⟨0, _⟩ => rfl
    | ⟨1, _⟩ => rfl
    | ⟨2, _⟩ => rfl

/-- One row's score: the product over the head's components plus the table's entry. -/
theorem rowScores_apply (q : Fin 4 → Vec Ideal S1x64x128 .bf16) (k : Fin 4 → Vec Ideal S1x512x128 .bf16)
    (T : Fin 8 → Fin 4 → Vec Ideal S1x64x128 .f32) (hp : Fin 4) (hh : Fin 2) (qc : Fin 64) (kk : Fin 512) (r : Fin 512)
    (hr : r.val = 128 * hp.val + (64 * hh.val + qc.val)) :
    rowScores q k T (ix2 r kk) = (∑ e : Fin 64, q hp (ix3 0 qc (pairRow hh e)) * k hp (ix3 0 kk (pairRow hh e)))
      + T ⟨2 * hp.val + hh.val, by omega⟩ ⟨kk.val / 128, by omega⟩ (ix3 0 qc ⟨kk.val % 128, by omega⟩) := by
  unfold rowScores
  refine congrArg₂ (· + ·) ?_ ?_
  · exact (rows (L := 4) (fun a => k0_pay5 k0_pay3 (q a) (k a)) _ rfl _ hp (pairRow hh qc) kk r hr).trans (pair_apply _ _ _ _ _)
  · refine (rows (L := 8) (fun a => k0_pay52 (T a 0) (T a 1) (T a 2) (T a 3)) _ rfl _ ⟨2 * hp.val + hh.val, by omega⟩ qc kk r ?_).trans
      (bias_tile _ _ _)
    show r.val = 64 * (2 * hp.val + hh.val) + qc.val; omega

/-- Four rows' scores, read in row `k`. -/
theorem batchScores_apply (s : Fin 4 → FVec Ideal S512x512 .f32) (k : Fin 4) (n : Fin 512) (kk : Fin 512) (r : Fin 2048)
    (hr : r.val = 512 * k.val + n.val) : batchScores s (ix2 r kk) = s k (ix2 n kk) :=
  rows (L := 4) s _ rfl _ k n kk r hr

/-- The weight of a score: two to its difference from the row's largest. -/
theorem batchExp_apply (s : FVec Ideal S2048x512 .f32) (r : Fin 2048) (kk : Fin 512) :
    batchExp s (ix2 r kk) = Ideal.exp2 (s (ix2 r kk) - Spec.top fun k => s (ix2 r k)) := by
  unfold batchExp
  refine congrArg (fun z => Ideal.exp2 (s (ix2 r kk) - z)) ?_
  refine (broadcastTo_apply _ _ _ (ix2 r 0) ?_).trans ?_
  · intro a
    match a with
    | ⟨0, _⟩ => rfl
    | ⟨1, _⟩ => rfl
  refine (shapeCast_apply _ _ _ (ix1 r) ?_).trans ?_
  · rw [Shape.rowMajor_val_one, Shape.rowMajor_val_two]
    show r.val = r.val * 1 + 0; omega
  refine (Ideal.multiReduction_maximumf_single s _ _ _ _ (ix1 r)).trans ?_
  show Finset.fold max (Ideal.ofBits .f32 0xFF800000#32) _ _ = _
  rw [negInf]
  refine congrArg (fun f => Finset.fold max ⊥ f (Finset.univ : Finset (Fin 512))) (funext fun k => congrArg s ?_)
  funext a
  match a with
  | ⟨0, _⟩ => rfl
  | ⟨1, _⟩ => rfl

/-- One over a row's sum of weights. -/
theorem inv_apply (p : FVec Ideal S2048x512 .f32) (r : Fin 2048) :
    k0_pay86 p (ix2 r 0) = Ideal.div 1 (∑ k : Fin 512, p (ix2 r k)) := by
  unfold k0_pay86
  refine congrArg₂ Ideal.div one_f32 ?_
  refine (shapeCast_apply _ _ _ (ix1 r) ?_).trans ?_
  · rw [Shape.rowMajor_val_one, Shape.rowMajor_val_two]
    show r.val = r.val * 1 + 0; omega
  refine (Ideal.multiReduction_add_single p _ _ _ _ (ix1 r)).trans ?_
  refine Finset.sum_congr rfl fun k _ => congrArg p ?_
  funext a
  match a with
  | ⟨0, _⟩ => rfl
  | ⟨1, _⟩ => rfl

/-- The scaled products of a tile's 128 rows and the values. -/
theorem scaled_apply (p : FVec Ideal S2048x512 .f32) (n : Fin 16) (v : Vec Ideal S1x512x128 .bf16) (i e : Fin 128) (r : Fin 2048)
    (hr : r.val = 128 * n.val + i.val) :
    mulf (matmul (F := Ideal) dot_S128x512_S512x128_S128x128_1_0_0_1_n_n none
      (extractStridedSlice S128x512 ![128 * n.val, 0] (k0_pay87 p) (slices_p n))
      (shapeCast S512x128 v shapeCasts_S1x512x128_S512x128 : FVec Ideal S512x128 .bf16) (constant S128x128 .f32 0x00000000#32))
      (broadcastTo S128x128 (extractStridedSlice S128x1 ![128 * n.val, 0] (k0_pay86 p) (slices_l n)) broadcasts_S128x1_S128x128) (ix2 i e)
      = (∑ k : Fin 512, p (ix2 r k) * v (ix3 0 k e)) * Ideal.div 1 (∑ k : Fin 512, p (ix2 r k)) := by
  refine congrArg₂ (· * ·) ?_ ?_
  · refine (Ideal.matmul_plain_apply (M := 128) (K := 512) (N := 128) none _ _ _ i e).trans ?_
    have hz : constant (F := Ideal) S128x128 .f32 0x00000000#32 (ix2 i e) = 0 := Ideal.ofBits_zero_f32
    rw [hz, zero_add]
    refine Finset.sum_congr rfl fun k _ => congrArg₂ (· * ·) ?_ ?_
    · refine extractStridedSlice_apply _ _ _ _ (ix2 r k) ?_
      intro a
      match a with
      | ⟨0, _⟩ => exact hr
      | ⟨1, _⟩ => show k.val = 0 + k.val; omega
    · refine (shapeCast_dropUnit_apply ![512, 128] v _ _).trans (congrArg v ?_)
      funext a
      match a with
      | ⟨0, _⟩ => rfl
      | ⟨1, _⟩ => rfl
      | ⟨2, _⟩ => rfl
  · refine (broadcastTo_apply _ _ _ (ix2 i 0) ?_).trans ?_
    · intro a
      match a with
      | ⟨0, _⟩ => rfl
      | ⟨1, _⟩ => rfl
    refine (extractStridedSlice_apply _ _ _ _ (ix2 r 0) ?_).trans (inv_apply p r)
    intro a
    match a with
    | ⟨0, _⟩ => exact hr
    | ⟨1, _⟩ => rfl

/-- A stored tile at column `qc`, lane `e`: the weighted sum of the values over the sum of the weights. -/
theorem tile_apply (p : FVec Ideal S2048x512 .f32) (n : Fin 16) (v : Vec Ideal S1x512x128 .bf16) (hh : Fin 2) (qc e : Fin 64) (r : Fin 2048)
    (hr : r.val = 128 * n.val + (64 * hh.val + qc.val)) :
    tile p n v (ix3 0 qc (pairRow hh e))
      = (∑ k : Fin 512, p (ix2 r k) * v (ix3 0 k (pairRow hh e))) * Ideal.div 1 (∑ k : Fin 512, p (ix2 r k)) := by
  unfold tile k0_pay92
  refine (shapeCast_addUnit_apply ![64, 128] _ _ _).trans ?_
  refine Eq.trans ?_ (scaled_apply p n v (pairRow hh qc) (pairRow hh e) r hr)
  have ei : (fun a : Fin 2 => (ix3 (0 : Fin 1) qc (pairRow hh e)) a.succ) = ix2 qc (pairRow hh e) := by
    funext a
    match a with
    | ⟨0, _⟩ => rfl
    | ⟨1, _⟩ => rfl
  refine (congrArg _ ei).trans ?_
  unfold select
  match hh with
  | 0 =>
    have hm : k0_pay2 (ix2 qc (pairRow 0 e)) = 1#1 := by
      rw [first_head, decide_eq_true (show (pairRow 0 e).val / 64 = 0 by show (64 * 0 + e.val) / 64 = 0; omega)]; rfl
    refine (if_pos hm).trans (extractStridedSlice_apply _ _ _ _ (ix2 (pairRow 0 qc) (pairRow 0 e)) ?_)
    intro a
    match a with
    | ⟨0, _⟩ => rfl
    | ⟨1, _⟩ => exact (Nat.zero_add _).symm
  | 1 =>
    have hm : ¬ k0_pay2 (ix2 qc (pairRow 1 e)) = 1#1 := by
      rw [first_head, decide_eq_false (show ¬ (pairRow 1 e).val / 64 = 0 by show ¬ (64 * 1 + e.val) / 64 = 0; omega)]; decide
    refine (if_neg hm).trans (extractStridedSlice_apply _ _ _ _ (ix2 (pairRow 1 qc) (pairRow 1 e)) ?_)
    intro a
    match a with
    | ⟨0, _⟩ => rfl
    | ⟨1, _⟩ => exact (Nat.zero_add _).symm

end Cert.NaBlock
-- ==== Proof.Loads.lean ====
module

public import proofs.«01_k».proof.Proof.Pieces
public import proofs.«01_k».proof.Proof.Tile
public import proofs.«01_k».proof.Proof.Spec

/-! The stored tiles, element by element, as formulas over the window's blocks: the queries' block, the keys' and the
values' windows, and the table. -/

@[expose] public section

set_option maxRecDepth 16384

noncomputable section

namespace Cert.NaBlock

open Idealize.ShloMosaic hiding ix2 ix3
open Idealize.ShloMosaic.Pipeline Idealize.ShloMosaic.ValueIdx Cert.KernelIdeal Cert.KernelIdeal.Gen
open Cert.Spec (lane)

/-- The row block of a grid point. -/
def rowBlock (i : grid0.Coords) : Fin 8 := i 1

/-- Head `hh` of the pair `hp`. -/
abbrev headOf (hp : Fin 4) (hh : Fin 2) : Fin 8 := ⟨2 * hp.val + hh.val, by omega⟩

/-- The token, within the row block, of row `a`, column `q`. -/
abbrev blockTok (a : Fin 16) (q : Fin 64) : Fin 1024 := ⟨64 * a.val + q.val, by omega⟩

/-- The token, within the keys' window, of the `kk`-th key of row `a`. -/
abbrev winTok (b : Fin 8) (a : Fin 16) (kk : Fin 512) : Fin 1536 :=
  ⟨64 * (rowStart (16 * b.val + a.val) - winStart b.val) + kk.val, by unfold rowStart winStart; omega⟩

/-- The table row of row `a`, head `h`, and the pair of key rows that the `kk`-th key lies in. -/
abbrev tableRow (b : Fin 8) (a : Fin 16) (h : Fin 8) (kk : Fin 512) : Fin 112 :=
  ⟨14 * h.val + 2 * (kk.val / 128) + 7 - ((16 * b.val + a.val) - rowStart (16 * b.val + a.val)), by
    unfold rowStart; omega⟩

section Loads

variable {F : FTy → Type} [FloatOps F]
  (i : grid0.Coords) (arg2 : Memref sig .tc .vmem S1x1024x512 .bf16) (harg2 : arg2.IsWhole)
  (arg3 : Memref sig .tc .vmem S1x1536x512 .bf16) (harg3 : arg3.IsWhole)
  (arg5 : Memref sig .tc .vmem S112x64x128 .f32) (harg5 : arg5.IsWhole)
  (x0 : Vec F S1x1024x512 .bf16) (x1 : Vec F S1x1536x512 .bf16) (x3 : Vec F S112x64x128 .f32)

/-- The loaded queries at head `hh` of the pair, component `e`. -/
theorem qLoad_apply (a : Fin 16) (hp : Fin 4) (hh : Fin 2) (q e : Fin 64) :
    qLoad arg2 harg2 x0 a hp (ix3 0 q (pairRow hh e)) = x0 (ix3 0 (blockTok a q) (lane (headOf hp hh) e)) := by
  unfold qLoad
  rw [View.readAt_eq_ld, harg2.read_unread]
  refine View.ld_unit_apply_of x0 _ _ _ _ _ fun d => ?_
  match d with
  | ⟨0, _⟩ => rfl
  | ⟨1, _⟩ => rfl
  | ⟨2, _⟩ => show 64 * (2 * hp.val + hh.val) + e.val = 128 * hp.val + (64 * hh.val + e.val); omega

/-- The loaded keys (or values) at head `hh` of the pair, component `e`. -/
theorem kvLoad_apply (a : Fin 16) (hp : Fin 4) (hh : Fin 2) (kk : Fin 512) (e : Fin 64) :
    kvLoad i arg3 harg3 x1 a hp (ix3 0 kk (pairRow hh e))
      = x1 (ix3 0 (winTok (rowBlock i) a kk) (lane (headOf hp hh) e)) := by
  unfold kvLoad
  rw [View.readAt_eq_ld, harg3.read_unread]
  refine View.ld_unit_apply_of x1 _ _ _ _ _ fun d => Eq.trans ?_ (congrArg (· + _) (congrFun (kvOff_eq i a hp) d).symm)
  match d with
  | ⟨0, _⟩ => rfl
  | ⟨1, _⟩ => rfl
  | ⟨2, _⟩ => show 64 * (2 * hp.val + hh.val) + e.val = 128 * hp.val + (64 * hh.val + e.val); omega

/-- The loaded table rows. -/
theorem tLoad_apply (a : Fin 16) (h : Fin 8) (q : Fin 64) (kk : Fin 512) :
    tLoad i arg5 harg5 x3 a h ⟨kk.val / 128, by omega⟩ (ix3 0 q ⟨kk.val % 128, by omega⟩)
      = x3 (ix3 (tableRow (rowBlock i) a h kk) q ⟨kk.val % 128, by omega⟩) := by
  unfold tLoad
  rw [View.readAt_eq_ld, harg5.read_unread]
  refine View.ld_unit_apply_of x3 _ _ _ _ _ fun d => Eq.trans ?_ (congrArg (· + _) (congrFun (tOff_eq i a h _) d).symm)
  match d with
  | ⟨0, _⟩ => rfl
  | ⟨1, _⟩ => exact (Nat.zero_add _).symm
  | ⟨2, _⟩ => exact (Nat.zero_add _).symm

end Loads

section Stored

variable (i : grid0.Coords) (arg2 : Memref sig .tc .vmem S1x1024x512 .bf16) (harg2 : arg2.IsWhole)
  (arg3 : Memref sig .tc .vmem S1x1536x512 .bf16) (harg3 : arg3.IsWhole)
  (arg4 : Memref sig .tc .vmem S1x1536x512 .bf16) (harg4 : arg4.IsWhole)
  (arg5 : Memref sig .tc .vmem S112x64x128 .f32) (harg5 : arg5.IsWhole)
  (x0 : Vec Ideal S1x1024x512 .bf16) (x1 x2 : Vec Ideal S1x1536x512 .bf16) (x3 : Vec Ideal S112x64x128 .f32)

/-- The kernel's score of the query `(a, q)` of the block and its `kk`-th key in head `h`. -/
def blockScore (b : Fin 8) (a : Fin 16) (q : Fin 64) (h : Fin 8) (kk : Fin 512) : EReal :=
  (∑ e : Fin 64, (x0 (ix3 0 (blockTok a q) (lane h e)) : EReal) * x1 (ix3 0 (winTok b a kk) (lane h e)))
    + x3 (ix3 (tableRow b a h kk) q ⟨kk.val % 128, by omega⟩)

/-- A mean of `v` under weights that are powers of two of the scores `s`, their sum divided out last. -/
def mean2 (s v : Fin 512 → EReal) : EReal :=
  (∑ k, Ideal.exp2 (s k - Spec.top s) * v k) * Ideal.div 1 (∑ k, Ideal.exp2 (s k - Spec.top s))

/-- Row `128 (4 k + hp) + 64 hh + q` of a batch's weights. -/
theorem batch_apply (B k hp : Fin 4) (hh : Fin 2) (q : Fin 64) (kk : Fin 512) (r : Fin 2048)
    (hr : r.val = 512 * k.val + (128 * hp.val + (64 * hh.val + q.val))) :
    batch i arg2 harg2 arg3 harg3 arg5 harg5 x0 x1 x3 B (ix2 r kk)
      = Ideal.exp2 (blockScore x0 x1 x3 (rowBlock i) ⟨4 * B.val + k.val, by omega⟩ q (headOf hp hh) kk
          - Spec.top (blockScore x0 x1 x3 (rowBlock i) ⟨4 * B.val + k.val, by omega⟩ q (headOf hp hh))) := by
  have hs : ∀ k' : Fin 512, (batchScores fun k => rowScores (qLoad arg2 harg2 x0 ⟨4 * B.val + k.val, by omega⟩)
      (kvLoad i arg3 harg3 x1 ⟨4 * B.val + k.val, by omega⟩) (tLoad i arg5 harg5 x3 ⟨4 * B.val + k.val, by omega⟩))
        (ix2 r k') = blockScore x0 x1 x3 (rowBlock i) ⟨4 * B.val + k.val, by omega⟩ q (headOf hp hh) k' := by
    intro k'
    rw [batchScores_apply _ k ⟨128 * hp.val + (64 * hh.val + q.val), by omega⟩ k' r hr,
      rowScores_apply _ _ _ hp hh q k' _ rfl]
    unfold blockScore
    refine congrArg₂ (· + ·) (Finset.sum_congr rfl fun e _ => ?_) ?_
    · rw [qLoad_apply, kvLoad_apply]
    · exact tLoad_apply i arg5 harg5 x3 _ _ q k'
  unfold batch
  rw [batchExp_apply, hs]
  refine congrArg (fun z => Ideal.exp2 (_ - Spec.top z)) (funext hs)

/-- A stored tile at row `4 B + k` of the block, column `q`, head `hh` of the pair `hp`, component `e`. -/
theorem stored_apply (B k hp : Fin 4) (hh : Fin 2) (q e : Fin 64) :
    stored i arg2 harg2 arg3 harg3 arg4 harg4 arg5 harg5 x0 x1 x2 x3 B k hp (ix3 0 q (pairRow hh e))
      = mean2 (blockScore x0 x1 x3 (rowBlock i) ⟨4 * B.val + k.val, by omega⟩ q (headOf hp hh))
          fun kk => x2 (ix3 0 (winTok (rowBlock i) ⟨4 * B.val + k.val, by omega⟩ kk) (lane (headOf hp hh) e)) := by
  have hr : (⟨128 * (4 * k.val + hp.val) + (64 * hh.val + q.val), by omega⟩ : Fin 2048).val
      = 512 * k.val + (128 * hp.val + (64 * hh.val + q.val)) := by
    show 128 * (4 * k.val + hp.val) + (64 * hh.val + q.val) = _; omega
  unfold stored
  rw [tile_apply _ _ _ hh q e ⟨128 * (4 * k.val + hp.val) + (64 * hh.val + q.val), by omega⟩ rfl]
  unfold mean2
  refine congrArg₂ (· * ·) (Finset.sum_congr rfl fun kk _ => ?_)
    (congrArg (Ideal.div 1) (Finset.sum_congr rfl fun kk _ => ?_))
  · rw [batch_apply _ _ _ _ _ _ _ _ _ _ B k hp hh q kk _ hr, kvLoad_apply]
  · rw [batch_apply _ _ _ _ _ _ _ _ _ _ B k hp hh q kk _ hr]

end Stored

end Cert.NaBlock
-- ==== Proof.Arrays.lean ====
module

public import proofs.«01_k».proof.Proof.Loads

/-! What the kernel's result array holds, as a formula over the arrays that the call is handed. -/

@[expose] public section

set_option maxRecDepth 16384

noncomputable section

namespace Cert.Arrays

open Idealize.ShloMosaic hiding ix2 ix3
open Idealize.ShloMosaic.Pipeline Idealize.ShloMosaic.ValueIdx Idealize.SL.Sem Cert.KernelIdeal Cert.KernelIdeal.Gen Cert.NaBlock
open Cert.Spec (lane tok keyTok Act)

/-- The table row for query row `r`, head `h`, and the pair of key rows that the `kk`-th key lies in. -/
abbrev tabRow (r : Fin 128) (h : Fin 8) (kk : Fin 512) : Fin 112 :=
  ⟨14 * h.val + 2 * (kk.val / 128) + 7 - (r.val - Spec.rowStart r.val), by unfold Spec.rowStart; omega⟩

/-- The kernel's score of the query `(r, q)` of batch `b` and its `kk`-th key in head `h`. -/
def kScore (X0 X1 : Act) (T : S112x64x128.Idx → EReal) (b : Fin 2) (r : Fin 128) (q : Fin 64) (h : Fin 8) (kk : Fin 512) : EReal :=
  (∑ e : Fin 64, X0 (ix3 b (tok r q) (lane h e)) * X1 (ix3 b (keyTok r kk) (lane h e)))
    + T (ix3 (tabRow r h kk) q ⟨kk.val % 128, by omega⟩)

/-- The kernel's result for the query `(r, q)` of batch `b`, head `h`, component `d`. -/
def result (X0 X1 X2 : Act) (T : S112x64x128.Idx → EReal) (b : Fin 2) (r : Fin 128) (q : Fin 64) (h : Fin 8) (d : Fin 64) : EReal :=
  mean2 (kScore X0 X1 T b r q h) fun kk => X2 (ix3 b (keyTok r kk) (lane h d))

/-- The batch of a grid point. -/
def batchOf (t : Fin cfg0.N) : Fin 2 := grid0.coords t 0

/-- The grid row of row `a` of a grid point's block. -/
def rowOf (t : Fin cfg0.N) (a : Fin 16) : Fin 128 := ⟨16 * (rowBlock (grid0.coords t)).val + a.val, by omega⟩

/-- The queries' block index. -/
theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

/-- The keys' window begins at this element. -/
theorem index1 : ∀ t : Fin cfg0.N, win0_1.index t = ![(grid0.coords t 0).val, 64 * winStart (grid0.coords t 1).val, 0] :=
  (by decide +kernel : ∀ t : Fin grid0.N, win0_1.index t = ![(grid0.coords t 0).val, 64 * winStart (grid0.coords t 1).val, 0])

/-- The values' window begins at this element. -/
theorem index2 : ∀ t : Fin cfg0.N, win0_2.index t = ![(grid0.coords t 0).val, 64 * winStart (grid0.coords t 1).val, 0] :=
  (by decide +kernel : ∀ t : Fin grid0.N, win0_2.index t = ![(grid0.coords t 0).val, 64 * winStart (grid0.coords t 1).val, 0])

/-- The table is one block. -/
theorem index3 : ∀ t : Fin cfg0.N, win0_3.index t = ![0, 0, 0] :=
  (by decide +kernel : ∀ t : Fin grid0.N, win0_3.index t = ![0, 0, 0])

/-- The result's block index. -/
theorem index4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])

/-- Where the queries' block lies. -/
theorem emb0 (t : Fin cfg0.N) (a : Fin 16) (q : Fin 64) (l : Fin 512) :
    (win0_0.blk t).view.emb (ix3 0 (blockTok a q) l) = ix3 (batchOf t) (tok (rowOf t a) q) l := by
  funext d
  refine Fin.ext ?_
  blk_simp [index0]
  match d with
  | ⟨0, _⟩ => show (grid0.coords t 0).val * 1 + 0 = (grid0.coords t 0).val; omega
  | ⟨1, _⟩ =>
    show (grid0.coords t 1).val * 1024 + (64 * a.val + q.val) = 64 * (16 * (grid0.coords t 1).val + a.val) + q.val
    omega
  | ⟨2, _⟩ => show 0 * 512 + l.val = l.val; omega

/-- Where the result's block lies. -/
theorem emb4 (t : Fin cfg0.N) (a : Fin 16) (q : Fin 64) (l : Fin 512) :
    (win0_4.blk t).view.emb (ix3 0 (blockTok a q) l) = ix3 (batchOf t) (tok (rowOf t a) q) l := by
  funext d
  refine Fin.ext ?_
  blk_simp [index4]
  match d with
  | ⟨0, _⟩ => show (grid0.coords t 0).val * 1 + 0 = (grid0.coords t 0).val; omega
  | ⟨1, _⟩ =>
    show (grid0.coords t 1).val * 1024 + (64 * a.val + q.val) = 64 * (16 * (grid0.coords t 1).val + a.val) + q.val
    omega
  | ⟨2, _⟩ => show 0 * 512 + l.val = l.val; omega

/-- The window's rows of the grid: the `kk`-th key of row `a`. -/
theorem winTok_eq (b : Fin 8) (a : Fin 16) (kk : Fin 512) (r : Fin 128) (hr : r.val = 16 * b.val + a.val) :
    64 * winStart b.val + (winTok b a kk).val = (keyTok r kk).val := by
  show 64 * winStart b.val + (64 * (rowStart (16 * b.val + a.val) - winStart b.val) + kk.val)
    = 64 * (Spec.rowStart r.val + kk.val / 64) + kk.val % 64
  rw [hr]
  unfold winStart rowStart Spec.rowStart
  omega

/-- Where the keys' window lies. -/
theorem emb1 (t : Fin cfg0.N) (a : Fin 16) (kk : Fin 512) (l : Fin 512) :
    (win0_1.blk t).view.emb (ix3 0 (winTok (rowBlock (grid0.coords t)) a kk) l) = ix3 (batchOf t) (keyTok (rowOf t a) kk) l := by
  funext d
  refine Fin.ext ?_
  refine Eq.trans (b := win0_1.index t d + 1 * (ix3 (0 : Fin 1) (winTok (rowBlock (grid0.coords t)) a kk) l d).val) rfl ?_
  rw [index1, Nat.one_mul]
  match d with
  | ⟨0, _⟩ => rfl
  | ⟨1, _⟩ => exact winTok_eq (rowBlock (grid0.coords t)) a kk (rowOf t a) rfl
  | ⟨2, _⟩ => exact Nat.zero_add _

/-- Where the values' window lies. -/
theorem emb2 (t : Fin cfg0.N) (a : Fin 16) (kk : Fin 512) (l : Fin 512) :
    (win0_2.blk t).view.emb (ix3 0 (winTok (rowBlock (grid0.coords t)) a kk) l) = ix3 (batchOf t) (keyTok (rowOf t a) kk) l := by
  funext d
  refine Fin.ext ?_
  refine Eq.trans (b := win0_2.index t d + 1 * (ix3 (0 : Fin 1) (winTok (rowBlock (grid0.coords t)) a kk) l d).val) rfl ?_
  rw [index2, Nat.one_mul]
  match d with
  | ⟨0, _⟩ => rfl
  | ⟨1, _⟩ => exact winTok_eq (rowBlock (grid0.coords t)) a kk (rowOf t a) rfl
  | ⟨2, _⟩ => exact Nat.zero_add _

/-- The table's block is the table. -/
theorem emb3 (t : Fin cfg0.N) (x : S112x64x128.Idx) : (win0_3.blk t).view.emb x = x := by
  funext d
  refine Fin.ext ?_
  blk_simp [index3]
  match d with
  | ⟨0, _⟩ => show 0 * 112 + (x 0).val = (x 0).val; omega
  | ⟨1, _⟩ => show 0 * 64 + (x 1).val = (x 1).val; omega
  | ⟨2, _⟩ => show 0 * 128 + (x 2).val = (x 2).val; omega

section Blocks

variable (m : (ℓ : Loc nD τ sig) → Buf (Elt Ideal) ℓ) (c : Dev nD)

/-- The queries that the call is handed. -/
def arrQ : Act := V m c main_v5
/-- The keys that the call is handed. -/
def arrK : Act := V m c main_v6
/-- The values that the call is handed. -/
def arrV : Act := V m c main_v7
/-- The table that the call is handed. -/
def arrT : S112x64x128.Idx → EReal := V m c main_v77

/-- The queries' block. -/
theorem blk0 (t : Fin cfg0.N) (a : Fin 16) (q : Fin 64) (l : Fin 512) :
    iblk m c 0 t (ix3 0 (blockTok a q) l) = arrQ m c (ix3 (batchOf t) (tok (rowOf t a) q) l) := by
  rw [← emb0]; rfl

/-- The keys' window. -/
theorem blk1 (t : Fin cfg0.N) (a : Fin 16) (kk : Fin 512) (l : Fin 512) :
    iblk m c 1 t (ix3 0 (winTok (rowBlock (grid0.coords t)) a kk) l) = arrK m c (ix3 (batchOf t) (keyTok (rowOf t a) kk) l) := by
  rw [← emb1]; rfl

/-- The values' window. -/
theorem blk2 (t : Fin cfg0.N) (a : Fin 16) (kk : Fin 512) (l : Fin 512) :
    iblk m c 2 t (ix3 0 (winTok (rowBlock (grid0.coords t)) a kk) l) = arrV m c (ix3 (batchOf t) (keyTok (rowOf t a) kk) l) := by
  rw [← emb2]; rfl

/-- The table's block. -/
theorem blk3 (t : Fin cfg0.N) (x : S112x64x128.Idx) : iblk m c 3 t x = arrT m c x := by
  have e : arrT m c ((win0_3.blk t).view.emb x) = arrT m c x := congrArg (arrT m c) (emb3 t x)
  rw [← e]; rfl

/-- The scores over blocks that are parts of arrays. -/
theorem blockScore_eq (x0 : Vec Ideal S1x1024x512 .bf16) (x1 : Vec Ideal S1x1536x512 .bf16) (x3 : Vec Ideal S112x64x128 .f32)
    (X0 X1 : Act) (T : S112x64x128.Idx → EReal) (b : Fin 2) (rb : Fin 8) (a : Fin 16) (r : Fin 128)
    (hr : r.val = 16 * rb.val + a.val)
    (h0 : ∀ q l, x0 (ix3 0 (blockTok a q) l) = X0 (ix3 b (tok r q) l))
    (h1 : ∀ kk l, x1 (ix3 0 (winTok rb a kk) l) = X1 (ix3 b (keyTok r kk) l))
    (h3 : ∀ x, x3 x = T x) (q : Fin 64) (h : Fin 8) :
    blockScore x0 x1 x3 rb a q h = kScore X0 X1 T b r q h := by
  funext kk
  have et : tableRow rb a h kk = tabRow r h kk := Fin.ext (by
    show 14 * h.val + 2 * (kk.val / 128) + 7 - ((16 * rb.val + a.val) - rowStart (16 * rb.val + a.val))
      = 14 * h.val + 2 * (kk.val / 128) + 7 - (r.val - Spec.rowStart r.val)
    rw [hr]; rfl)
  unfold blockScore kScore
  rw [h3, et]
  refine congrArg (· + _) (Finset.sum_congr rfl fun e _ => ?_)
  rw [h0, h1]

/-- The block that a grid point leaves, at row `a`. -/
theorem block_eq (t : Fin cfg0.N) (y : S1x1024x512.Idx) (v : EReal)
    (h : ∀ (a : Fin 16) (q : Fin 64) (g : Fin 8) (e : Fin 64), y = ix3 0 (blockTok a q) (lane g e) →
      result (arrQ m c) (arrK m c) (arrV m c) (arrT m c) (batchOf t) (rowOf t a) q g e = v) :
    outsAt0 m c t y = v := by
  unfold outsAt0
  refine out_eq _ _ _ _ _ _ _ _ _ _ _ _ _ c _ _ y _ fun B k hp x hx => ?_
  obtain ⟨q, hh, e, hq⟩ : ∃ (q : Fin 64) (hh : Fin 2) (e : Fin 64), x = ix3 0 q (pairRow hh e) := by
    have h2 : (x 2).val < 128 := (x 2).isLt
    refine ⟨x 1, ⟨(x 2).val / 64, by omega⟩, ⟨(x 2).val % 64, by omega⟩, funext fun d => Fin.ext ?_⟩
    match d with
    | ⟨0, _⟩ => show (x 0).val = 0; have : (x 0).val < 1 := (x 0).isLt; omega
    | ⟨1, _⟩ => rfl
    | ⟨2, _⟩ => show (x 2).val = 64 * ((x 2).val / 64) + (x 2).val % 64; omega
  subst hq
  have hy : y = ix3 0 (blockTok ⟨4 * B.val + k.val, by omega⟩ q) (lane (headOf hp hh) e) := by
    funext d
    refine Fin.ext ((hx d).trans ?_)
    match d with
    | ⟨0, _⟩ => rfl
    | ⟨1, _⟩ =>
      show 64 * (4 * B.val + k.val) + q.val = 64 * (4 * B.val + k.val) + q.val
      rfl
    | ⟨2, _⟩ => show 128 * hp.val + (64 * hh.val + e.val) = 64 * (2 * hp.val + hh.val) + e.val; omega
  rw [← h ⟨4 * B.val + k.val, by omega⟩ q (headOf hp hh) e hy]
  refine (stored_apply _ _ _ _ _ _ _ _ _ _ _ _ _ B k hp hh q e).trans ?_
  unfold result
  refine congrArg₂ mean2 ?_ (funext fun kk => ?_)
  · exact blockScore_eq _ _ _ _ _ _ (batchOf t) _ _ (rowOf t _) rfl (fun q l => blk0 m c t _ q l) (fun kk l => blk1 m c t _ kk l)
      (fun x => blk3 m c t x) q _
  · exact blk2 m c t _ kk _

/-- The result array. -/
theorem array_eq (G : Act)
    (hG : ∀ b r q h d, G (ix3 b (tok r q) (lane h d)) = result (arrQ m c) (arrK m c) (arrV m c) (arrT m c) b r q h d) :
    (dats m 0 c).arrAt 4 cfg0.N = G := by
  refine (dats m 0 c).arrAt_eq_of_covers 4 G (by decide +kernel) fun t hf y => ?_
  blk_simp
  rw [after0_4]
  refine block_eq m c t y _ fun a q g e hy => ?_
  rw [← hG, ← emb4 t a q]
  exact congrArg (fun z => G ((win0_4.blk t).view.emb z)) hy.symm

end Blocks

end Cert.Arrays
-- ==== Proof.Host.lean ====
module

public import proofs.«01_k».proof.Proof.Gen.KernelIdeal.Value
public import proofs.«01_k».proof.Proof.Spec
public import Idealize.ShloMosaic.Lib.StableHlo.RunRead

/-! What the kernel's host code hands to the call: the scaled queries, the keys, the values, and the table, each as a
function of the arguments. -/

@[expose] public section

set_option maxRecDepth 16384

noncomputable section

namespace Cert.Host

open Idealize.ShloMosaic Idealize.SL.Sem Cert.KernelIdeal Cert.KernelIdeal.Gen Idealize.ShloMosaic.StableHlo
open Cert.Spec (Act Rpb)

/-- One over the logarithm of two. -/
def log2e : FVec Ideal S_ .f32 := Host.divf (constant S_ .f32 0x3F800000#32) (Host.log (constant S_ .f32 0x40000000#32))

/-- The queries times the head scale and `log2e`. -/
def queries (Q : Act) : FVec Ideal S2x8192x512 .bf16 :=
  truncf .bf16 (mulf (show FVec Ideal S2x8192x512 .f32 from Q)
    (broadcastInDim S2x8192x512 ![] bcast_S_S2x8192x512 (mulf (constant S_ .f32 0x3E000000#32) log2e))) bitsLt_bf16_f32

/-- The columns. -/
def cols : IVec S64 32 := iotaInDim S64 32 0

/-- Each query column's first key column. -/
def firstCol : IVec S64 32 :=
  minsi (broadcastInDim S64 ![] bcast_S_S64 (constantI S_ 32 48#32))
    (maxsi (broadcastInDim S64 ![] bcast_S_S64 (constantI S_ 32 0#32))
      (subi cols (broadcastInDim S64 ![] bcast_S_S64 (constantI S_ 32 8#32))))

/-- The columns along the second axis. -/
def keyCols : IVec S64x64 32 :=
  broadcastInDim S64x64 ![0, 1] bcast_S1x64_S64x64_0_1 (broadcastInDim S1x64 ![1] bcast_S64_S1x64_1 cols)

/-- Which key columns each query column attends to. -/
def mask : IVec S64x64 1 :=
  andi (cmpi .sge keyCols
      (broadcastInDim S64x64 ![0, 1] bcast_S64x1_S64x64_0_1 (broadcastInDim S64x1 ![0] bcast_S64_S64x1_0 firstCol)))
    (cmpi .slt keyCols
      (broadcastInDim S64x64 ![0, 1] bcast_S64x1_S64x64_0_1
        (addi (broadcastInDim S64x1 ![0] bcast_S64_S64x1_0 firstCol)
          (broadcastInDim S64x1 ![] bcast_S_S64x1 (constantI S_ 32 16#32)))))

/-- The bias table's column of each pair of columns. -/
def biasCol : IVec S64x64 32 :=
  minsi (broadcastInDim S64x64 ![] bcast_S_S64x64 (constantI S_ 32 30#32))
    (maxsi (broadcastInDim S64x64 ![] bcast_S_S64x64 (constantI S_ 32 0#32))
      (addi (subi keyCols
          (broadcastInDim S64x64 ![0, 1] bcast_S64x1_S64x64_0_1 (broadcastInDim S64x1 ![0] bcast_S64_S64x1_0 cols)))
        (broadcastInDim S64x64 ![] bcast_S_S64x64 (constantI S_ 32 15#32))))

/-- Whether a column of the bias table is the one of a pair of columns. -/
def colHot : IVec S31x64x64 1 :=
  cmpi .eq (broadcastInDim S31x64x64 ![0, 1, 2] bcast_S1x64x64_S31x64x64_0_1_2
      (broadcastInDim S1x64x64 ![1, 2] bcast_S64x64_S1x64x64_1_2 biasCol))
    (broadcastInDim S31x64x64 ![0, 1, 2] bcast_S31x1x1_S31x64x64_0_1_2
      (broadcastInDim S31x1x1 ![0] bcast_S31_S31x1x1_0 (iotaInDim S31 32 0)))

/-- Whether the two rows of a pair are the same. -/
def rowHot : IVec S2x2 1 :=
  cmpi .eq (broadcastInDim S2x2 ![0, 1] bcast_S2x1_S2x2_0_1 (broadcastInDim S2x1 ![0] bcast_S2_S2x1_0 (iotaInDim S2 32 0)))
    (broadcastInDim S2x2 ![0, 1] bcast_S1x2_S2x2_0_1 (broadcastInDim S1x2 ![1] bcast_S2_S1x2_1 (iotaInDim S2 32 0)))

/-- Both at once. -/
def hot : IVec S2x31x64x2x64 1 :=
  andi (broadcastInDim S2x31x64x2x64 ![0, 1, 2, 3, 4] bcast_S2x1x1x2x1_S2x31x64x2x64_0_1_2_3_4
      (broadcastInDim S2x1x1x2x1 ![0, 3] bcast_S2x2_S2x1x1x2x1_0_3 rowHot))
    (broadcastInDim S2x31x64x2x64 ![0, 1, 2, 3, 4] bcast_S1x31x64x1x64_S2x31x64x2x64_0_1_2_3_4
      (broadcastInDim S1x31x64x1x64 ![1, 2, 4] bcast_S31x64x64_S1x31x64x1x64_1_2_4 colHot))

/-- The selection of the bias table's entries, as a matrix of zeros and ones. -/
def select : FVec Ideal S62x8192 .f32 :=
  shapeCast S62x8192 (uitofp .f32 hot : FVec Ideal S2x31x64x2x64 .f32) shapeCasts_S2x31x64x2x64_S62x8192

/-- Zero at the seen keys, minus infinity at the others. -/
def masked : FVec Ideal S64x64 .f32 :=
  Idealize.ShloMosaic.select mask (broadcastInDim S64x64 ![] bcast_S_S64x64 (constant S_ .f32 0x00000000#32))
    (broadcastInDim S64x64 ![] bcast_S_S64x64 (constant S_ .f32 0xFF800000#32))

/-- The mask, in one row. -/
def maskRow : FVec Ideal S1x8192 .f32 :=
  shapeCast S1x8192 (broadcastInDim S64x2x64 ![0, 1, 2] bcast_S64x1x64_S64x2x64_0_1_2
    (broadcastInDim S64x1x64 ![0, 2] bcast_S64x64_S64x1x64_0_2 masked)) shapeCasts_S64x2x64_S1x8192

/-- The selection over the mask. -/
def rhs : FVec Ideal S63x8192 .f32 :=
  concatenate S63x8192 0 [⟨S62x8192, select⟩, ⟨S1x8192, maskRow⟩] concatenates_S62x8192_S1x8192_S63x8192_d0

/-- Each row of the bias table beside the next. -/
def biasPairs (B : Rpb) : FVec Ideal S8x14x2x31 .f32 :=
  concatenate S8x14x2x31 2
    [⟨S8x14x1x31, broadcastInDim S8x14x1x31 ![0, 1, 3] bcast_S8x14x31_S8x14x1x31_0_1_3
      (extractStridedSlice S8x14x31 ![0, 0, 0] (show FVec Ideal S8x15x31 .f32 from B) slices_S8x15x31_S8x14x31_0_0_0)⟩,
    ⟨S8x14x1x31, broadcastInDim S8x14x1x31 ![0, 1, 3] bcast_S8x14x31_S8x14x1x31_0_1_3
      (extractStridedSlice S8x14x31 ![0, 1, 0] (show FVec Ideal S8x15x31 .f32 from B) slices_S8x15x31_S8x14x31_0_1_0)⟩]
    concatenates_S8x14x1x31_S8x14x1x31_S8x14x2x31_d2

/-- Those pairs of rows, times `log2e`. -/
def biasRows (B : Rpb) : FVec Ideal S112x62 .f32 :=
  shapeCast S112x62 (mulf (biasPairs B) (broadcastInDim S8x14x2x31 ![] bcast_S_S8x14x2x31 log2e))
    shapeCasts_S8x14x2x31_S112x62

/-- The same beside a column of ones. -/
def lhs (B : Rpb) : FVec Ideal S112x63 .f32 :=
  concatenate S112x63 1 [⟨S112x62, biasRows B⟩,
    ⟨S112x1, broadcastInDim S112x1 ![] bcast_S_S112x1 (constant S_ .f32 0x3F800000#32)⟩] concatenates_S112x62_S112x1_S112x63_d1

/-- The product of the two, term by term. -/
def terms (a : FVec Ideal S112x63 .f32) (b : FVec Ideal S63x8192 .f32) : FVec Ideal S112x63x8192 .f32 :=
  mulf (broadcastInDim S112x63x8192 ![0, 1, 2] bcast_S112x63x1_S112x63x8192_0_1_2
      (broadcastInDim S112x63x1 ![0, 1] bcast_S112x63_S112x63x1_0_1 a))
    (broadcastInDim S112x63x8192 ![0, 1, 2] bcast_S1x63x8192_S112x63x8192_0_1_2
      (broadcastInDim S1x63x8192 ![1, 2] bcast_S63x8192_S1x63x8192_1_2 b))

/-- The product of two matrices, in the table's shape. -/
def product (a : FVec Ideal S112x63 .f32) (b : FVec Ideal S63x8192 .f32) : FVec Ideal S112x64x128 .f32 :=
  shapeCast S112x64x128 (Host.reduceAdd (terms a b) (constant S_ .f32 0x00000000#32)
    reducesTo_S112x63x8192_S112x8192_d1 h_S_) shapeCasts_S112x8192_S112x64x128

/-- The table. -/
def table (B : Rpb) : FVec Ideal S112x64x128 .f32 := product (lhs B) rhs

section Reads

variable (m : (ℓ : Loc nD τ sig) → Buf (Elt Ideal) ℓ) (c : Dev nD)

/-- The call's queries. -/
theorem V5 : V m c main_v5 = queries (show Act from m (c.tc.loc main_arg0)) := by
  after_reads_simp
  rfl

/-- The call's keys. -/
theorem V6 : V m c main_v6 = m (c.tc.loc main_arg1) := by
  after_reads_simp
  rfl

/-- The call's values. -/
theorem V7 : V m c main_v7 = m (c.tc.loc main_arg2) := by
  after_reads_simp
  rfl

/-- The host code's operations. -/
abbrev ops : List (HloOp τ sig (Elt Ideal)) :=
  List.flatten [hostOps0, hostOps0_1, hostOps0_2, hostOps0_3, hostOps0_4, hostOps0_5, hostOps0_6]

/-- The contents before the host code. -/
abbrev start : Valuation τ sig (Elt Ideal) := fun b => m (c, b)

/-- The selection, as the host code leaves it. -/
theorem read_select : upto ops (start m c) 82 (Proc.devRef .tc main_v55) = select := by
  after_reads_simp
  rfl

/-- The mask, as the host code leaves it. -/
theorem read_maskRow : upto ops (start m c) 82 (Proc.devRef .tc main_v57) = maskRow := by
  after_reads_simp
  rfl

/-- The pairs of bias rows, as the host code leaves them. -/
theorem read_biasRows : upto ops (start m c) 97 (Proc.devRef .tc main_v68)
    = biasRows (show Rpb from m (c.tc.loc main_arg3)) := by
  after_reads_simp
  unfold biasRows biasPairs
  refine congrArg (fun X => shapeCast S112x62 (mulf X _) _) ?_
  refine congrArg₂ (fun a b => concatenate S8x14x2x31 2 [⟨S8x14x1x31, a⟩, ⟨S8x14x1x31, b⟩]
    concatenates_S8x14x1x31_S8x14x1x31_S8x14x2x31_d2) ?_ ?_
  · after_reads_simp
  · after_reads_simp

/-- The call's table. -/
theorem V77 : V m c main_v77 = table (show Rpb from m (c.tc.loc main_arg3)) := by
  after_reads_simp
  unfold table
  refine congrArg₂ product ?_ ?_
  · refine congrArg₂ (fun a b => concatenate S112x63 1 [⟨S112x62, a⟩, ⟨S112x1, b⟩] concatenates_S112x62_S112x1_S112x63_d1)
      (read_biasRows m c) ?_
    after_reads_simp
  · exact congrArg₂ (fun a b => concatenate S63x8192 0 [⟨S62x8192, a⟩, ⟨S1x8192, b⟩]
      concatenates_S62x8192_S1x8192_S63x8192_d0) (read_select m c) (read_maskRow m c)

end Reads

end Cert.Host
-- ==== Proof.Softmax.lean ====
module

public import proofs.«01_k».proof.Proof.Spec

/-! The softmax of scores to the base e is the one to the base 2 of the scores times log₂ e, and dividing the weighted
sum by the sum of the weights is weighting by the quotients. -/

@[expose] public section

noncomputable section

namespace Cert.Softmax

open Idealize.ShloMosaic Cert.Spec

/-- log₂ e. -/
def kappa : ℝ := 1 / Real.log 2

/-- It is positive. -/
theorem kappa_pos : 0 < kappa := one_div_pos.mpr (Real.log_pos one_lt_two)

/-- Two to the multiple of log₂ e. -/
theorem rpow_kappa (x : ℝ) : Real.rpow 2 (x * kappa) = Real.exp x := by
  show (2 : ℝ) ^ (x * kappa) = _
  rw [Real.rpow_def_of_pos two_pos]
  congr 1
  have : Real.log 2 ≠ 0 := (Real.log_pos one_lt_two).ne'
  unfold kappa
  field_simp

/-- The largest score is one of the scores, or `⊥`. -/
theorem top_mem (s : Fin 512 → EReal) : top s = ⊥ ∨ ∃ k, top s = s k := by
  unfold top
  induction (Finset.univ : Finset (Fin 512)) using Finset.induction_on with
  | empty => exact Or.inl rfl
  | insert a t ha ih =>
    rw [Finset.fold_insert ha]
    rcases max_choice (s a) (t.fold max ⊥ s) with e | e
    · exact Or.inr ⟨a, e⟩
    · rw [e]; exact ih

/-- No score is above the largest. -/
theorem le_top (s : Fin 512 → EReal) (k : Fin 512) : s k ≤ top s := by
  unfold top
  exact (Finset.le_fold_max _).mpr (Or.inr ⟨k, Finset.mem_univ k, le_rfl⟩)

/-- Scores all real or `⊥`, one of them real: the largest is real. -/
theorem top_real (s : Fin 512 → EReal) (hs : ∀ k, s k = ⊥ ∨ ∃ x : ℝ, s k = x) (k₀ : Fin 512) (h₀ : s k₀ ≠ ⊥) :
    ∃ x : ℝ, top s = x := by
  rcases top_mem s with e | ⟨k, e⟩
  · exact absurd (le_bot_iff.mp (e ▸ le_top s k₀)) h₀
  · rcases hs k with h | ⟨x, h⟩
    · exact absurd (le_bot_iff.mp ((e.trans h) ▸ le_top s k₀)) h₀
    · exact ⟨x, e.trans h⟩

/-- Scaling by a positive factor scales the largest score. -/
theorem top_scale (s s' : Fin 512 → EReal) (c : ℝ) (hc : 0 < c)
    (h : ∀ k, s k = ⊥ ∧ s' k = ⊥ ∨ ∃ x : ℝ, s k = x ∧ s' k = ((x * c : ℝ) : EReal)) (k₀ : Fin 512) (h₀ : s k₀ ≠ ⊥) :
    ∃ x : ℝ, top s = x ∧ top s' = ((x * c : ℝ) : EReal) := by
  obtain ⟨x, hx⟩ := top_real s (fun k => (h k).imp (·.1) fun ⟨y, hy⟩ => ⟨y, hy.1⟩) k₀ h₀
  refine ⟨x, hx, le_antisymm ?_ ?_⟩
  · rcases top_mem s' with e | ⟨k, e⟩
    · rw [e]; exact bot_le
    · rw [e]
      rcases h k with ⟨_, e'⟩ | ⟨y, ey, e'⟩
      · rw [e']; exact bot_le
      · rw [e']
        have : (y : EReal) ≤ x := by rw [← ey, ← hx]; exact le_top s k
        exact EReal.coe_le_coe_iff.mpr (mul_le_mul_of_nonneg_right (EReal.coe_le_coe_iff.mp this) hc.le)
  · rcases top_mem s with e | ⟨k, e⟩
    · rw [hx] at e; exact absurd e (EReal.coe_ne_bot x)
    · rcases h k with ⟨e', _⟩ | ⟨y, ey, e'⟩
      · rw [hx, e'] at e; exact absurd e (EReal.coe_ne_bot x)
      · have : x = y := EReal.coe_injective (hx.symm.trans (e.trans ey))
        rw [this, ← e']; exact le_top s' k

/-- The weights are the same to either base. -/
theorem weight_eq (s s' : Fin 512 → EReal)
    (h : ∀ k, s k = ⊥ ∧ s' k = ⊥ ∨ ∃ x : ℝ, s k = x ∧ s' k = ((x * kappa : ℝ) : EReal)) (k₀ : Fin 512) (h₀ : s k₀ ≠ ⊥) (k : Fin 512) :
    ∃ w : ℝ, 0 ≤ w ∧ Ideal.exp2 (s' k - top s') = w ∧ Ideal.exp (s k - top s) = w ∧ (s k ≠ ⊥ → 0 < w) := by
  obtain ⟨m, e, e'⟩ := top_scale s s' kappa kappa_pos h k₀ h₀
  rcases h k with ⟨hk, hk'⟩ | ⟨x, hk, hk'⟩
  · refine ⟨0, le_rfl, ?_, ?_, fun h => absurd hk h⟩
    · rw [hk', EReal.bot_sub]; rfl
    · rw [hk, EReal.bot_sub]; rfl
  · refine ⟨Real.exp (x - m), (Real.exp_pos _).le, ?_, ?_, fun _ => Real.exp_pos _⟩
    · rw [hk', e', ← EReal.coe_sub, ← sub_mul, ← rpow_kappa]; rfl
    · rw [hk, e, ← EReal.coe_sub]; rfl

/-- A sum of real numbers, coerced. -/
theorem coe_sum {n : Nat} (w : Fin n → ℝ) : ((∑ k, w k : ℝ) : EReal) = ∑ k, (w k : EReal) := by
  induction (Finset.univ : Finset (Fin n)) using Finset.induction_on with
  | empty => rfl
  | insert a t ha ih => rw [Finset.sum_insert ha, Finset.sum_insert ha, EReal.coe_add, ih]

/-- A product by a nonnegative real, distributed over a sum. -/
theorem sum_mul_real {n : Nat} (f : Fin n → EReal) (c : ℝ) (hc : 0 ≤ c) : (∑ k, f k) * (c : EReal) = ∑ k, f k * c := by
  induction (Finset.univ : Finset (Fin n)) using Finset.induction_on with
  | empty => rw [Finset.sum_empty, Finset.sum_empty, zero_mul]
  | insert a t ha ih =>
    rw [Finset.sum_insert ha, Finset.sum_insert ha, ← ih]
    exact EReal.right_distrib_of_nonneg_of_ne_top (EReal.coe_nonneg.mpr hc) (EReal.coe_ne_top c) _ _

/-- The weighted sum to the base 2, divided by the sum of its weights, is the softmax-weighted mean. -/
theorem mean_eq (s s' v : Fin 512 → EReal)
    (h : ∀ k, s k = ⊥ ∧ s' k = ⊥ ∨ ∃ x : ℝ, s k = x ∧ s' k = ((x * kappa : ℝ) : EReal)) (k₀ : Fin 512) (h₀ : s k₀ ≠ ⊥) :
    (∑ k, Ideal.exp2 (s' k - top s') * v k) * Ideal.div 1 (∑ k, Ideal.exp2 (s' k - top s')) = softmaxMean s v := by
  choose w w0 e2 e1 wp using weight_eq s s' h k₀ h₀
  have hl : 0 < ∑ k, w k := Finset.sum_pos' (fun k _ => w0 k) ⟨k₀, Finset.mem_univ _, wp k₀ h₀⟩
  unfold softmaxMean
  simp only [e2, e1, ← coe_sum]
  have hne : ((∑ k, w k : ℝ) : EReal) ≠ 0 := fun h => hl.ne' (EReal.coe_injective h)
  unfold Ideal.div
  simp only [if_neg hne]
  rw [one_mul, ← EReal.coe_inv, sum_mul_real _ _ (inv_nonneg.mpr hl.le)]
  refine Finset.sum_congr rfl fun k _ => ?_
  rw [mul_comm (w k : EReal), mul_assoc]

end Cert.Softmax
-- ==== Proof.Table.lean ====
module

public import proofs.«01_k».proof.Proof.Host
public import proofs.«01_k».proof.Proof.Softmax
public import Idealize.ShloMosaic.Lib.Pipeline.Value
public import Idealize.ShloMosaic.PureOps.Ideal.Laws

/-! The values of the call's operands: the scaled queries, and the table, which holds at a seen key the bias times
log₂ e and at the others minus infinity. -/

@[expose] public section

set_option maxRecDepth 16384

noncomputable section

namespace Cert.Host

open Cert.Consts Idealize.ShloMosaic Idealize.ShloMosaic.ValueIdx Cert.KernelIdeal Cert.KernelIdeal.Gen
open Cert.Spec (Act Rpb seen colOff)
open Cert.Softmax (kappa)

/-- The host code's factor is log₂ e. -/
theorem log2e_apply (i : S_.Idx) : log2e i = ((kappa : ℝ) : EReal) := by
  show Ideal.div (Ideal.ofBits .f32 0x3F800000#32) (Ideal.log (Ideal.ofBits .f32 0x40000000#32)) = _
  rw [one_f32, two_f32, Ideal.log_coe, if_neg (by norm_num), Ideal.div_coe (Real.log_pos one_lt_two).ne', one_mul]
  rfl

/-- The scaled queries. -/
theorem queries_apply (Q : Act) (i : S2x8192x512.Idx) : queries Q i = Q i * (((1 / 8 * kappa : ℝ)) : EReal) := by
  show Q i * (Ideal.ofBits .f32 0x3E000000#32 * log2e _) = _
  rw [eighth, log2e_apply, EReal.coe_mul]

/-- The mask. -/
theorem mask_apply (q c : Fin 64) : mask (ix2 q c) = BitVec.ofBool (seen q.val c.val) := by
  revert q c; decide +kernel

/-- The bias table's column. -/
theorem biasCol_apply (q c : Fin 64) : biasCol (ix2 q c) = BitVec.ofNat 32 (colOff q.val c.val) := by
  revert q c; decide +kernel

/-- The rows of a pair. -/
theorem rowHot_apply (j j' : Fin 2) : rowHot (ix2 j' j) = BitVec.ofBool (decide (j' = j)) := by
  revert j j'; decide +kernel

/-- The column selected by a pair of columns. -/
theorem colHot_apply (o : Fin 31) (q c : Fin 64) :
    colHot (ix3 o q c) = BitVec.ofBool (decide (o.val = colOff q.val c.val)) := by
  have e : colHot (ix3 o q c) = BitVec.ofBool (biasCol (ix2 q c) == BitVec.ofNat 32 o.val) := by
    unfold colHot
    refine congrArg BitVec.ofBool (congrArg (· == _) (congrArg biasCol (funext fun a => ?_)))
    match a with
    | ⟨0, _⟩ => rfl
    | ⟨1, _⟩ => rfl
  rw [e, biasCol_apply]
  refine congrArg BitVec.ofBool ?_
  have h : colOff q.val c.val < 31 := by unfold colOff; omega
  rw [Bool.eq_iff_iff, beq_iff_eq, decide_eq_true_iff]
  constructor
  · intro h'
    have := congrArg BitVec.toNat h'
    rw [BitVec.toNat_ofNat, BitVec.toNat_ofNat, Nat.mod_eq_of_lt (by omega), Nat.mod_eq_of_lt (by omega)] at this
    exact this.symm
  · intro h'; rw [h']

/-- The two at once. -/
theorem hot_apply (j' : Fin 2) (o : Fin 31) (q : Fin 64) (j : Fin 2) (c : Fin 64) :
    hot (ix5 j' o q j c) = BitVec.ofBool (decide (j' = j ∧ o.val = colOff q.val c.val)) := by
  have e : hot (ix5 j' o q j c) = rowHot (ix2 j' j) &&& colHot (ix3 o q c) := by
    unfold hot
    refine congrArg₂ (· &&& ·) (congrArg rowHot (funext fun a => ?_)) (congrArg colHot (funext fun a => ?_))
    · match a with
      | ⟨0, _⟩ => rfl
      | ⟨1, _⟩ => rfl
    · match a with
      | ⟨0, _⟩ => rfl
      | ⟨1, _⟩ => rfl
      | ⟨2, _⟩ => rfl
  rw [e, rowHot_apply, colHot_apply, Bool.decide_and]
  cases decide (j' = j) <;> cases decide (o.val = colOff q.val c.val) <;> rfl

/-- The table column of query column `q` and lane `64 j + c`. -/
abbrev tcol (q : Fin 64) (j : Fin 2) (c : Fin 64) : Fin 8192 := ⟨128 * q.val + (64 * j.val + c.val), by omega⟩

/-- A bit as a number. -/
theorem bit_apply (b : Bool) : (FloatOps.uitofp (F := Ideal) .f32 (BitVec.ofBool b) : EReal) = if b then 1 else 0 := by
  cases b
  · show (((0 : ℕ) : ℝ) : EReal) = 0
    norm_num
  · show (((1 : ℕ) : ℝ) : EReal) = 1
    norm_num

/-- The selection. -/
theorem select_apply (j' : Fin 2) (o : Fin 31) (q : Fin 64) (j : Fin 2) (c : Fin 64) :
    select (ix2 ⟨31 * j'.val + o.val, by omega⟩ (tcol q j c))
      = if j' = j ∧ o.val = colOff q.val c.val then 1 else 0 := by
  unfold select
  refine (shapeCast_apply _ _ _ (ix5 j' o q j c) ?_).trans ?_
  · rw [Shape.rowMajor_val_two, Shape.rowMajor_val_five]
    show (((j'.val * 31 + o.val) * 64 + q.val) * 2 + j.val) * 64 + c.val
      = (31 * j'.val + o.val) * 8192 + (128 * q.val + (64 * j.val + c.val))
    omega
  · show FloatOps.uitofp (F := Ideal) .f32 (hot (ix5 j' o q j c)) = _
    rw [hot_apply, bit_apply]
    simp only [decide_eq_true_iff]

/-- The mask in one row. -/
theorem maskRow_apply (q : Fin 64) (j : Fin 2) (c : Fin 64) :
    maskRow (ix2 0 (tcol q j c)) = if seen q.val c.val then 0 else ⊥ := by
  have e : masked (ix2 q c) = if seen q.val c.val then 0 else ⊥ := by
    show (if mask (ix2 q c) = 1#1 then Ideal.ofBits .f32 0x00000000#32 else Ideal.ofBits .f32 0xFF800000#32) = _
    rw [mask_apply, Ideal.ofBits_zero_f32, negInf]
    cases seen q.val c.val <;> rfl
  rw [← e]
  unfold maskRow
  refine (shapeCast_apply _ _ _ (ix3 q j c) ?_).trans (congrArg masked (funext fun a => ?_))
  · rw [Shape.rowMajor_val_two, Shape.rowMajor_val_three]
    show (q.val * 2 + j.val) * 64 + c.val = 0 * 8192 + (128 * q.val + (64 * j.val + c.val))
    omega
  · match a with
    | ⟨0, _⟩ => rfl
    | ⟨1, _⟩ => rfl

/-- The selection's rows of `rhs`. -/
theorem rhs_top (k : Fin 62) (n : Fin 8192) : rhs (ix2 k.castSucc n) = select (ix2 k n) := by
  unfold rhs
  refine concatenate_pair_apply_left (t := S63x8192) (s₁ := S62x8192) (s₂ := S1x8192) 0 _ _ _ (ix2 k.castSucc n) rfl (ix2 k n) fun b => ?_
  match b with
  | ⟨0, _⟩ => rfl
  | ⟨1, _⟩ => rfl

/-- The mask's row of `rhs`. -/
theorem rhs_last (n : Fin 8192) : rhs (ix2 (Fin.last 62) n) = maskRow (ix2 0 n) := by
  unfold rhs
  refine concatenate_pair_apply_right (t := S63x8192) (s₁ := S62x8192) (s₂ := S1x8192) 0 _ _ _ (ix2 (Fin.last 62) n) rfl rfl
    (ix2 (0 : Fin 1) n) (fun b hb => ?_) rfl
  match b with
  | ⟨0, _⟩ => exact absurd rfl hb
  | ⟨1, _⟩ => rfl

/-- The bias columns of `lhs`. -/
theorem lhs_top (B : Rpb) (r : Fin 112) (k : Fin 62) : lhs B (ix2 r k.castSucc) = biasRows B (ix2 r k) := by
  unfold lhs
  refine concatenate_pair_apply_left (t := S112x63) (s₁ := S112x62) (s₂ := S112x1) 1 _ _ _ (ix2 r k.castSucc) rfl (ix2 r k) fun b => ?_
  match b with
  | ⟨0, _⟩ => rfl
  | ⟨1, _⟩ => rfl

/-- The ones of `lhs`. -/
theorem lhs_last (B : Rpb) (r : Fin 112) : lhs B (ix2 r (Fin.last 62)) = 1 := by
  unfold lhs
  refine (concatenate_pair_apply_right (t := S112x63) (s₁ := S112x62) (s₂ := S112x1) 1 _ _ _ (ix2 r (Fin.last 62)) rfl rfl
    (ix2 r (0 : Fin 1)) (fun b hb => ?_) rfl).trans one_f32
  match b with
  | ⟨0, _⟩ => rfl
  | ⟨1, _⟩ => exact absurd rfl hb

/-- A pair of bias rows. -/
theorem biasPairs_apply (B : Rpb) (h : Fin 8) (t : Fin 14) (j : Fin 2) (o : Fin 31) :
    biasPairs B (ix4 h t j o) = B (ix3 h ⟨t.val + j.val, by omega⟩ o) := by
  unfold biasPairs
  match j with
  | ⟨0, _⟩ =>
    refine (concatenate_pair_apply_left (t := S8x14x2x31) (s₁ := S8x14x1x31) (s₂ := S8x14x1x31) 2 _ _ _ _ rfl
      (ix4 h t (0 : Fin 1) o) (fun b => ?_)).trans ((broadcastInDim_apply _ _ _ _ (ix3 h t o) fun a => ?_).trans
        (extractStridedSlice_apply _ _ _ _ (ix3 h ⟨t.val + 0, by omega⟩ o) fun a => ?_))
    · match b with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
    · match a with
      | ⟨0, _⟩ => exact (Nat.zero_add _).symm
      | ⟨1, _⟩ => exact Nat.add_comm _ _
      | ⟨2, _⟩ => exact (Nat.zero_add _).symm
  | ⟨1, _⟩ =>
    refine (concatenate_pair_apply_right (t := S8x14x2x31) (s₁ := S8x14x1x31) (s₂ := S8x14x1x31) 2 _ _ _ _ rfl rfl
      (ix4 h t (0 : Fin 1) o) (fun b hb => ?_) rfl).trans ((broadcastInDim_apply _ _ _ _ (ix3 h t o) fun a => ?_).trans
        (extractStridedSlice_apply _ _ _ _ (ix3 h ⟨t.val + 1, by omega⟩ o) fun a => ?_))
    · match b with
      | ⟨0, _⟩ => rfl
      | ⟨1, _⟩ => rfl
      | ⟨2, _⟩ => exact absurd rfl hb
      | ⟨3, _⟩ => rfl
    · match a with
      | ⟨0, _⟩ => rfl
      | ⟨1, _⟩ => rfl
      | ⟨2, _⟩ => rfl
    · match a with
      | ⟨0, _⟩ => exact (Nat.zero_add _).symm
      | ⟨1, _⟩ => exact Nat.add_comm _ _
      | ⟨2, _⟩ => exact (Nat.zero_add _).symm

/-- The bias rows, scaled. -/
theorem biasRows_apply (B : Rpb) (h : Fin 8) (t : Fin 14) (j : Fin 2) (o : Fin 31) :
    biasRows B (ix2 ⟨14 * h.val + t.val, by omega⟩ ⟨31 * j.val + o.val, by omega⟩)
      = B (ix3 h ⟨t.val + j.val, by omega⟩ o) * ((kappa : ℝ) : EReal) := by
  unfold biasRows
  refine (shapeCast_apply _ _ _ (ix4 h t j o) ?_).trans ?_
  · rw [Shape.rowMajor_val_two, Shape.rowMajor_val_four]
    show ((h.val * 14 + t.val) * 2 + j.val) * 31 + o.val = (14 * h.val + t.val) * 62 + (31 * j.val + o.val)
    omega
  · show biasPairs B (ix4 h t j o) * log2e _ = _
    rw [biasPairs_apply, log2e_apply]

/-- A term of the product. -/
theorem terms_apply (a : FVec Ideal S112x63 .f32) (b : FVec Ideal S63x8192 .f32) (r : Fin 112) (k : Fin 63) (n : Fin 8192) :
    terms a b (ix3 r k n) = (a (ix2 r k) * b (ix2 k n) : EReal) := by
  unfold terms
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

/-- The product. -/
theorem product_apply (a : FVec Ideal S112x63 .f32) (b : FVec Ideal S63x8192 .f32) (r : Fin 112) (q : Fin 64) (j : Fin 2)
    (c : Fin 64) :
    product a b (ix3 r q ⟨64 * j.val + c.val, by omega⟩) = ∑ k : Fin 63, (a (ix2 r k) * b (ix2 k (tcol q j c)) : EReal) := by
  unfold product
  refine (shapeCast_apply _ _ _ (ix2 r (tcol q j c)) ?_).trans ?_
  · rw [Shape.rowMajor_val_two, Shape.rowMajor_val_three]
    show r.val * 8192 + (128 * q.val + (64 * j.val + c.val)) = (r.val * 64 + q.val) * 128 + (64 * j.val + c.val)
    omega
  · simp only [Host.reduceAdd, Ideal.hostReduceAdd_def]
    refine (Ideal.hostReduceAdd_single reducesTo_S112x63x8192_S112x8192_d1 (by decide) _ _ _).trans ?_
    refine (congrArg (· + _) (Ideal.ofBits_zero_f32)).trans ((zero_add _).trans (Finset.sum_congr rfl fun k _ => ?_))
    refine (congrArg (terms a b) (funext fun d => ?_)).trans (terms_apply a b r k (tcol q j c))
    match d with
    | ⟨0, _⟩ => rfl
    | ⟨1, _⟩ => rfl
    | ⟨2, _⟩ => rfl

/-- The table: at a seen key the bias times log₂ e, at the others minus infinity. -/
theorem table_apply (B : Rpb) (h : Fin 8) (t : Fin 14) (q : Fin 64) (j : Fin 2) (c : Fin 64) :
    table B (ix3 ⟨14 * h.val + t.val, by omega⟩ q ⟨64 * j.val + c.val, by omega⟩)
      = if seen q.val c.val then
          B (ix3 h ⟨t.val + j.val, by omega⟩ ⟨colOff q.val c.val, by unfold colOff; omega⟩) * ((kappa : ℝ) : EReal)
        else ⊥ := by
  unfold table
  rw [product_apply, Fin.sum_univ_castSucc, lhs_last, rhs_last, maskRow_apply, one_mul]
  by_cases hs : seen q.val c.val = true
  · rw [if_pos hs, if_pos hs, add_zero]
    have hc : colOff q.val c.val < 31 := by unfold colOff; omega
    rw [Finset.sum_eq_single (⟨31 * j.val + (⟨colOff q.val c.val, hc⟩ : Fin 31).val, by
      show 31 * j.val + colOff q.val c.val < 62; omega⟩ : Fin 62)]
    · rw [lhs_top, rhs_top, biasRows_apply, select_apply, if_pos ⟨rfl, rfl⟩, mul_one]
    · intro k _ hk
      have ek : k = ⟨31 * (⟨k.val / 31, by omega⟩ : Fin 2).val + (⟨k.val % 31, by omega⟩ : Fin 31).val, by
          show 31 * (k.val / 31) + k.val % 31 < 62; omega⟩ := Fin.ext (Nat.div_add_mod k.val 31).symm
      rw [rhs_top, ek, select_apply, if_neg, mul_zero]
      rintro ⟨e₁, e₂⟩
      refine hk (ek.trans (Fin.ext ?_))
      show 31 * (k.val / 31) + k.val % 31 = 31 * j.val + colOff q.val c.val
      rw [← e₂, ← e₁]
    · intro hk; exact absurd (Finset.mem_univ _) hk
  · rw [if_neg hs, if_neg hs, EReal.add_bot]

end Cert.Host
-- ==== Proof.Equation.lean ====
module

public import proofs.«01_k».proof.Proof.Arrays
public import proofs.«01_k».proof.Proof.Table

/-! The equation: with finite queries, keys and biases, the kernel's formula over the operands that its host code
prepares is the neighbourhood attention. -/

@[expose] public section

set_option maxRecDepth 16384

noncomputable section

namespace Cert.Equation

open Idealize.ShloMosaic hiding ix2 ix3
open Idealize.ShloMosaic.ValueIdx Cert.KernelIdeal Cert.Arrays Cert.Spec Cert.Host
open Cert.Softmax (kappa coe_sum mean_eq)

/-- The table entry of a query and a key. -/
theorem table_key (B : Rpb) (r : Fin 128) (q : Fin 64) (h : Fin 8) (k : Fin 512) :
    table B (ix3 (tabRow r h k) q ⟨k.val % 128, by omega⟩)
      = if seen q.val (k.val % 64) then bias B r q h k * ((kappa : ℝ) : EReal) else ⊥ := by
  have hδ : r.val - rowStart r.val ≤ 7 := by unfold rowStart; omega
  have ht : 2 * (k.val / 128) + 7 - (r.val - rowStart r.val) < 14 := by omega
  have e := table_apply B h ⟨2 * (k.val / 128) + 7 - (r.val - rowStart r.val), ht⟩ q ⟨k.val % 128 / 64, by omega⟩
    ⟨k.val % 64, by omega⟩
  have er : (⟨14 * h.val + (2 * (k.val / 128) + 7 - (r.val - rowStart r.val)), by omega⟩ : Fin 112) = tabRow r h k :=
    Fin.ext (by
      show 14 * h.val + (2 * (k.val / 128) + 7 - (r.val - rowStart r.val))
        = 14 * h.val + 2 * (k.val / 128) + 7 - (r.val - rowStart r.val)
      omega)
  have el : (⟨64 * (k.val % 128 / 64) + k.val % 64, by omega⟩ : Fin 128) = ⟨k.val % 128, by omega⟩ :=
    Fin.ext (by show 64 * (k.val % 128 / 64) + k.val % 64 = k.val % 128; omega)
  have eb : (⟨2 * (k.val / 128) + 7 - (r.val - rowStart r.val) + k.val % 128 / 64, by omega⟩ : Fin 15)
      = ⟨rowOff r.val (k.val / 64), rowOff_lt r ⟨k.val / 64, by omega⟩⟩ :=
    Fin.ext (by
      show 2 * (k.val / 128) + 7 - (r.val - rowStart r.val) + k.val % 128 / 64 = rowStart r.val + k.val / 64 + 7 - r.val
      have : rowStart r.val ≤ r.val := by unfold rowStart; omega
      omega)
  rw [← er, ← el, e]
  unfold bias
  rw [← eb]

/-- Every query sees a key. -/
theorem seen_first (q : Fin 64) : seen q.val (colStart q.val) = true := by
  unfold seen
  exact decide_eq_true ⟨le_rfl, by omega⟩

/-- The kernel's scores are the reference's times log₂ e. -/
theorem scores (Q K : Act) (B : Rpb) (hQ : ∀ i, ∃ x : ℝ, Q i = x) (hK : ∀ i, ∃ x : ℝ, K i = x) (hB : ∀ i, ∃ x : ℝ, B i = x)
    (b : Fin 2) (r : Fin 128) (q : Fin 64) (h : Fin 8) (k : Fin 512) :
    score Q K B b r q h k = ⊥ ∧ kScore (queries Q) K (table B) b r q h k = ⊥ ∧ seen q.val (k.val % 64) = false
    ∨ ∃ x : ℝ, score Q K B b r q h k = x ∧ kScore (queries Q) K (table B) b r q h k = ((x * kappa : ℝ) : EReal) := by
  choose Q' hQ using hQ
  choose K' hK using hK
  choose B' hB using hB
  unfold score kScore
  rw [table_key]
  by_cases hs : seen q.val (k.val % 64) = true
  · refine Or.inr ?_
    rw [if_pos hs, if_pos hs]
    refine ⟨(∑ e : Fin 64, Q' (ix3 b (tok r q) (lane h e)) * K' (ix3 b (keyTok r k) (lane h e))) * (1 / 8)
      + B' (ix3 h ⟨rowOff r.val (k.val / 64), rowOff_lt r ⟨k.val / 64, by omega⟩⟩
        ⟨colOff q.val (k.val % 64), by unfold colOff; omega⟩), ?_, ?_⟩
    · unfold dot bias
      rw [EReal.coe_add, EReal.coe_mul, coe_sum, ← hB]
      refine congrArg (· + _) (congrArg (· * _) (Finset.sum_congr rfl fun e _ => ?_))
      rw [hQ, hK, EReal.coe_mul]
    · unfold bias
      rw [hB, add_mul, EReal.coe_add, EReal.coe_mul (B' _), mul_assoc, Finset.sum_mul, coe_sum]
      refine congrArg (· + _) (Finset.sum_congr rfl fun e _ => ?_)
      rw [queries_apply, hQ, hK, ← EReal.coe_mul, ← EReal.coe_mul]
      exact congrArg _ (mul_right_comm _ _ _)
  · refine Or.inl ⟨if_neg hs, ?_, by simpa using hs⟩
    rw [if_neg hs, EReal.add_bot]

/-- The kernel's result is the neighbourhood attention. -/
theorem result_eq (Q K V : Act) (B : Rpb) (hQ : ∀ i, ∃ x : ℝ, Q i = x) (hK : ∀ i, ∃ x : ℝ, K i = x)
    (hB : ∀ i, ∃ x : ℝ, B i = x) (b : Fin 2) (r : Fin 128) (q : Fin 64) (h : Fin 8) (d : Fin 64) :
    result (queries Q) K V (table B) b r q h d = attend Q K V B b r q h d := by
  have hc : colStart q.val < 64 := by unfold colStart; omega
  refine mean_eq (score Q K B b r q h) _ _ (fun k => (scores Q K B hQ hK hB b r q h k).imp (fun e => ⟨e.1, e.2.1⟩) id)
    ⟨colStart q.val, by omega⟩ ?_
  rcases scores Q K B hQ hK hB b r q h ⟨colStart q.val, by omega⟩ with e | ⟨x, e, _⟩
  · have e' := e.2.2
    rw [show (⟨colStart q.val, by omega⟩ : Fin 512).val % 64 = colStart q.val from Nat.mod_eq_of_lt hc, seen_first] at e'
    exact absurd e' (by decide)
  · rw [e]; exact EReal.coe_ne_bot x

end Cert.Equation
-- ==== Proof.Finite.lean ====
module

public import proofs.«01_k».proof.Defs
public import proofs.«01_k».proof.Proof.Consts

/-! The precondition, read: where it is one at every index, the queries, the keys and the biases are real numbers. -/

@[expose] public section

noncomputable section

namespace Cert.Finite

open Idealize.ShloMosaic Idealize.SL.Sem

instance facts : Cert.Pre_finite_scores.Facts := ⟨by decide, by decide⟩

/-- An extended real whose absolute value is below +∞ is a real. -/
theorem real_of_abs (x : EReal) (h : max x (-x) < ⊤) : ∃ y : ℝ, x = y := by
  have h₁ : x ≠ ⊤ := fun e => by rw [e] at h; exact absurd h (by simp)
  have h₂ : x ≠ ⊥ := fun e => by rw [e] at h; exact absurd h (by simp)
  exact ⟨x.toReal, (EReal.coe_toReal h₁ h₂).symm⟩

/-- An entry whose comparison with +∞ came out one is a real. -/
theorem real_of_cmp (x : EReal) (h : Ideal.cmp .olt (max x (-x)) (Ideal.ofBits .f32 0x7F800000#32) = 1#1) :
    ∃ y : ℝ, x = y := by
  refine real_of_abs x ?_
  rw [Cert.Consts.posInf] at h
  by_contra hn
  have e : Ideal.cmp .olt (max x (-x)) ⊤ = 0#1 := by
    show BitVec.ofBool (decide (max x (-x) < ⊤)) = 0#1
    rw [decide_eq_false hn]; rfl
  rw [e] at h
  exact absurd h (by decide)

/-- The precondition of the kernel's arguments: their queries, keys and biases are reals. -/
theorem reals (m : (ℓ : Loc Cert.KernelIdeal.nD Cert.KernelIdeal.τ Cert.KernelIdeal.sig) → Buf (Elt Ideal) ℓ)
    (hm : Cert.Pre_KernelIdeal_finite_scores m) (c : Dev Cert.KernelIdeal.nD) :
    (∀ i, ∃ y : ℝ, (show Cert.Pre_finite_scores.S2x8192x512.Idx → EReal from m (c.tc.loc Cert.KernelIdeal.main_arg0)) i = (y : EReal))
    ∧ (∀ i, ∃ y : ℝ, (show Cert.Pre_finite_scores.S2x8192x512.Idx → EReal from m (c.tc.loc Cert.KernelIdeal.main_arg1)) i = (y : EReal))
    ∧ (∀ i, ∃ y : ℝ, (show Cert.Pre_finite_scores.S8x15x31.Idx → EReal from m (c.tc.loc Cert.KernelIdeal.main_arg3)) i = (y : EReal)) :=
  ⟨fun i => real_of_cmp _ (congrFun (hm c).1 i), fun i => real_of_cmp _ (congrFun (hm c).2.1 i),
    fun i => real_of_cmp _ (congrFun (hm c).2.2 i)⟩

end Cert.Finite
-- ==== Proof.TailBlock.lean ====
module
public import proofs.«01_k».proof.Proof.Gen.TailIdeal.Skeleton

/-! What one grid point of the tail computes, from what its body loads: each half of the block's rows in turn, the
normalised rows, the merged column tiles, the residual, the normalised rows again, the activation's column tiles, and
the result. -/

@[expose] public section

noncomputable section

namespace Cert.TailBlock
open Idealize.ShloMosaic Cert.TailIdeal Cert.TailIdeal.Gen
variable {F : FTy → Type} [FloatOps F]

/-- What the body loads of its inputs: `x`, `oa`, `ob` by half of the rows, the weights by column tile. -/
structure Loads (F : FTy → Type) [FloatOps F] where
  /-- The six modulation rows. -/
  md : Vec F S1x6x1024 .f32
  /-- The first norm's gain. -/
  g1 : Vec F S1x1024 .f32
  /-- The second norm's gain. -/
  g2 : Vec F S1x1024 .f32
  /-- The rows. -/
  x : Fin 2 → Vec F S1x512x1024 .f32
  /-- The first attention's rows. -/
  oa : Fin 2 → Vec F S1x512x512 .bf16
  /-- The second attention's rows. -/
  ob : Fin 2 → Vec F S1x512x256 .bf16
  /-- The gates' weights. -/
  wg : Fin 8 → Vec F S1024x256 .bf16
  /-- The gates' biases. -/
  bg : Fin 8 → Vec F S1x256 .f32
  /-- The first attention's projection. -/
  wpa : Fin 4 → Vec F S512x256 .bf16
  /-- The second attention's projection. -/
  wpb : Fin 4 → Vec F S256x256 .bf16
  /-- The projection of the merged rows. -/
  wo : Vec F S1024x1024 .bf16
  /-- The feed-forward's first weights. -/
  win : Fin 22 → Vec F S1024x256 .bf16
  /-- The feed-forward's second weights. -/
  wout : Vec F S2816x1024 .bf16

/-- A normalised half of the rows, scaled and shifted. -/
def normT (sh sc : FVec F S1x1024 .f32) (x : FVec F S512x1024 .f32) (g : Vec F S1x1024 .f32) : FVec F S512x1024 .bf16 :=
  k0_pay20 sh sc x g

/-- The tile of the merged rows: both gates times both projections. -/
def mergeT (oa : Vec F S1x512x512 .bf16) (ob : Vec F S1x512x256 .bf16) (h : Vec F S512x1024 .bf16)
    (wga : Vec F S1024x256 .bf16) (bga : Vec F S1x256 .f32) (wgb : Vec F S1024x256 .bf16) (bgb : Vec F S1x256 .f32)
    (wpa : Vec F S512x256 .bf16) (wpb : Vec F S256x256 .bf16) : FVec F S512x256 .bf16 :=
  k0_pay15 (k0_pay14 oa ob h wga bga h wgb bgb wpa wpb)

/-- The activation's tile. -/
def actT (h : Vec F S512x1024 .bf16) (wa wu : Vec F S1024x256 .bf16) : FVec F S512x256 .bf16 := k0_pay23 h wa h wu

namespace Loads
variable (l : Loads F) (a : Fin 2)

/-- The first normalised half. -/
def h : FVec F S512x1024 .bf16 := normT (k0_pay3 l.md) (k0_pay4 l.md) (k0_pay9 (l.x a)) l.g1

/-- A tile of the merged half, from the normalised half as loaded. -/
def m (h : Vec F S512x1024 .bf16) (n : Fin 4) : FVec F S512x256 .bf16 :=
  mergeT (l.oa a) (l.ob a) h (l.wg ⟨n.val, by omega⟩) (l.bg ⟨n.val, by omega⟩) (l.wg ⟨4 + n.val, by omega⟩)
    (l.bg ⟨4 + n.val, by omega⟩) (l.wpa n) (l.wpb n)

/-- The half after the first residual, from the merged half as loaded. -/
def x1 (mv : Vec F S512x1024 .bf16) : FVec F S512x1024 .f32 := k0_pay19 (k0_pay5 l.md) (k0_pay9 (l.x a)) mv l.wo

/-- The second normalised half. -/
def h2 (mv : Vec F S512x1024 .bf16) : FVec F S512x1024 .bf16 := normT (k0_pay6 l.md) (k0_pay7 l.md) (l.x1 a mv) l.g2

/-- A tile of the activation, from the second normalised half as loaded. -/
def act (h2v : Vec F S512x1024 .bf16) (f : Fin 11) : FVec F S512x256 .bf16 :=
  actT h2v (l.win ⟨f.val, by omega⟩) (l.win ⟨11 + f.val, by omega⟩)

/-- The stored half. -/
def out (mv : Vec F S512x1024 .bf16) (av : Vec F S512x2816 .bf16) : FVec F S1x512x1024 .f32 :=
  k0_pay35 (k0_pay8 l.md) (l.x1 a mv) av l.wout

end Loads

end Cert.TailBlock
-- ==== Proof.TailPieces.lean ====
module
public import proofs.«01_k».proof.Proof.TailBlock
public import proofs.«01_k».proof.Proof.Gen.TailIdeal.Frame
public import Idealize.ShloMosaic.Lib.Pipeline.ValueKit

/-! The stores of one grid point of the tail, and the loads between them, by half of the rows. -/

@[expose] public section

set_option maxRecDepth 16384

noncomputable section

namespace Cert.TailBlock
open Idealize.ShloMosaic Idealize.ShloMosaic.Pipeline Cert.TailIdeal Cert.TailIdeal.Gen
variable {F : FTy → Type} [FloatOps F]

/-- Where a half of 1024 rows lies. -/
theorem half_inb (a : Fin 2) : ∀ d, (![512 * a.val, 0] : Fin 2 → Nat) d + S512x1024.size d ≤ S1024x1024.size d := by
  revert a; decide

/-- A half of 1024 rows. -/
def halfRect (a : Fin 2) : Rect S1024x1024 := Rect.unit ![512 * a.val, 0] S512x1024.size (half_inb a)

/-- Where a column tile of a half lies. -/
theorem tile_inb (a : Fin 2) (n : Fin 4) :
    ∀ d, (![512 * a.val, 256 * n.val] : Fin 2 → Nat) d + S512x256.size d ≤ S1024x1024.size d := by
  revert a n; decide

/-- The stores of the column tiles of a half, the last first. -/
def tilePieces (a : Fin 2) (T : Fin 4 → FVec F S512x256 .bf16) : List (View.Piece (Elt F) S1024x1024 .bf16) :=
  [3, 2, 1, 0].map fun n : Fin 4 => ⟨Rect.unit ![512 * a.val, 256 * n.val] S512x256.size (tile_inb a n), T n⟩

/-- Where a column tile of the activation's half lies. -/
theorem actTile_inb (a : Fin 2) (n : Fin 11) :
    ∀ d, (![512 * a.val, 256 * n.val] : Fin 2 → Nat) d + S512x256.size d ≤ S1024x2816.size d := by
  revert a n; decide

/-- The stores of the activation's column tiles of a half, the last first. -/
def actPieces (a : Fin 2) (T : Fin 11 → FVec F S512x256 .bf16) : List (View.Piece (Elt F) S1024x2816 .bf16) :=
  [10, 9, 8, 7, 6, 5, 4, 3, 2, 1, 0].map fun n : Fin 11 =>
    ⟨Rect.unit ![512 * a.val, 256 * n.val] S512x256.size (actTile_inb a n), T n⟩

/-- Where a half of the activation lies. -/
theorem actHalf_inb (a : Fin 2) : ∀ d, (![512 * a.val, 0] : Fin 2 → Nat) d + S512x2816.size d ≤ S1024x2816.size d := by
  revert a; decide

/-- A half of the activation. -/
def actRect (a : Fin 2) : Rect S1024x2816 := Rect.unit ![512 * a.val, 0] S512x2816.size (actHalf_inb a)

/-- Where a half of the output's block lies. -/
theorem out_inb (a : Fin 2) : ∀ d, (![0, 512 * a.val, 0] : Fin 3 → Nat) d + S1x512x1024.size d ≤ S1x1024x1024.size d := by
  revert a; decide

section Stored
variable (arg23 : Memref sig .tc .vmem S1024x1024 .bf16) (arg24 : Memref sig .tc .vmem S1024x1024 .bf16)
  (arg25 : Memref sig .tc .vmem S1024x1024 .bf16) (arg26 : Memref sig .tc .vmem S1024x2816 .bf16) (l : Loads F)

/-- The stores of the first `a + 1` halves, one a half. -/
def halves (T : Fin 2 → FVec F S512x1024 .bf16) : Fin 2 → List (View.Piece (Elt F) S1024x1024 .bf16)
  | 0 => [⟨halfRect 0, T 0⟩]
  | 1 => [⟨halfRect 1, T 1⟩, ⟨halfRect 0, T 0⟩]

/-- The normalised half, loaded back. -/
def hL (a : Fin 2) : Vec F S512x1024 .bf16 := arg23.view.readCov (halves l.h a) (halfRect a).toLoadRect

/-- The stores of the merged tiles of the first `a + 1` halves. -/
def mPieces : Fin 2 → List (View.Piece (Elt F) S1024x1024 .bf16)
  | 0 => tilePieces 0 (l.m 0 (hL arg23 l 0))
  | 1 => tilePieces 1 (l.m 1 (hL arg23 l 1)) ++ tilePieces 0 (l.m 0 (hL arg23 l 0))

/-- The merged half, loaded back. -/
def mL (a : Fin 2) : Vec F S512x1024 .bf16 := arg25.view.readCov (mPieces arg23 l a) (halfRect a).toLoadRect

/-- The second normalised half, loaded back. -/
def h2L (a : Fin 2) : Vec F S512x1024 .bf16 :=
  arg24.view.readCov (halves (fun a => l.h2 a (mL arg23 arg25 l a)) a) (halfRect a).toLoadRect

/-- The stores of the activation's tiles of the first `a + 1` halves. -/
def aPieces : Fin 2 → List (View.Piece (Elt F) S1024x2816 .bf16)
  | 0 => actPieces 0 (l.act (h2L arg23 arg24 arg25 l 0))
  | 1 => actPieces 1 (l.act (h2L arg23 arg24 arg25 l 1)) ++ actPieces 0 (l.act (h2L arg23 arg24 arg25 l 0))

/-- The activation's half, loaded back. -/
def aL (a : Fin 2) : Vec F S512x2816 .bf16 := arg26.view.readCov (aPieces arg23 arg24 arg25 l a) (actRect a).toLoadRect

/-- The half stored into the output. -/
def stored (a : Fin 2) : FVec F S1x512x1024 .f32 := l.out a (mL arg23 arg25 l a) (aL arg23 arg24 arg25 arg26 l a)

/-- The stores into the output, the last first. -/
def pieces : List (View.Piece (Elt F) S1x1024x1024 .f32) :=
  [1, 0].map fun a : Fin 2 =>
    ⟨Rect.unit ![0, 512 * a.val, 0] S1x512x1024.size (out_inb a), stored arg23 arg24 arg25 arg26 l a⟩

end Stored

/-- Where a half of the first attention's block lies. -/
theorem oa_inb (a : Fin 2) : ∀ d, (![0, 512 * a.val, 0] : Fin 3 → Nat) d + S1x512x512.size d ≤ S1x1024x512.size d := by
  revert a; decide

/-- Where a half of the second attention's block lies. -/
theorem ob_inb (a : Fin 2) : ∀ d, (![0, 512 * a.val, 0] : Fin 3 → Nat) d + S1x512x256.size d ≤ S1x1024x256.size d := by
  revert a; decide

/-- Where a tile of the gates' biases lies. -/
theorem bg_inb (n : Fin 8) : ∀ d, (![0, 256 * n.val] : Fin 2 → Nat) d + S1x256.size d ≤ S1x2048.size d := by
  revert n; decide

/-- Where a column tile of the first attention's projection lies. -/
theorem wpa_inb (n : Fin 4) : ∀ d, (![0, 256 * n.val] : Fin 2 → Nat) d + S512x256.size d ≤ S512x1024.size d := by
  revert n; decide

/-- Where a column tile of the second attention's projection lies. -/
theorem wpb_inb (n : Fin 4) : ∀ d, (![0, 256 * n.val] : Fin 2 → Nat) d + S256x256.size d ≤ S256x1024.size d := by
  revert n; decide

/-- Where a column tile of the feed-forward's first weights lies. -/
theorem win_inb (n : Fin 22) : ∀ d, (![0, 256 * n.val] : Fin 2 → Nat) d + S1024x256.size d ≤ S1024x5632.size d := by
  revert n; decide

/-- A column tile of the feed-forward's first weights. -/
def winRect (n : Fin 22) : Rect S1024x5632 := Rect.unit ![0, 256 * n.val] S1024x256.size (win_inb n)

section Blocks
variable
  (x0 : Vec F S1x1024x1024 .f32)
  (x1 : Vec F S1x1024x512 .bf16)
  (x2 : Vec F S1x1024x256 .bf16)
  (x3 : Vec F S1x6x1024 .f32)
  (x4 : Vec F S1x1024 .f32)
  (x5 : Vec F S1x1024 .f32)
  (x6 : Vec F S1x2048 .f32)
  (x7 : Vec F S512x1024 .bf16)
  (x8 : Vec F S256x1024 .bf16)
  (x9 : Vec F S1024x1024 .bf16)
  (x10 : Vec F S1024x256 .bf16)
  (x11 : Vec F S1024x256 .bf16)
  (x12 : Vec F S1024x256 .bf16)
  (x13 : Vec F S1024x256 .bf16)
  (x14 : Vec F S1024x256 .bf16)
  (x15 : Vec F S1024x256 .bf16)
  (x16 : Vec F S1024x256 .bf16)
  (x17 : Vec F S1024x256 .bf16)

/-- The loads of a body whose inputs hold these blocks. -/
def loads (win : Fin 22 → Vec F S1024x256 .bf16) (wout : Vec F S2816x1024 .bf16) : Loads F where
  md := x3
  g1 := x4
  g2 := x5
  x a := View.ld x0 (Rect.unit ![0, 512 * a.val, 0] S1x512x1024.size (out_inb a))
  oa a := View.ld x1 (Rect.unit ![0, 512 * a.val, 0] S1x512x512.size (oa_inb a))
  ob a := View.ld x2 (Rect.unit ![0, 512 * a.val, 0] S1x512x256.size (ob_inb a))
  wg := ![x10, x11, x12, x13, x14, x15, x16, x17]
  bg n := View.ld x6 (Rect.unit ![0, 256 * n.val] S1x256.size (bg_inb n))
  wpa n := View.ld x7 (Rect.unit ![0, 256 * n.val] S512x256.size (wpa_inb n))
  wpb n := View.ld x8 (Rect.unit ![0, 256 * n.val] S256x256.size (wpb_inb n))
  wo := x9
  win := win
  wout := wout

variable
  (arg2 : Memref sig .tc .vmem S1x1024x1024 .f32) (harg2 : arg2.IsWhole)
  (arg3 : Memref sig .tc .vmem S1x1024x512 .bf16) (harg3 : arg3.IsWhole)
  (arg4 : Memref sig .tc .vmem S1x1024x256 .bf16) (harg4 : arg4.IsWhole)
  (arg5 : Memref sig .tc .vmem S1x6x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x2048 .f32) (harg8 : arg8.IsWhole)
  (arg9 : Memref sig .tc .vmem S512x1024 .bf16) (harg9 : arg9.IsWhole)
  (arg10 : Memref sig .tc .vmem S256x1024 .bf16) (harg10 : arg10.IsWhole)
  (arg11 : Memref sig .tc .vmem S1024x1024 .bf16) (harg11 : arg11.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x256 .bf16) (harg16 : arg16.IsWhole)
  (arg17 : Memref sig .tc .vmem S1024x256 .bf16) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x256 .bf16) (harg20 : arg20.IsWhole)
  (arg21 : Memref sig .tc .vmem S1024x256 .bf16) (harg21 : arg21.IsWhole)

/-- The loads as the run names them. -/
def rawLoads (win : Fin 22 → Vec F S1024x256 .bf16) (wout : Vec F S2816x1024 .bf16) : Loads F where
  md := View.readAt (Elt F) arg5.view (Rect.unit (s := S1x6x1024) ![0, 0, 0] S1x6x1024.size inb_S1x6x1024_S1x6x1024_0_0_0).toLoadRect (harg5.unread x3)
  g1 := View.readAt (Elt F) arg6.view (Rect.unit (s := S1x1024) ![0, 0] S1x1024.size inb_S1x1024_S1x1024_0_0).toLoadRect (harg6.unread x4)
  g2 := View.readAt (Elt F) arg7.view (Rect.unit (s := S1x1024) ![0, 0] S1x1024.size inb_S1x1024_S1x1024_0_0).toLoadRect (harg7.unread x5)
  x a := View.readAt (Elt F) arg2.view (Rect.unit (s := S1x1024x1024) ![0, 512 * a.val, 0] S1x512x1024.size (out_inb a)).toLoadRect (harg2.unread x0)
  oa a := View.readAt (Elt F) arg3.view (Rect.unit (s := S1x1024x512) ![0, 512 * a.val, 0] S1x512x512.size (oa_inb a)).toLoadRect (harg3.unread x1)
  ob a := View.readAt (Elt F) arg4.view (Rect.unit (s := S1x1024x256) ![0, 512 * a.val, 0] S1x512x256.size (ob_inb a)).toLoadRect (harg4.unread x2)
  wg n := match n with
    | 0 => View.readAt (Elt F) arg14.view (Rect.unit (s := S1024x256) ![0, 0] S1024x256.size inb_S1024x256_S1024x256_0_0).toLoadRect (harg14.unread x10)
    | 1 => View.readAt (Elt F) arg15.view (Rect.unit (s := S1024x256) ![0, 0] S1024x256.size inb_S1024x256_S1024x256_0_0).toLoadRect (harg15.unread x11)
    | 2 => View.readAt (Elt F) arg16.view (Rect.unit (s := S1024x256) ![0, 0] S1024x256.size inb_S1024x256_S1024x256_0_0).toLoadRect (harg16.unread x12)
    | 3 => View.readAt (Elt F) arg17.view (Rect.unit (s := S1024x256) ![0, 0] S1024x256.size inb_S1024x256_S1024x256_0_0).toLoadRect (harg17.unread x13)
    | 4 => View.readAt (Elt F) arg18.view (Rect.unit (s := S1024x256) ![0, 0] S1024x256.size inb_S1024x256_S1024x256_0_0).toLoadRect (harg18.unread x14)
    | 5 => View.readAt (Elt F) arg19.view (Rect.unit (s := S1024x256) ![0, 0] S1024x256.size inb_S1024x256_S1024x256_0_0).toLoadRect (harg19.unread x15)
    | 6 => View.readAt (Elt F) arg20.view (Rect.unit (s := S1024x256) ![0, 0] S1024x256.size inb_S1024x256_S1024x256_0_0).toLoadRect (harg20.unread x16)
    | 7 => View.readAt (Elt F) arg21.view (Rect.unit (s := S1024x256) ![0, 0] S1024x256.size inb_S1024x256_S1024x256_0_0).toLoadRect (harg21.unread x17)
  bg n := View.readAt (Elt F) arg8.view (Rect.unit (s := S1x2048) ![0, 256 * n.val] S1x256.size (bg_inb n)).toLoadRect (harg8.unread x6)
  wpa n := View.readAt (Elt F) arg9.view (Rect.unit (s := S512x1024) ![0, 256 * n.val] S512x256.size (wpa_inb n)).toLoadRect (harg9.unread x7)
  wpb n := View.readAt (Elt F) arg10.view (Rect.unit (s := S256x1024) ![0, 256 * n.val] S256x256.size (wpb_inb n)).toLoadRect (harg10.unread x8)
  wo := View.readAt (Elt F) arg11.view (Rect.unit (s := S1024x1024) ![0, 0] S1024x1024.size inb_S1024x1024_S1024x1024_0_0).toLoadRect (harg11.unread x9)
  win := win
  wout := wout

end Blocks
end Cert.TailBlock
-- ==== Proof.TailRunA.lean ====
module
public import proofs.«01_k».proof.Proof.TailPieces

/-! The stores of the first grid point of the tail are the halves of TailBlock.lean: its run, opened stage by stage. -/

@[expose] public section

set_option maxRecDepth 16384

noncomputable section

namespace Cert.TailBlock
open Idealize.ShloMosaic Idealize.ShloMosaic.Pipeline Cert.TailIdeal Cert.TailIdeal.Gen
variable {F : FTy → Type} [FloatOps F]
variable (c : Dev nD)
variable
  (x0 : Vec F S1x1024x1024 .f32)
  (x1 : Vec F S1x1024x512 .bf16)
  (x2 : Vec F S1x1024x256 .bf16)
  (x3 : Vec F S1x6x1024 .f32)
  (x4 : Vec F S1x1024 .f32)
  (x5 : Vec F S1x1024 .f32)
  (x6 : Vec F S1x2048 .f32)
  (x7 : Vec F S512x1024 .bf16)
  (x8 : Vec F S256x1024 .bf16)
  (x9 : Vec F S1024x1024 .bf16)
  (x10 : Vec F S1024x256 .bf16)
  (x11 : Vec F S1024x256 .bf16)
  (x12 : Vec F S1024x256 .bf16)
  (x13 : Vec F S1024x256 .bf16)
  (x14 : Vec F S1024x256 .bf16)
  (x15 : Vec F S1024x256 .bf16)
  (x16 : Vec F S1024x256 .bf16)
  (x17 : Vec F S1024x256 .bf16)
variable
  (arg2 : Memref sig .tc .vmem S1x1024x1024 .f32) (harg2 : arg2.IsWhole)
  (arg3 : Memref sig .tc .vmem S1x1024x512 .bf16) (harg3 : arg3.IsWhole)
  (arg4 : Memref sig .tc .vmem S1x1024x256 .bf16) (harg4 : arg4.IsWhole)
  (arg5 : Memref sig .tc .vmem S1x6x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x2048 .f32) (harg8 : arg8.IsWhole)
  (arg9 : Memref sig .tc .vmem S512x1024 .bf16) (harg9 : arg9.IsWhole)
  (arg10 : Memref sig .tc .vmem S256x1024 .bf16) (harg10 : arg10.IsWhole)
  (arg11 : Memref sig .tc .vmem S1024x1024 .bf16) (harg11 : arg11.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x256 .bf16) (harg16 : arg16.IsWhole)
  (arg17 : Memref sig .tc .vmem S1024x256 .bf16) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x256 .bf16) (harg20 : arg20.IsWhole)
  (arg21 : Memref sig .tc .vmem S1024x256 .bf16) (harg21 : arg21.IsWhole)

variable
  (arg23 : Memref sig .tc .vmem S1024x1024 .bf16)
  (arg24 : Memref sig .tc .vmem S1024x1024 .bf16)
  (arg25 : Memref sig .tc .vmem S1024x1024 .bf16)
  (arg26 : Memref sig .tc .vmem S1024x2816 .bf16)
  (arg27 : Memref sig .tc .vmem S1024x5632 .bf16)
  (arg28 : Memref sig .tc .vmem S2816x1024 .bf16)

variable (fh0 : HbBuf0 (F := F) c hbM0_0) (fh1 : HbBuf0 (F := F) c hbM0_1)

/-- The loads of the first point. -/
abbrev loadsA : Loads F :=
  rawLoads x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21
    (fun n => arg27.view.readCov [⟨Rect.whole S1024x5632, View.read (Elt F) (Memref.whole main_v10).view fh0⟩]
      (winRect n).toLoadRect)
    (arg28.view.readCov [⟨Rect.whole S2816x1024, View.read (Elt F) (Memref.whole main_v11).view fh1⟩]
      (Rect.unit (s := S2816x1024) ![0, 0] S2816x1024.size inb_S2816x1024_S2816x1024_0_0).toLoadRect)

include c arg23 arg24 arg25 arg26

set_option maxHeartbeats 4000000 in
/-- The first normalised half, as loaded back. -/
theorem v43_A : kernelRun0_A.sl.v43 c arg2 harg2 arg5 harg5 arg6 harg6 arg23 x0 x3 x4
    = hL arg23 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0 := by rfl

set_option maxHeartbeats 4000000 in
/-- The second normalised half, as loaded back. -/
theorem v382_A : kernelRun0_A.sl.v382 c arg2 harg2 arg5 harg5 arg6 harg6 arg23 x0 x3 x4
    = hL arg23 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1 := by rfl

set_option maxHeartbeats 4000000 in
/-- The first four merged tiles. -/
theorem HS2_4_A : kernelRun0_A.sl.HS2_4 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 x0 x1 x2 x3 x4 x6 x7 x8 x10 x11 x12 x13 x14 x15 x16 x17
    = mPieces arg23 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0 := by
  unfold kernelRun0_A.sl.HS2_4
  rw [v43_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The first merged half, as loaded back. -/
theorem v167_A : kernelRun0_A.sl.v167 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 arg25 x0 x1 x2 x3 x4 x6 x7 x8 x10 x11 x12 x13 x14 x15 x16 x17
    = mL arg23 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0 := by
  unfold kernelRun0_A.sl.v167
  rw [HS2_4_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- All merged tiles. -/
theorem HS2_8_A : kernelRun0_A.sl.HS2_8 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 x0 x1 x2 x3 x4 x6 x7 x8 x10 x11 x12 x13 x14 x15 x16 x17
    = mPieces arg23 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1 := by
  unfold kernelRun0_A.sl.HS2_8 kernelRun0_A.sl.r_21 kernelRun0_A.sl.r_22 kernelRun0_A.sl.r_24 kernelRun0_A.sl.r_25 kernelRun0_A.sl.r_27 kernelRun0_A.sl.r_28 kernelRun0_A.sl.r_31
  rw [v382_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rw [HS2_4_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The second merged half, as loaded back. -/
theorem v506_A : kernelRun0_A.sl.v506 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 arg25 x0 x1 x2 x3 x4 x6 x7 x8 x10 x11 x12 x13 x14 x15 x16 x17
    = mL arg23 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1 := by
  unfold kernelRun0_A.sl.v506
  rw [HS2_8_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The first half after the residual. -/
theorem r_12_A : kernelRun0_A.sl.r_12 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17
    = (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1).x1 0 (mL arg23 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0) := by
  unfold kernelRun0_A.sl.r_12
  rw [v167_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The second half after the residual. -/
theorem r_32_A : kernelRun0_A.sl.r_32 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17
    = (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1).x1 1 (mL arg23 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1) := by
  unfold kernelRun0_A.sl.r_32
  rw [v506_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The first half normalised again. -/
theorem HS1_1_A : kernelRun0_A.sl.HS1_1 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg25 x0 x1 x2 x3 x4 x5 x6 x7 x8 x9 x10 x11 x12 x13 x14 x15 x16 x17
    = halves (fun a => (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1).h2 a (mL arg23 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) a)) 0 := by
  unfold kernelRun0_A.sl.HS1_1
  rw [r_12_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The first half normalised again, as loaded back. -/
theorem v200_A : kernelRun0_A.sl.v200 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 x0 x1 x2 x3 x4 x5 x6 x7 x8 x9 x10 x11 x12 x13 x14 x15 x16 x17
    = h2L arg23 arg24 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0 := by
  unfold kernelRun0_A.sl.v200
  rw [HS1_1_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- Both halves normalised again. -/
theorem HS1_2_A : kernelRun0_A.sl.HS1_2 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg25 x0 x1 x2 x3 x4 x5 x6 x7 x8 x9 x10 x11 x12 x13 x14 x15 x16 x17
    = halves (fun a => (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1).h2 a (mL arg23 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) a)) 1 := by
  unfold kernelRun0_A.sl.HS1_2
  rw [v506_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rw [HS1_1_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The second half normalised again, as loaded back. -/
theorem v537_A : kernelRun0_A.sl.v537 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 x0 x1 x2 x3 x4 x5 x6 x7 x8 x9 x10 x11 x12 x13 x14 x15 x16 x17
    = h2L arg23 arg24 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1 := by
  unfold kernelRun0_A.sl.v537
  rw [HS1_2_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The first half of the activation. -/
theorem HS3_11_A : kernelRun0_A.sl.HS3_11 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg27 x0 x1 x2 x3 x4 x5 x6 x7 x8 x9 x10 x11 x12 x13 x14 x15 x16 x17 fh0
    = aPieces arg23 arg24 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0 := by
  unfold kernelRun0_A.sl.HS3_11 kernelRun0_A.sl.r_15
  rw [v200_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The first half of the activation, as loaded back. -/
theorem v343_A : kernelRun0_A.sl.v343 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 x0 x1 x2 x3 x4 x5 x6 x7 x8 x9 x10 x11 x12 x13 x14 x15 x16 x17 fh0
    = aL arg23 arg24 arg25 arg26 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 0 := by
  unfold kernelRun0_A.sl.v343
  rw [HS3_11_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The whole activation. -/
theorem HS3_22_A : kernelRun0_A.sl.HS3_22 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg27 x0 x1 x2 x3 x4 x5 x6 x7 x8 x9 x10 x11 x12 x13 x14 x15 x16 x17 fh0
    = aPieces arg23 arg24 arg25 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1 := by
  unfold kernelRun0_A.sl.HS3_22 kernelRun0_A.sl.r_37
  rw [v537_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rw [HS3_11_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The second half of the activation, as loaded back. -/
theorem v680_A : kernelRun0_A.sl.v680 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 x0 x1 x2 x3 x4 x5 x6 x7 x8 x9 x10 x11 x12 x13 x14 x15 x16 x17 fh0
    = aL arg23 arg24 arg25 arg26 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) 1 := by
  unfold kernelRun0_A.sl.v680
  rw [HS3_22_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

set_option maxHeartbeats 4000000 in
/-- The stores of the first point. -/
theorem run_pieces_A (i : grid0.Coords) (arg22 : Memref sig .tc .vmem S1x1024x1024 .f32) (harg22 : arg22.IsWhole)
    (harg23 : arg23.IsWhole) (harg24 : arg24.IsWhole) (harg25 : arg25.IsWhole) (harg26 : arg26.IsWhole)
    (harg27 : arg27.IsWhole) (harg28 : arg28.IsWhole) (hc0 : cond0_0 i) (hc1 : cond0_1 i) :
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 fh0 fh1).1
      = pieces arg23 arg24 arg25 arg26 (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1) := by
  have e : (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 fh0 fh1).1 =
    [⟨Rect.unit ![0, 512, 0] S1x512x1024.size (out_inb 1), k0_pay1 (kernelRun0_A.sl.r_5 c arg5 harg5 x3)
        (kernelRun0_A.sl.r_32 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17) (kernelRun0_A.sl.v680 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 x0 x1 x2 x3 x4 x5 x6 x7 x8 x9 x10 x11 x12 x13 x14 x15 x16 x17 fh0) (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1).wout⟩,
     ⟨Rect.unit ![0, 0, 0] S1x512x1024.size (out_inb 0), k0_pay35 (kernelRun0_A.sl.r_5 c arg5 harg5 x3)
        (kernelRun0_A.sl.r_12 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17) (kernelRun0_A.sl.v343 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 x0 x1 x2 x3 x4 x5 x6 x7 x8 x9 x10 x11 x12 x13 x14 x15 x16 x17 fh0) (loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1).wout⟩] := by rfl
  rw [e]
  rw [r_12_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rw [v343_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rw [r_32_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rw [v680_A c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 arg28 fh0 fh1]
  rfl

end Cert.TailBlock
-- ==== Proof.TailRunB.lean ====
module
public import proofs.«01_k».proof.Proof.TailPieces

/-! The stores of a grid point other than the first of the tail are the halves of TailBlock.lean: its run, opened stage by stage. -/

@[expose] public section

set_option maxRecDepth 16384

noncomputable section

namespace Cert.TailBlock
open Idealize.ShloMosaic Idealize.ShloMosaic.Pipeline Cert.TailIdeal Cert.TailIdeal.Gen
variable {F : FTy → Type} [FloatOps F]
variable (c : Dev nD)
variable
  (x0 : Vec F S1x1024x1024 .f32)
  (x1 : Vec F S1x1024x512 .bf16)
  (x2 : Vec F S1x1024x256 .bf16)
  (x3 : Vec F S1x6x1024 .f32)
  (x4 : Vec F S1x1024 .f32)
  (x5 : Vec F S1x1024 .f32)
  (x6 : Vec F S1x2048 .f32)
  (x7 : Vec F S512x1024 .bf16)
  (x8 : Vec F S256x1024 .bf16)
  (x9 : Vec F S1024x1024 .bf16)
  (x10 : Vec F S1024x256 .bf16)
  (x11 : Vec F S1024x256 .bf16)
  (x12 : Vec F S1024x256 .bf16)
  (x13 : Vec F S1024x256 .bf16)
  (x14 : Vec F S1024x256 .bf16)
  (x15 : Vec F S1024x256 .bf16)
  (x16 : Vec F S1024x256 .bf16)
  (x17 : Vec F S1024x256 .bf16)
variable
  (arg2 : Memref sig .tc .vmem S1x1024x1024 .f32) (harg2 : arg2.IsWhole)
  (arg3 : Memref sig .tc .vmem S1x1024x512 .bf16) (harg3 : arg3.IsWhole)
  (arg4 : Memref sig .tc .vmem S1x1024x256 .bf16) (harg4 : arg4.IsWhole)
  (arg5 : Memref sig .tc .vmem S1x6x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x2048 .f32) (harg8 : arg8.IsWhole)
  (arg9 : Memref sig .tc .vmem S512x1024 .bf16) (harg9 : arg9.IsWhole)
  (arg10 : Memref sig .tc .vmem S256x1024 .bf16) (harg10 : arg10.IsWhole)
  (arg11 : Memref sig .tc .vmem S1024x1024 .bf16) (harg11 : arg11.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x256 .bf16) (harg16 : arg16.IsWhole)
  (arg17 : Memref sig .tc .vmem S1024x256 .bf16) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x256 .bf16) (harg20 : arg20.IsWhole)
  (arg21 : Memref sig .tc .vmem S1024x256 .bf16) (harg21 : arg21.IsWhole)

variable
  (arg23 : Memref sig .tc .vmem S1024x1024 .bf16)
  (arg24 : Memref sig .tc .vmem S1024x1024 .bf16)
  (arg25 : Memref sig .tc .vmem S1024x1024 .bf16)
  (arg26 : Memref sig .tc .vmem S1024x2816 .bf16)
  (arg27 : Memref sig .tc .vmem S1024x5632 .bf16) (harg27 : arg27.IsWhole)
  (arg28 : Memref sig .tc .vmem S2816x1024 .bf16) (harg28 : arg28.IsWhole)

variable (xs4 : Vec F S1024x5632 .bf16) (xs5 : Vec F S2816x1024 .bf16)

/-- The loads of a point other than the first. -/
abbrev loadsB : Loads F :=
  rawLoads x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21
    (fun n => View.readAt (Elt F) arg27.view (winRect n).toLoadRect (harg27.unread xs4))
    (View.readAt (Elt F) arg28.view (Rect.unit (s := S2816x1024) ![0, 0] S2816x1024.size inb_S2816x1024_S2816x1024_0_0).toLoadRect
      (harg28.unread xs5))

include c arg23 arg24 arg25 arg26

set_option maxHeartbeats 4000000 in
/-- The first normalised half, as loaded back. -/
theorem v43_B : kernelRun0_B.sl.v43 c arg2 harg2 arg5 harg5 arg6 harg6 arg23 x0 x3 x4
    = hL arg23 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0 := by rfl

set_option maxHeartbeats 4000000 in
/-- The second normalised half, as loaded back. -/
theorem v382_B : kernelRun0_B.sl.v382 c arg2 harg2 arg5 harg5 arg6 harg6 arg23 x0 x3 x4
    = hL arg23 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1 := by rfl

set_option maxHeartbeats 4000000 in
/-- The first four merged tiles. -/
theorem HS2_4_B : kernelRun0_B.sl.HS2_4 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 x0 x1 x2 x3 x4 x6 x7 x8 x10 x11 x12 x13 x14 x15 x16 x17
    = mPieces arg23 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0 := by
  unfold kernelRun0_B.sl.HS2_4
  rw [v43_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The first merged half, as loaded back. -/
theorem v167_B : kernelRun0_B.sl.v167 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 arg25 x0 x1 x2 x3 x4 x6 x7 x8 x10 x11 x12 x13 x14 x15 x16 x17
    = mL arg23 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0 := by
  unfold kernelRun0_B.sl.v167
  rw [HS2_4_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- All merged tiles. -/
theorem HS2_8_B : kernelRun0_B.sl.HS2_8 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 x0 x1 x2 x3 x4 x6 x7 x8 x10 x11 x12 x13 x14 x15 x16 x17
    = mPieces arg23 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1 := by
  unfold kernelRun0_B.sl.HS2_8 kernelRun0_B.sl.r_21 kernelRun0_B.sl.r_22 kernelRun0_B.sl.r_24 kernelRun0_B.sl.r_25 kernelRun0_B.sl.r_27 kernelRun0_B.sl.r_28 kernelRun0_B.sl.r_31
  rw [v382_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rw [HS2_4_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The second merged half, as loaded back. -/
theorem v506_B : kernelRun0_B.sl.v506 c arg2 harg2 arg3 harg3 arg4 harg4 arg5 harg5 arg6 harg6 arg8 harg8 arg9 harg9 arg10 harg10 arg14 harg14 arg15 harg15 arg16 harg16 arg17 harg17 arg18 harg18 arg19 harg19 arg20 harg20 arg21 harg21 arg23 arg25 x0 x1 x2 x3 x4 x6 x7 x8 x10 x11 x12 x13 x14 x15 x16 x17
    = mL arg23 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1 := by
  unfold kernelRun0_B.sl.v506
  rw [HS2_8_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The first half after the residual. -/
theorem r_12_B : kernelRun0_B.sl.r_12 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17
    = (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5).x1 0 (mL arg23 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0) := by
  unfold kernelRun0_B.sl.r_12
  rw [v167_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The second half after the residual. -/
theorem r_32_B : kernelRun0_B.sl.r_32 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17
    = (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5).x1 1 (mL arg23 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1) := by
  unfold kernelRun0_B.sl.r_32
  rw [v506_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The first half normalised again. -/
theorem HS1_1_B : kernelRun0_B.sl.HS1_1 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg25 x0 x1 x2 x3 x4 x5 x6 x7 x8 x9 x10 x11 x12 x13 x14 x15 x16 x17
    = halves (fun a => (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5).h2 a (mL arg23 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) a)) 0 := by
  unfold kernelRun0_B.sl.HS1_1
  rw [r_12_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The first half normalised again, as loaded back. -/
theorem v200_B : kernelRun0_B.sl.v200 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 x0 x1 x2 x3 x4 x5 x6 x7 x8 x9 x10 x11 x12 x13 x14 x15 x16 x17
    = h2L arg23 arg24 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0 := by
  unfold kernelRun0_B.sl.v200
  rw [HS1_1_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- Both halves normalised again. -/
theorem HS1_2_B : kernelRun0_B.sl.HS1_2 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg25 x0 x1 x2 x3 x4 x5 x6 x7 x8 x9 x10 x11 x12 x13 x14 x15 x16 x17
    = halves (fun a => (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5).h2 a (mL arg23 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) a)) 1 := by
  unfold kernelRun0_B.sl.HS1_2
  rw [v506_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rw [HS1_1_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The second half normalised again, as loaded back. -/
theorem v537_B : kernelRun0_B.sl.v537 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 x0 x1 x2 x3 x4 x5 x6 x7 x8 x9 x10 x11 x12 x13 x14 x15 x16 x17
    = h2L arg23 arg24 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1 := by
  unfold kernelRun0_B.sl.v537
  rw [HS1_2_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The first half of the activation. -/
theorem HS3_11_B : kernelRun0_B.sl.HS3_11 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg27 harg27 x0 x1 x2 x3 x4 x5 x6 x7 x8 x9 x10 x11 x12 x13 x14 x15 x16 x17 xs4
    = aPieces arg23 arg24 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0 := by
  unfold kernelRun0_B.sl.HS3_11
  rw [v200_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The first half of the activation, as loaded back. -/
theorem v343_B : kernelRun0_B.sl.v343 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 x0 x1 x2 x3 x4 x5 x6 x7 x8 x9 x10 x11 x12 x13 x14 x15 x16 x17 xs4
    = aL arg23 arg24 arg25 arg26 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 0 := by
  unfold kernelRun0_B.sl.v343
  rw [HS3_11_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The whole activation. -/
theorem HS3_22_B : kernelRun0_B.sl.HS3_22 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg27 harg27 x0 x1 x2 x3 x4 x5 x6 x7 x8 x9 x10 x11 x12 x13 x14 x15 x16 x17 xs4
    = aPieces arg23 arg24 arg25 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1 := by
  unfold kernelRun0_B.sl.HS3_22 kernelRun0_B.sl.r_38
  rw [v537_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rw [HS3_11_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The second half of the activation, as loaded back. -/
theorem v680_B : kernelRun0_B.sl.v680 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 x0 x1 x2 x3 x4 x5 x6 x7 x8 x9 x10 x11 x12 x13 x14 x15 x16 x17 xs4
    = aL arg23 arg24 arg25 arg26 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) 1 := by
  unfold kernelRun0_B.sl.v680
  rw [HS3_22_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

set_option maxHeartbeats 4000000 in
/-- The stores of a point other than the first. -/
theorem run_pieces_B (i : grid0.Coords) (arg22 : Memref sig .tc .vmem S1x1024x1024 .f32) (harg22 : arg22.IsWhole)
    (harg23 : arg23.IsWhole) (harg24 : arg24.IsWhole) (harg25 : arg25.IsWhole) (harg26 : arg26.IsWhole) (hc0 : ¬cond0_0 i) (hc1 : ¬cond0_1 i)
    (fh0 : HbBuf0 (F := F) c hbM0_0) (fh1 : HbBuf0 (F := F) c hbM0_1) :
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs4 xs5 fh0 fh1).1
      = pieces arg23 arg24 arg25 arg26 (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5) := by
  have e : (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs4 xs5 fh0 fh1).1 =
    [⟨Rect.unit ![0, 512, 0] S1x512x1024.size (out_inb 1), k0_pay1 (kernelRun0_B.sl.r_5 c arg5 harg5 x3)
        (kernelRun0_B.sl.r_32 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17) (kernelRun0_B.sl.v680 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 x0 x1 x2 x3 x4 x5 x6 x7 x8 x9 x10 x11 x12 x13 x14 x15 x16 x17 xs4) (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5).wout⟩,
     ⟨Rect.unit ![0, 0, 0] S1x512x1024.size (out_inb 0), k0_pay35 (kernelRun0_B.sl.r_5 c arg5 harg5 x3)
        (kernelRun0_B.sl.r_12 c arg2 harg2 arg3 harg3 arg4 harg4 arg5 harg5 arg6 harg6 arg8 harg8 arg9 harg9 arg10 harg10 arg11 harg11 arg14 harg14 arg15 harg15 arg16 harg16 arg17 harg17 arg18 harg18 arg19 harg19 arg20 harg20 arg21 harg21 arg23 arg25 x0 x1 x2 x3 x4 x6 x7 x8 x9 x10 x11 x12 x13 x14 x15 x16 x17) (kernelRun0_B.sl.v343 c arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 x0 x1 x2 x3 x4 x5 x6 x7 x8 x9 x10 x11 x12 x13 x14 x15 x16 x17 xs4) (loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5).wout⟩] := by rfl
  rw [e]
  rw [r_12_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rw [v343_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rw [r_32_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rw [v680_B c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg23 arg24 arg25 arg26 arg27 harg27 arg28 harg28 xs4 xs5]
  rfl

end Cert.TailBlock
-- ==== Proof.TailTiles.lean ====
module
public import proofs.«01_k».proof.Proof.TailPieces
public import Idealize.ShloMosaic.Lib.Pipeline.CanonAppend

/-! What the loads between the stores of a grid point of the tail read: the tile stored last over an index. -/

@[expose] public section

noncomputable section

namespace Cert.TailBlock
open Idealize.ShloMosaic hiding ix2 ix3
open Idealize.ShloMosaic.ValueIdx Idealize.ShloMosaic.Pipeline Cert.TailIdeal Cert.TailIdeal.Gen
variable {F : FTy → Type} [FloatOps F]

/-- Column tiles stored over a half of the rows leave the tile of an index's columns. -/
theorem tiles_canon {w N : Nat} (hw : w = 256 * N) (a : Fin 2)
    (inb : ∀ (n : Fin N) (d : Fin 2), (![512 * a.val, 256 * n.val] : Fin 2 → Nat) d + S512x256.size d
      ≤ (⟨2, ![1024, w]⟩ : Shape).size d)
    (ns : List (Fin N)) (hns : ∀ n, n ∈ ns) (T : Fin N → FVec F S512x256 .bf16)
    (L : List (View.Piece (Elt F) (⟨2, ![1024, w]⟩ : Shape) .bf16)) (i : Fin 512) (n : Fin N) (j : Fin 256)
    (y : (⟨2, ![1024, w]⟩ : Shape).Idx) (h0 : (y 0).val = 512 * a.val + i.val) (h1 : (y 1).val = 256 * n.val + j.val) :
    View.canon ((ns.map fun n => (⟨Rect.unit ![512 * a.val, 256 * n.val] S512x256.size (inb n), T n⟩ :
      View.Piece (Elt F) (⟨2, ![1024, w]⟩ : Shape) .bf16)) ++ L) y = T n (ix2 i j) := by
  have hb (z : (⟨2, ![1024, w]⟩ : Shape).Idx) : (z 1).val < 256 * N := hw ▸ (z 1).isLt
  let G : (⟨2, ![1024, w]⟩ : Shape).Idx → Elt F .bf16 := fun z =>
    T ⟨(z 1).val / 256, Nat.div_lt_of_lt_mul (hb z)⟩
      (ix2 ⟨(z 0).val % 512, Nat.mod_lt _ (by decide)⟩ ⟨(z 1).val % 256, Nat.mod_lt _ (by decide)⟩)
  have hG (z : (⟨2, ![1024, w]⟩ : Shape).Idx) (m : Fin N) (p : Fin 512) (q : Fin 256) (e0 : (z 0).val = 512 * a.val + p.val)
      (e1 : (z 1).val = 256 * m.val + q.val) : G z = T m (ix2 p q) := by
    have em : (⟨(z 1).val / 256, Nat.div_lt_of_lt_mul (hb z)⟩ : Fin N) = m := Fin.ext (by show (z 1).val / 256 = _; omega)
    have ep : (⟨(z 0).val % 512, Nat.mod_lt _ (by decide)⟩ : Fin 512) = p := Fin.ext (by show (z 0).val % 512 = _; omega)
    have eq : (⟨(z 1).val % 256, Nat.mod_lt _ (by decide)⟩ : Fin 256) = q := Fin.ext (by show (z 1).val % 256 = _; omega)
    show T _ (ix2 _ _) = _
    rw [em, ep, eq]
  refine (View.canon_append_of_pieces G L _ ?_ y ?_).trans (hG y n i j h0 h1)
  · intro p hp x
    obtain ⟨m, _, rfl⟩ := List.mem_map.mp hp
    refine Eq.trans (congrArg (T m) ?_) (hG _ m (x 0) (x 1) ?_ ?_).symm
    · funext d
      match d with
      | ⟨0, _⟩ => rfl
      | ⟨1, _⟩ => rfl
    · show 512 * a.val + 1 * (x 0).val = _; omega
    · show 256 * m.val + 1 * (x 1).val = _; omega
  · refine ⟨_, List.mem_map.mpr ⟨n, hns n, rfl⟩, (Rect.mem_set_unit (inb := inb n)).mpr fun d => ?_⟩
    match d with
    | ⟨0, _⟩ =>
      show 512 * a.val ≤ (y 0).val ∧ (y 0).val < 512 * a.val + 512
      omega
    | ⟨1, _⟩ =>
      show 256 * n.val ≤ (y 1).val ∧ (y 1).val < 256 * n.val + 256
      omega

variable (arg23 : Memref sig .tc .vmem S1024x1024 .bf16) (arg24 : Memref sig .tc .vmem S1024x1024 .bf16)
  (arg25 : Memref sig .tc .vmem S1024x1024 .bf16) (arg26 : Memref sig .tc .vmem S1024x2816 .bf16) (l : Loads F)

/-- A half loaded back just after its store is the half. -/
theorem halves_read (arg : Memref sig .tc .vmem S1024x1024 .bf16) (T : Fin 2 → FVec F S512x1024 .bf16) (a : Fin 2) :
    arg.view.readCov (halves T a) (halfRect a).toLoadRect = T a :=
  match a with
  | 0 => View.readCov_cons_toLoadRect _ _ _ _
  | 1 => View.readCov_cons_toLoadRect _ _ _ _

/-- The merged half as loaded back, at an index. -/
theorem mL_apply (a : Fin 2) (i : Fin 512) (k : Fin 1024) :
    mL arg23 arg25 l a (ix2 i k)
      = l.m a (hL arg23 l a) ⟨k.val / 256, by omega⟩ (ix2 i ⟨k.val % 256, Nat.mod_lt _ (by decide)⟩) := by
  refine (congrFun (View.readCov_eq_canon' _ _ _) _).trans ?_
  have h0 : ((halfRect a).toLoadRect.idx (ix2 i k) 0).val = 512 * a.val + i.val := by
    show 512 * a.val + 1 * i.val = _; omega
  have h1 : ((halfRect a).toLoadRect.idx (ix2 i k) 1).val = 256 * (k.val / 256) + k.val % 256 := by
    show 0 + 1 * k.val = _; omega
  match a, h0, h1 with
  | 0, h0, h1 =>
    refine (congrFun (congrArg View.canon (List.append_nil _).symm) _).trans ?_
    exact tiles_canon (N := 4) (w := 1024) rfl 0 (tile_inb 0) [3, 2, 1, 0] (by decide) _ [] i ⟨k.val / 256, by omega⟩ ⟨k.val % 256, Nat.mod_lt _ (by decide)⟩ _ h0 h1
  | 1, h0, h1 =>
    exact tiles_canon (N := 4) (w := 1024) rfl 1 (tile_inb 1) [3, 2, 1, 0] (by decide) _ _ i ⟨k.val / 256, by omega⟩ ⟨k.val % 256, Nat.mod_lt _ (by decide)⟩ _ h0 h1

/-- The activation's half as loaded back, at an index. -/
theorem aL_apply (a : Fin 2) (i : Fin 512) (k : Fin 2816) :
    aL arg23 arg24 arg25 arg26 l a (ix2 i k)
      = l.act (h2L arg23 arg24 arg25 l a) ⟨k.val / 256, by omega⟩ (ix2 i ⟨k.val % 256, Nat.mod_lt _ (by decide)⟩) := by
  refine (congrFun (View.readCov_eq_canon' _ _ _) _).trans ?_
  have h0 : ((actRect a).toLoadRect.idx (ix2 i k) 0).val = 512 * a.val + i.val := by
    show 512 * a.val + 1 * i.val = _; omega
  have h1 : ((actRect a).toLoadRect.idx (ix2 i k) 1).val = 256 * (k.val / 256) + k.val % 256 := by
    show 0 + 1 * k.val = _; omega
  match a, h0, h1 with
  | 0, h0, h1 =>
    refine (congrFun (congrArg View.canon (List.append_nil _).symm) _).trans ?_
    exact tiles_canon (N := 11) (w := 2816) rfl 0 (actTile_inb 0) [10, 9, 8, 7, 6, 5, 4, 3, 2, 1, 0] (by decide) _ [] i ⟨k.val / 256, by omega⟩ ⟨k.val % 256, Nat.mod_lt _ (by decide)⟩ _ h0 h1
  | 1, h0, h1 =>
    exact tiles_canon (N := 11) (w := 2816) rfl 1 (actTile_inb 1) [10, 9, 8, 7, 6, 5, 4, 3, 2, 1, 0] (by decide) _ _ i ⟨k.val / 256, by omega⟩ ⟨k.val % 256, Nat.mod_lt _ (by decide)⟩ _ h0 h1

end Cert.TailBlock
-- ==== Proof.TailSpec.lean ====
module

public import Idealize.ShloMosaic.Lib.ValueIdx
public import Idealize.ShloMosaic.PureOps.Ideal.Laws

/-! The tail of a layer on one row, over the extended reals: norm, gated merge of the two attentions, residual, norm,
gated feed-forward, residual. -/

@[expose] public section

noncomputable section

namespace Cert.TailSpec

open Idealize.ShloMosaic Idealize.ShloMosaic.ValueIdx

/-- The number one, as both programs write it. -/
def one : EReal := Ideal.ofBits .f32 0x3F800000#32

/-- The product of a row and a column. -/
def dot {K : Nat} (x w : Fin K → EReal) : EReal := ∑ k, x k * w k

/-- A row divided by its root mean square, times a gain, scaled and shifted. -/
def norm (sh sc x g : Fin 1024 → EReal) (k : Fin 1024) : EReal :=
  x k * Ideal.rsqrt (Ideal.div (∑ j, x j * x j) (Ideal.ofBits .f32 0x44800000#32) + Ideal.ofBits .f32 0x358637BD#32) * g k
    * (one + sc k) + sh k

/-- The logistic function. -/
def sgm (x : EReal) : EReal := Ideal.div one (one + Ideal.exp (-x))

/-- One column of the merged row. -/
def merge (h wga wgb : Fin 1024 → EReal) (bga bgb : EReal) (oa wpa : Fin 512 → EReal) (ob wpb : Fin 256 → EReal) : EReal :=
  sgm (dot h wga + bga) * dot oa wpa + sgm (dot h wgb + bgb) * dot ob wpb

/-- One column of the activation. -/
def act (h wa wu : Fin 1024 → EReal) : EReal := dot h wa * sgm (dot h wa) * dot h wu

/-- The weights, and the modulation of the row's batch; a matrix is written by its columns. -/
structure Weights where
  /-- The six modulation rows. -/
  md : Fin 6 → Fin 1024 → EReal
  /-- The first norm's gain. -/
  g1 : Fin 1024 → EReal
  /-- The second norm's gain. -/
  g2 : Fin 1024 → EReal
  /-- The first gate's weights. -/
  wga : Fin 1024 → Fin 1024 → EReal
  /-- The second gate's weights. -/
  wgb : Fin 1024 → Fin 1024 → EReal
  /-- The first gate's bias. -/
  bga : Fin 1024 → EReal
  /-- The second gate's bias. -/
  bgb : Fin 1024 → EReal
  /-- The first attention's projection. -/
  wpa : Fin 1024 → Fin 512 → EReal
  /-- The second attention's projection. -/
  wpb : Fin 1024 → Fin 256 → EReal
  /-- The projection of the merged row. -/
  wo : Fin 1024 → Fin 1024 → EReal
  /-- The feed-forward's gating weights. -/
  wa : Fin 2816 → Fin 1024 → EReal
  /-- The feed-forward's gated weights. -/
  wu : Fin 2816 → Fin 1024 → EReal
  /-- The feed-forward's second weights. -/
  wout : Fin 1024 → Fin 2816 → EReal

namespace Weights
variable (W : Weights) (x : Fin 1024 → EReal) (oa : Fin 512 → EReal) (ob : Fin 256 → EReal)

/-- The first normalised row. -/
def h : Fin 1024 → EReal := norm (W.md 0) (W.md 1) x W.g1

/-- The merged row. -/
def m (j : Fin 1024) : EReal := merge (W.h x) (W.wga j) (W.wgb j) (W.bga j) (W.bgb j) oa (W.wpa j) ob (W.wpb j)

/-- The row after the first residual. -/
def x1 (k : Fin 1024) : EReal := x k + W.md 2 k * dot (W.m x oa ob) (W.wo k)

/-- The second normalised row. -/
def h2 : Fin 1024 → EReal := norm (W.md 3) (W.md 4) (W.x1 x oa ob) W.g2

/-- The activation's row. -/
def a (f : Fin 2816) : EReal := act (W.h2 x oa ob) (W.wa f) (W.wu f)

/-- The result's row. -/
def out (k : Fin 1024) : EReal := W.x1 x oa ob k + W.md 5 k * dot (W.a x oa ob) (W.wout k)

end Weights

/-- The weights as the arguments hold them, for batch `b`. -/
def weights (b : Fin 2) (md : (⟨2, ![2, 6144]⟩ : Shape).Idx → EReal) (g1 g2 : (⟨1, ![1024]⟩ : Shape).Idx → EReal)
    (win : (⟨2, ![1024, 5888]⟩ : Shape).Idx → EReal) (bg : (⟨1, ![2048]⟩ : Shape).Idx → EReal)
    (wpa : (⟨2, ![512, 1024]⟩ : Shape).Idx → EReal) (wpb : (⟨2, ![256, 1024]⟩ : Shape).Idx → EReal)
    (wo : (⟨2, ![1024, 1024]⟩ : Shape).Idx → EReal) (wf : (⟨2, ![1024, 5632]⟩ : Shape).Idx → EReal)
    (wout : (⟨2, ![2816, 1024]⟩ : Shape).Idx → EReal) : Weights where
  md r k := md (ix2 b ⟨1024 * r.val + k.val, by omega⟩)
  g1 k := g1 (ix1 k)
  g2 k := g2 (ix1 k)
  wga j k := win (ix2 k ⟨3840 + j.val, by omega⟩)
  wgb j k := win (ix2 k ⟨3840 + (1024 + j.val), by omega⟩)
  bga j := bg (ix1 ⟨j.val, by omega⟩)
  bgb j := bg (ix1 ⟨1024 + j.val, by omega⟩)
  wpa j k := wpa (ix2 k j)
  wpb j k := wpb (ix2 k j)
  wo j k := wo (ix2 k j)
  wa f k := wf (ix2 k ⟨f.val, by omega⟩)
  wu f k := wf (ix2 k ⟨2816 + f.val, by omega⟩)
  wout j k := wout (ix2 k j)

end Cert.TailSpec
-- ==== Proof.TailTile.lean ====
module

public import proofs.«01_k».proof.Proof.TailBlock
public import proofs.«01_k».proof.Proof.TailSpec
public import proofs.«01_k».proof.Proof.Consts
public import Idealize.ShloMosaic.Lib.ValueIdx
public import Idealize.ShloMosaic.Lib.MatmulPlain
public import Idealize.ShloMosaic.Lib.Pipeline.Value

/-! The tiles of TailBlock.lean read at an index, over the extended reals. -/

@[expose] public section

set_option maxRecDepth 16384

noncomputable section

namespace Cert.TailBlock

open Idealize.ShloMosaic Idealize.ShloMosaic.ValueIdx Cert.TailIdeal Cert.TailIdeal.Gen Cert.TailSpec

/-- A row vector over all rows. -/
theorem row_apply {n w : Nat} (v : (⟨2, ![1, w]⟩ : Shape).Idx → EReal)
    (h : Shape.Broadcasts ⟨2, ![1, w]⟩ ⟨2, ![n, w]⟩) (hw : w ≠ 1) (i : Fin n) (k : Fin w) :
    broadcastTo (⟨2, ![n, w]⟩ : Shape) v h (ix2 i k) = v (ix2 0 k) := by
  refine broadcastTo_apply _ _ _ (ix2 0 k) ?_
  intro a
  match a with
  | ⟨0, _⟩ => rfl
  | ⟨1, _⟩ => exact (if_neg hw).symm

/-- A leading axis of one, dropped. -/
theorem drop_apply {n w : Nat} (v : (⟨3, ![1, n, w]⟩ : Shape).Idx → EReal)
    (h : Shape.ShapeCasts ⟨3, ![1, n, w]⟩ ⟨2, ![n, w]⟩) (i : Fin n) (k : Fin w) :
    shapeCast (⟨2, ![n, w]⟩ : Shape) v h (ix2 i k) = v (ix3 0 i k) := by
  refine (shapeCast_dropUnit_apply ![n, w] v _ _).trans (congrArg v ?_)
  funext a
  match a with
  | ⟨0, _⟩ => rfl
  | ⟨1, _⟩ => rfl
  | ⟨2, _⟩ => rfl

/-- The word of zero, in an array. -/
theorem zero_apply (S : Shape) (y : S.Idx) : constant (F := Ideal) S .f32 0x00000000#32 y = 0 := Ideal.ofBits_zero_f32

/-- The modulation's row `r`. -/
theorem md_apply (md : Vec Ideal S1x6x1024 .f32) (r : Fin 6) (h : Shape.Slices S6x1024 ![r.val, 0] S1x1024) (k : Fin 1024) :
    extractStridedSlice S1x1024 ![r.val, 0] (k0_pay2 (F := Ideal) md) h (ix2 0 k) = md (ix3 0 r k) := by
  refine (extractStridedSlice_apply _ _ _ _ (ix2 r k) ?_).trans (drop_apply md _ r k)
  intro a
  match a with
  | ⟨0, _⟩ => rfl
  | ⟨1, _⟩ => exact (Nat.zero_add _).symm

/-- The mean square's inverse root, over a row. -/
theorem root_apply (x : FVec Ideal S512x1024 .f32) (i : Fin 512) :
    rsqrt (addf (divf (shapeCast S512x1 (multiReduction .add [1] S512 (mulf x x) 0x00000000#32 reduces_S512x1024_S512 (.inl rfl) rfl)
        shapeCasts_S512_S512x1 : FVec Ideal S512x1 .f32)
      (broadcast S512x1 (Scalar.ofBits (F := Ideal) .f32 0x44800000#32)))
      (broadcast S512x1 (Scalar.ofBits (F := Ideal) .f32 0x358637BD#32))) (ix2 i 0)
      = Ideal.rsqrt (Ideal.div (∑ j : Fin 1024, x (ix2 i j) * x (ix2 i j)) (Ideal.ofBits .f32 0x44800000#32)
        + Ideal.ofBits .f32 0x358637BD#32) := by
  refine congrArg (fun z => Ideal.rsqrt (Ideal.div z _ + _)) ?_
  refine (shapeCast_apply _ _ _ (ix1 i) ?_).trans ?_
  · rw [Shape.rowMajor_val_one, Shape.rowMajor_val_two]
    show i.val = i.val * 1 + 0; omega
  refine (Ideal.multiReduction_add_single _ _ _ _ _ (ix1 i)).trans ?_
  refine Finset.sum_congr rfl fun k _ => congrArg (fun z => x z * x z) ?_
  funext a
  match a with
  | ⟨0, _⟩ => rfl
  | ⟨1, _⟩ => rfl

/-- A normalised half at an index. -/
theorem norm_apply (sh sc : FVec Ideal S1x1024 .f32) (x : FVec Ideal S512x1024 .f32) (g : Vec Ideal S1x1024 .f32) (i : Fin 512)
    (k : Fin 1024) : normT sh sc x g (ix2 i k)
      = norm (fun k => sh (ix2 0 k)) (fun k => sc (ix2 0 k)) (fun k => x (ix2 i k)) (fun k => g (ix2 0 k)) k := by
  unfold normT k0_pay20
  rw [shapeCast_self]
  refine congrArg₂ (· + ·) (congrArg₂ (· * ·) (congrArg₂ (· * ·) (congrArg (x (ix2 i k) * ·) ?_) ?_) ?_) ?_
  · refine (broadcastTo_apply _ _ _ (ix2 i 0) ?_).trans (root_apply x i)
    intro a
    match a with
    | ⟨0, _⟩ => rfl
    | ⟨1, _⟩ => rfl
  · exact (row_apply _ _ (by decide) i k).trans (congrFun (shapeCast_self _ _) _)
  · exact row_apply _ _ (by decide) i k
  · exact row_apply _ _ (by decide) i k

/-- The logistic function, with the number one as the programs write it. -/
theorem sgm_eq (x : EReal) : Ideal.logistic x = sgm x := by
  unfold Ideal.logistic sgm one; rw [Consts.one_f32]

section Products
variable {φ φ' : FTy}

/-- A half's rows times a weight tile. -/
theorem mmG_apply (x : FVec Ideal S512x1024 φ) (w : FVec Ideal S1024x256 φ') (i : Fin 512) (j : Fin 256) :
    matmul (F := Ideal) dot_S512x1024_S1024x256_S512x256_1_0_0_1_n_n none x
      (shapeCast S1024x256 w shapeCasts_S1024x256_S1024x256 : FVec Ideal S1024x256 φ') (constant S512x256 .f32 0x00000000#32) (ix2 i j)
      = dot (fun k : Fin 1024 => x (ix2 i k)) fun k => w (ix2 k j) := by
  rw [shapeCast_self]
  refine (Ideal.matmul_plain_apply (M := 512) (K := 1024) (N := 256) none _ _ _ i j).trans ?_
  rw [zero_apply, zero_add]
  rfl

/-- The first attention's rows times a projection tile. -/
theorem mmA_apply (x : FVec Ideal S512x512 φ) (w : FVec Ideal S512x256 φ') (i : Fin 512) (j : Fin 256) :
    matmul (F := Ideal) dot_S512x512_S512x256_S512x256_1_0_0_1_n_n none x
      (shapeCast S512x256 w shapeCasts_S512x256_S512x256 : FVec Ideal S512x256 φ') (constant S512x256 .f32 0x00000000#32) (ix2 i j)
      = dot (fun k : Fin 512 => x (ix2 i k)) fun k => w (ix2 k j) := by
  rw [shapeCast_self]
  refine (Ideal.matmul_plain_apply (M := 512) (K := 512) (N := 256) none _ _ _ i j).trans ?_
  rw [zero_apply, zero_add]
  rfl

/-- The second attention's rows times a projection tile. -/
theorem mmB_apply (x : FVec Ideal S512x256 φ) (w : FVec Ideal S256x256 φ') (i : Fin 512) (j : Fin 256) :
    matmul (F := Ideal) dot_S512x256_S256x256_S512x256_1_0_0_1_n_n none x
      (shapeCast S256x256 w shapeCasts_S256x256_S256x256 : FVec Ideal S256x256 φ') (constant S512x256 .f32 0x00000000#32) (ix2 i j)
      = dot (fun k : Fin 256 => x (ix2 i k)) fun k => w (ix2 k j) := by
  rw [shapeCast_self]
  refine (Ideal.matmul_plain_apply (M := 512) (K := 256) (N := 256) none _ _ _ i j).trans ?_
  rw [zero_apply, zero_add]
  rfl

/-- The merged rows times their projection. -/
theorem mmO_apply (x : FVec Ideal S512x1024 φ) (w : FVec Ideal S1024x1024 φ') (i : Fin 512) (j : Fin 1024) :
    matmul (F := Ideal) dot_S512x1024_S1024x1024_S512x1024_1_0_0_1_n_n none x w (constant S512x1024 .f32 0x00000000#32)
      (ix2 i j) = dot (fun k : Fin 1024 => x (ix2 i k)) fun k => w (ix2 k j) := by
  refine (Ideal.matmul_plain_apply (M := 512) (K := 1024) (N := 1024) none _ _ _ i j).trans ?_
  rw [zero_apply, zero_add]
  rfl

/-- The activation times the feed-forward's second weights. -/
theorem mmF_apply (x : FVec Ideal S512x2816 φ) (w : FVec Ideal S2816x1024 φ') (i : Fin 512) (j : Fin 1024) :
    matmul (F := Ideal) dot_S512x2816_S2816x1024_S512x1024_1_0_0_1_n_n none x w (constant S512x1024 .f32 0x00000000#32)
      (ix2 i j) = dot (fun k : Fin 2816 => x (ix2 i k)) fun k => w (ix2 k j) := by
  refine (Ideal.matmul_plain_apply (M := 512) (K := 2816) (N := 1024) none _ _ _ i j).trans ?_
  rw [zero_apply, zero_add]
  rfl

end Products

/-- A gate's tile. -/
theorem gate_apply (h : Vec Ideal S512x1024 .bf16) (w : Vec Ideal S1024x256 .bf16) (b : Vec Ideal S1x256 .f32) (i : Fin 512) (j : Fin 256) :
    logistic (F := Ideal) (addf (matmul (F := Ideal) (φ₁ := .bf16) dot_S512x1024_S1024x256_S512x256_1_0_0_1_n_n none h
        (shapeCast S1024x256 w shapeCasts_S1024x256_S1024x256 : FVec Ideal S1024x256 .bf16) (constant S512x256 .f32 0x00000000#32))
      (broadcastTo S512x256 (shapeCast S1x256 b shapeCasts_S1x256_S1x256 : FVec Ideal S1x256 .f32) broadcasts_S1x256_S512x256)) (ix2 i j)
      = sgm (dot (fun k : Fin 1024 => h (ix2 i k)) (fun k => w (ix2 k j)) + b (ix2 0 j)) := by
  refine (sgm_eq _).trans (congrArg sgm (congrArg₂ (· + ·) (mmG_apply h w i j) ?_))
  exact (row_apply _ _ (by decide) i j).trans (congrFun (shapeCast_self _ _) _)

/-- A tile of the merged rows at an index. -/
theorem merge_apply (oa : Vec Ideal S1x512x512 .bf16) (ob : Vec Ideal S1x512x256 .bf16) (h : Vec Ideal S512x1024 .bf16)
    (wga : Vec Ideal S1024x256 .bf16) (bga : Vec Ideal S1x256 .f32) (wgb : Vec Ideal S1024x256 .bf16) (bgb : Vec Ideal S1x256 .f32)
    (wpa : Vec Ideal S512x256 .bf16) (wpb : Vec Ideal S256x256 .bf16) (i : Fin 512) (j : Fin 256) :
    mergeT oa ob h wga bga wgb bgb wpa wpb (ix2 i j)
      = merge (fun k => h (ix2 i k)) (fun k => wga (ix2 k j)) (fun k => wgb (ix2 k j)) (bga (ix2 0 j)) (bgb (ix2 0 j))
        (fun k => oa (ix3 0 i k)) (fun k => wpa (ix2 k j)) (fun k => ob (ix3 0 i k)) (fun k => wpb (ix2 k j)) := by
  unfold mergeT k0_pay15
  rw [shapeCast_self]
  unfold k0_pay14
  refine congrArg₂ (· + ·) (congrArg₂ (· * ·) (gate_apply h wga bga i j) ?_) (congrArg₂ (· * ·) (gate_apply h wgb bgb i j) ?_)
  · refine (mmA_apply _ wpa i j).trans (congrArg (dot · _) (funext fun k => ?_))
    exact drop_apply oa _ i k
  · refine (mmB_apply _ wpb i j).trans (congrArg (dot · _) (funext fun k => ?_))
    exact drop_apply ob _ i k

/-- A tile of the activation at an index. -/
theorem act_apply (h : Vec Ideal S512x1024 .bf16) (wa wu : Vec Ideal S1024x256 .bf16) (i : Fin 512) (j : Fin 256) :
    actT h wa wu (ix2 i j) = act (fun k => h (ix2 i k)) (fun k => wa (ix2 k j)) (fun k => wu (ix2 k j)) := by
  have e (w : Vec Ideal S1024x256 .bf16) : matmul (F := Ideal) (φ₁ := .bf16) (φ₂ := .bf16) dot_S512x1024_S1024x256_S512x256_1_0_0_1_n_n none h w
      (constant S512x256 .f32 0x00000000#32) (ix2 i j) = dot (fun k : Fin 1024 => h (ix2 i k)) fun k => w (ix2 k j) := by
    refine (congrArg (fun z => matmul (F := Ideal) (φ₁ := .bf16) (φ₂ := .bf16) dot_S512x1024_S1024x256_S512x256_1_0_0_1_n_n none h z _ _)
      (shapeCast_self w shapeCasts_S1024x256_S1024x256).symm).trans (mmG_apply (φ := .bf16) (φ' := .bf16) h w i j)
  unfold actT k0_pay23
  rw [shapeCast_self]
  refine congrArg₂ (· * ·) (congrArg₂ (· * ·) (e wa) ?_) (e wu)
  exact (sgm_eq _).trans (congrArg sgm (e wa))

/-- The half after the first residual, at an index. -/
theorem res_apply (gt : FVec Ideal S1x1024 .f32) (x : FVec Ideal S512x1024 .f32) (m : Vec Ideal S512x1024 .bf16)
    (wo : Vec Ideal S1024x1024 .bf16) (i : Fin 512) (k : Fin 1024) :
    k0_pay19 gt x m wo (ix2 i k)
      = x (ix2 i k) + gt (ix2 0 k) * dot (fun j => m (ix2 i j)) (fun j => wo (ix2 j k)) := by
  unfold k0_pay19
  rw [shapeCast_self]
  refine congrArg (x (ix2 i k) + ·) (congrArg₂ (· * ·) (row_apply _ _ (by decide) i k) (mmO_apply (φ := .bf16) (φ' := .bf16) m wo i k))

/-- The stored half at an index. -/
theorem stored_apply (gt : FVec Ideal S1x1024 .f32) (x : FVec Ideal S512x1024 .f32) (av : Vec Ideal S512x2816 .bf16)
    (wout : Vec Ideal S2816x1024 .bf16) (i : Fin 512) (k : Fin 1024) :
    k0_pay35 gt x av wout (ix3 0 i k)
      = x (ix2 i k) + gt (ix2 0 k) * dot (fun j => av (ix2 i j)) (fun j => wout (ix2 j k)) := by
  unfold k0_pay35
  refine (shapeCast_addUnit_apply ![512, 1024] _ _ _).trans ?_
  have ei : (fun a : Fin 2 => (ix3 (0 : Fin 1) i k) a.succ) = ix2 i k := by
    funext a
    match a with
    | ⟨0, _⟩ => rfl
    | ⟨1, _⟩ => rfl
  refine (congrArg _ ei).trans ?_
  exact congrArg (x (ix2 i k) + ·) (congrArg₂ (· * ·) (row_apply _ _ (by decide) i k) (mmF_apply (φ := .bf16) (φ' := .bf16) av wout i k))

end Cert.TailBlock
-- ==== Proof.TailHalf.lean ====
module
public import proofs.«01_k».proof.Proof.TailTiles
public import proofs.«01_k».proof.Proof.TailTile

/-! What a grid point of the tail stores, over the extended reals: the formula of TailSpec.lean on the loaded rows. -/

@[expose] public section

noncomputable section

namespace Cert.TailBlock
open Idealize.ShloMosaic hiding ix2 ix3
open Idealize.ShloMosaic.ValueIdx Idealize.ShloMosaic.Pipeline Cert.TailIdeal Cert.TailIdeal.Gen Cert.TailSpec

/-- The loaded weights. -/
def Loads.weights (l : Loads Ideal) : Weights where
  md r k := l.md (ix3 0 r k)
  g1 k := l.g1 (ix2 0 k)
  g2 k := l.g2 (ix2 0 k)
  wga j k := l.wg ⟨j.val / 256, by omega⟩ (ix2 k ⟨j.val % 256, Nat.mod_lt _ (by decide)⟩)
  wgb j k := l.wg ⟨4 + j.val / 256, by omega⟩ (ix2 k ⟨j.val % 256, Nat.mod_lt _ (by decide)⟩)
  bga j := l.bg ⟨j.val / 256, by omega⟩ (ix2 0 ⟨j.val % 256, Nat.mod_lt _ (by decide)⟩)
  bgb j := l.bg ⟨4 + j.val / 256, by omega⟩ (ix2 0 ⟨j.val % 256, Nat.mod_lt _ (by decide)⟩)
  wpa j k := l.wpa ⟨j.val / 256, by omega⟩ (ix2 k ⟨j.val % 256, Nat.mod_lt _ (by decide)⟩)
  wpb j k := l.wpb ⟨j.val / 256, by omega⟩ (ix2 k ⟨j.val % 256, Nat.mod_lt _ (by decide)⟩)
  wo j k := l.wo (ix2 k j)
  wa f k := l.win ⟨f.val / 256, by omega⟩ (ix2 k ⟨f.val % 256, Nat.mod_lt _ (by decide)⟩)
  wu f k := l.win ⟨11 + f.val / 256, by omega⟩ (ix2 k ⟨f.val % 256, Nat.mod_lt _ (by decide)⟩)
  wout j k := l.wout (ix2 k j)

variable (arg23 : Memref sig .tc .vmem S1024x1024 .bf16) (arg24 : Memref sig .tc .vmem S1024x1024 .bf16)
  (arg25 : Memref sig .tc .vmem S1024x1024 .bf16) (arg26 : Memref sig .tc .vmem S1024x2816 .bf16) (l : Loads Ideal)
  (a : Fin 2) (i : Fin 512)

/-- The loaded row of `x`. -/
def Loads.xr (k : Fin 1024) : EReal := l.x a (ix3 0 i k)

/-- The loaded row of the first attention. -/
def Loads.oar (k : Fin 512) : EReal := l.oa a (ix3 0 i k)

/-- The loaded row of the second attention. -/
def Loads.obr (k : Fin 256) : EReal := l.ob a (ix3 0 i k)

/-- The loaded rows of `x` without their unit axis. -/
theorem x_apply (k : Fin 1024) : k0_pay9 (F := Ideal) (l.x a) (ix2 i k) = l.xr a i k := drop_apply _ _ i k

/-- The normalised row. -/
theorem hL_row (k : Fin 1024) : hL arg23 l a (ix2 i k) = l.weights.h (l.xr a i) k := by
  refine (congrFun (halves_read arg23 l.h a) _).trans ((norm_apply _ _ _ _ i k).trans ?_)
  have e0 : (fun k => k0_pay3 (F := Ideal) l.md (ix2 0 k)) = l.weights.md 0 := funext fun k => md_apply l.md 0 slices_S6x1024_o0_0_S1x1024 k
  have e1 : (fun k => k0_pay4 (F := Ideal) l.md (ix2 0 k)) = l.weights.md 1 := funext fun k => md_apply l.md 1 slices_S6x1024_o1_0_S1x1024 k
  have e2 : (fun k => k0_pay9 (F := Ideal) (l.x a) (ix2 i k)) = l.xr a i := funext fun k => x_apply l a i k
  rw [e0, e1, e2]
  rfl

/-- The merged row. -/
theorem mL_row (j : Fin 1024) :
    mL arg23 arg25 l a (ix2 i j) = l.weights.m (l.xr a i) (l.oar a i) (l.obr a i) j := by
  refine (mL_apply arg23 arg25 l a i j).trans ((merge_apply _ _ _ _ _ _ _ _ _ i _).trans ?_)
  have e : (fun k => hL arg23 l a (ix2 i k)) = l.weights.h (l.xr a i) := funext fun k => hL_row arg23 l a i k
  rw [e]
  rfl

/-- The row after the first residual. -/
theorem x1_row (k : Fin 1024) :
    l.x1 a (mL arg23 arg25 l a) (ix2 i k) = l.weights.x1 (l.xr a i) (l.oar a i) (l.obr a i) k := by
  refine (res_apply _ _ _ _ i k).trans ?_
  have e : (fun j => mL arg23 arg25 l a (ix2 i j)) = l.weights.m (l.xr a i) (l.oar a i) (l.obr a i) :=
    funext fun j => mL_row arg23 arg25 l a i j
  rw [e, x_apply]
  exact congrArg (fun z => l.xr a i k + z * _) (md_apply l.md 2 slices_S6x1024_o2_0_S1x1024 k)

/-- The row normalised again. -/
theorem h2L_row (k : Fin 1024) :
    h2L arg23 arg24 arg25 l a (ix2 i k) = l.weights.h2 (l.xr a i) (l.oar a i) (l.obr a i) k := by
  refine (congrFun (halves_read arg24 _ a) _).trans ((norm_apply _ _ _ _ i k).trans ?_)
  have e0 : (fun k => k0_pay6 (F := Ideal) l.md (ix2 0 k)) = l.weights.md 3 := funext fun k => md_apply l.md 3 slices_S6x1024_o3_0_S1x1024 k
  have e1 : (fun k => k0_pay7 (F := Ideal) l.md (ix2 0 k)) = l.weights.md 4 := funext fun k => md_apply l.md 4 slices_S6x1024_o4_0_S1x1024 k
  have e2 : (fun k => l.x1 a (mL arg23 arg25 l a) (ix2 i k)) = l.weights.x1 (l.xr a i) (l.oar a i) (l.obr a i) :=
    funext fun k => x1_row arg23 arg25 l a i k
  rw [e0, e1, e2]
  rfl

/-- The activation's row. -/
theorem aL_row (f : Fin 2816) :
    aL arg23 arg24 arg25 arg26 l a (ix2 i f) = l.weights.a (l.xr a i) (l.oar a i) (l.obr a i) f := by
  refine (aL_apply arg23 arg24 arg25 arg26 l a i f).trans ((act_apply _ _ _ i _).trans ?_)
  have e : (fun k => h2L arg23 arg24 arg25 l a (ix2 i k)) = l.weights.h2 (l.xr a i) (l.oar a i) (l.obr a i) :=
    funext fun k => h2L_row arg23 arg24 arg25 l a i k
  rw [e]
  rfl

/-- The stored row. -/
theorem stored_row (k : Fin 1024) :
    stored arg23 arg24 arg25 arg26 l a (ix3 0 i k) = l.weights.out (l.xr a i) (l.oar a i) (l.obr a i) k := by
  refine (stored_apply _ _ _ _ i k).trans ?_
  have e : (fun j => aL arg23 arg24 arg25 arg26 l a (ix2 i j)) = l.weights.a (l.xr a i) (l.oar a i) (l.obr a i) :=
    funext fun j => aL_row arg23 arg24 arg25 arg26 l a i j
  rw [e, x1_row]
  exact congrArg (fun z => l.weights.x1 (l.xr a i) (l.oar a i) (l.obr a i) k + z * _) (md_apply l.md 5 slices_S6x1024_o5_0_S1x1024 k)

end Cert.TailBlock
-- ==== Proof.TailPoint.lean ====
module
public import proofs.«01_k».proof.Proof.TailRunA
public import proofs.«01_k».proof.Proof.TailRunB
public import proofs.«01_k».proof.Proof.TailHalf
public import Idealize.ShloMosaic.Lib.Pipeline.ReadBack

/-! What a grid point of the tail leaves in its output block and in its scratch, as functions of the blocks it reads. -/

@[expose] public section

set_option maxRecDepth 16384

noncomputable section

namespace Cert.TailBlock
open Idealize.ShloMosaic hiding ix2 ix3
open Idealize.ShloMosaic.ValueIdx Idealize.ShloMosaic.Pipeline Cert.TailIdeal Cert.TailIdeal.Gen Cert.TailSpec

/-- The token, within the block, of row `i` of half `a`. -/
abbrev halfTok (a : Fin 2) (i : Fin 512) : Fin 1024 := ⟨512 * a.val + i.val, by omega⟩

section Generic
variable {F : FTy → Type} [FloatOps F]

/-- A row of the output block is the row that its half stores. -/
theorem pieces_canon (arg23 : Memref sig .tc .vmem S1024x1024 .bf16) (arg24 : Memref sig .tc .vmem S1024x1024 .bf16)
    (arg25 : Memref sig .tc .vmem S1024x1024 .bf16) (arg26 : Memref sig .tc .vmem S1024x2816 .bf16) (l : Loads F)
    (hc : ∀ y, ∃ p ∈ pieces arg23 arg24 arg25 arg26 l, y ∈ p.1.set) (a : Fin 2) (i : Fin 512) (k : Fin 1024) :
    View.canon (pieces arg23 arg24 arg25 arg26 l) (ix3 0 (halfTok a i) k) = stored arg23 arg24 arg25 arg26 l a (ix3 0 i k) := by
  refine View.canon_eq_of_allAt _ _ _ (hc _) ?_
  intro p hp
  obtain ⟨b, hb, rfl⟩ := List.mem_map.mp hp
  intro x hx
  have hd : ∀ d, (![0, 512 * b.val, 0] : Fin 3 → Nat) d + (x d : Nat) = (ix3 (0 : Fin 1) (halfTok a i) k d).val := fun d => by
    rw [← hx, Rect.emb_apply]
    show _ = _ + 1 * (x d : Nat)
    rw [Nat.one_mul]
    rfl
  have h1 : 512 * b.val + (x 1).val = 512 * a.val + i.val := hd 1
  have h2 : 0 + (x 2).val = k.val := hd 2
  have hi : (x 1).val < 512 := (x 1).isLt
  have e : b = a := Fin.ext (by omega)
  subst e
  refine congrArg (stored arg23 arg24 arg25 arg26 l b) (funext fun d => Fin.ext ?_)
  match d with
  | ⟨0, _⟩ => show (x 0).val = 0; have : (x 0).val < 1 := (x 0).isLt; omega
  | ⟨1, _⟩ => show (x 1).val = i.val; omega
  | ⟨2, _⟩ => show (x 2).val = k.val; omega

/-- A load of a whole block is the block. -/
theorem whole_load {S : Shape} {e : EltTy} (arg : Memref sig .tc .vmem S e) (harg : arg.IsWhole) (x : Vec F S e)
    {off : Fin S.rank → Nat} (h : ∀ d, off d = 0) (inb : ∀ d, off d + S.size d ≤ S.size d) :
    View.readAt (Elt F) arg.view (Rect.unit off S.size inb).toLoadRect (harg.unread x) = x := by
  rw [View.readAt_eq_ld, harg.read_unread]
  exact View.ld_unit_lit' inb x h

/-- A load of a part of a block. -/
theorem part_load {S : Shape} {e : EltTy} (arg : Memref sig .tc .vmem S e) (harg : arg.IsWhole) (x : Vec F S e) (r : Rect S) :
    View.readAt (Elt F) arg.view r.toLoadRect (harg.unread x) = View.ld x r := by
  rw [View.readAt_eq_ld, harg.read_unread]

/-- Zero on two axes. -/
theorem zero2 : ∀ d, (![0, 0] : Fin 2 → Nat) d = 0 := by decide

/-- Zero on three axes. -/
theorem zero3 : ∀ d, (![0, 0, 0] : Fin 3 → Nat) d = 0 := by decide

/-- A load of a part of a buffer that one copy has filled. -/
theorem filled_load {S : Shape} {e : EltTy} (arg : Memref sig .tc .vmem S e) (Z : Vec F S e) (r : Rect S) :
    arg.view.readCov [⟨Rect.whole S, Z⟩] r.toLoadRect = View.ld Z r :=
  View.readCov_fill arg.view _ Z [] r fun _ => rfl

/-- A buffer that one copy has filled holds what was copied. -/
theorem filled_read {S : Shape} {e : EltTy} {sp : Space} (v : View sig .tc sp S e) (f : v.ty.Contents (Elt F)) (Z : Vec F S e) :
    v.read (Elt F) (v.writes (Elt F) f [⟨Rect.whole S, Z⟩]) = Z := by
  rw [View.read_writes_eq_canon _ _ _ fun y => ⟨_, List.mem_singleton_self _, by rw [Rect.set_whole]; exact Finset.mem_univ _⟩]
  exact View.canon_cons_unit_lit _ Z [] fun _ => rfl

section Raw
variable
  (x0 : Vec F S1x1024x1024 .f32)
  (x1 : Vec F S1x1024x512 .bf16)
  (x2 : Vec F S1x1024x256 .bf16)
  (x3 : Vec F S1x6x1024 .f32)
  (x4 : Vec F S1x1024 .f32)
  (x5 : Vec F S1x1024 .f32)
  (x6 : Vec F S1x2048 .f32)
  (x7 : Vec F S512x1024 .bf16)
  (x8 : Vec F S256x1024 .bf16)
  (x9 : Vec F S1024x1024 .bf16)
  (x10 : Vec F S1024x256 .bf16)
  (x11 : Vec F S1024x256 .bf16)
  (x12 : Vec F S1024x256 .bf16)
  (x13 : Vec F S1024x256 .bf16)
  (x14 : Vec F S1024x256 .bf16)
  (x15 : Vec F S1024x256 .bf16)
  (x16 : Vec F S1024x256 .bf16)
  (x17 : Vec F S1024x256 .bf16)
variable
  (arg2 : Memref sig .tc .vmem S1x1024x1024 .f32) (harg2 : arg2.IsWhole)
  (arg3 : Memref sig .tc .vmem S1x1024x512 .bf16) (harg3 : arg3.IsWhole)
  (arg4 : Memref sig .tc .vmem S1x1024x256 .bf16) (harg4 : arg4.IsWhole)
  (arg5 : Memref sig .tc .vmem S1x6x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x2048 .f32) (harg8 : arg8.IsWhole)
  (arg9 : Memref sig .tc .vmem S512x1024 .bf16) (harg9 : arg9.IsWhole)
  (arg10 : Memref sig .tc .vmem S256x1024 .bf16) (harg10 : arg10.IsWhole)
  (arg11 : Memref sig .tc .vmem S1024x1024 .bf16) (harg11 : arg11.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x256 .bf16) (harg16 : arg16.IsWhole)
  (arg17 : Memref sig .tc .vmem S1024x256 .bf16) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x256 .bf16) (harg20 : arg20.IsWhole)
  (arg21 : Memref sig .tc .vmem S1024x256 .bf16) (harg21 : arg21.IsWhole)

/-- The loads, as functions of the blocks. -/
theorem raw_eq (win : Fin 22 → Vec F S1024x256 .bf16) (wout : Vec F S2816x1024 .bf16) :
    rawLoads x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 win wout = loads x0 x1 x2 x3 x4 x5 x6 x7 x8 x9 x10 x11 x12 x13 x14 x15 x16 x17 win wout := by
  unfold rawLoads loads
  rw [Loads.mk.injEq]
  refine ⟨whole_load _ _ _ zero3 _, whole_load _ _ _ zero2 _, whole_load _ _ _ zero2 _, funext fun a => part_load _ _ _ _,
    funext fun a => part_load _ _ _ _, funext fun a => part_load _ _ _ _, funext fun n => ?_, funext fun n => part_load _ _ _ _,
    funext fun n => part_load _ _ _ _, funext fun n => part_load _ _ _ _, whole_load _ _ _ zero2 _, rfl, rfl⟩
  match n with
  | 0 => exact whole_load arg14 harg14 x10 zero2 _
  | 1 => exact whole_load arg15 harg15 x11 zero2 _
  | 2 => exact whole_load arg16 harg16 x12 zero2 _
  | 3 => exact whole_load arg17 harg17 x13 zero2 _
  | 4 => exact whole_load arg18 harg18 x14 zero2 _
  | 5 => exact whole_load arg19 harg19 x15 zero2 _
  | 6 => exact whole_load arg20 harg20 x16 zero2 _
  | 7 => exact whole_load arg21 harg21 x17 zero2 _

end Raw
end Generic

section Points
variable (c : Dev nD) (i : grid0.Coords)
variable
  (x0 : Vec Ideal S1x1024x1024 .f32)
  (x1 : Vec Ideal S1x1024x512 .bf16)
  (x2 : Vec Ideal S1x1024x256 .bf16)
  (x3 : Vec Ideal S1x6x1024 .f32)
  (x4 : Vec Ideal S1x1024 .f32)
  (x5 : Vec Ideal S1x1024 .f32)
  (x6 : Vec Ideal S1x2048 .f32)
  (x7 : Vec Ideal S512x1024 .bf16)
  (x8 : Vec Ideal S256x1024 .bf16)
  (x9 : Vec Ideal S1024x1024 .bf16)
  (x10 : Vec Ideal S1024x256 .bf16)
  (x11 : Vec Ideal S1024x256 .bf16)
  (x12 : Vec Ideal S1024x256 .bf16)
  (x13 : Vec Ideal S1024x256 .bf16)
  (x14 : Vec Ideal S1024x256 .bf16)
  (x15 : Vec Ideal S1024x256 .bf16)
  (x16 : Vec Ideal S1024x256 .bf16)
  (x17 : Vec Ideal S1024x256 .bf16)
variable
  (arg2 : Memref sig .tc .vmem S1x1024x1024 .f32) (harg2 : arg2.IsWhole)
  (arg3 : Memref sig .tc .vmem S1x1024x512 .bf16) (harg3 : arg3.IsWhole)
  (arg4 : Memref sig .tc .vmem S1x1024x256 .bf16) (harg4 : arg4.IsWhole)
  (arg5 : Memref sig .tc .vmem S1x6x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x2048 .f32) (harg8 : arg8.IsWhole)
  (arg9 : Memref sig .tc .vmem S512x1024 .bf16) (harg9 : arg9.IsWhole)
  (arg10 : Memref sig .tc .vmem S256x1024 .bf16) (harg10 : arg10.IsWhole)
  (arg11 : Memref sig .tc .vmem S1024x1024 .bf16) (harg11 : arg11.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x256 .bf16) (harg16 : arg16.IsWhole)
  (arg17 : Memref sig .tc .vmem S1024x256 .bf16) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x256 .bf16) (harg20 : arg20.IsWhole)
  (arg21 : Memref sig .tc .vmem S1024x256 .bf16) (harg21 : arg21.IsWhole)

variable
  (arg22 : Memref sig .tc .vmem S1x1024x1024 .f32) (harg22 : arg22.IsWhole)
  (arg23 : Memref sig .tc .vmem S1024x1024 .bf16) (harg23 : arg23.IsWhole)
  (arg24 : Memref sig .tc .vmem S1024x1024 .bf16) (harg24 : arg24.IsWhole)
  (arg25 : Memref sig .tc .vmem S1024x1024 .bf16) (harg25 : arg25.IsWhole)
  (arg26 : Memref sig .tc .vmem S1024x2816 .bf16) (harg26 : arg26.IsWhole)
  (arg27 : Memref sig .tc .vmem S1024x5632 .bf16) (harg27 : arg27.IsWhole)
  (arg28 : Memref sig .tc .vmem S2816x1024 .bf16) (harg28 : arg28.IsWhole)

variable (fh0 : HbBuf0 (F := Ideal) c hbM0_0) (fh1 : HbBuf0 (F := Ideal) c hbM0_1)

/-- The output block of a grid point other than the first. -/
theorem out_B (xs4 : Vec Ideal S1024x5632 .bf16) (xs5 : Vec Ideal S2816x1024 .bf16) (hc0 : ¬cond0_0 i) (hc1 : ¬cond0_1 i)
    (a : Fin 2) (j : Fin 512) (k : Fin 1024) (l : Loads Ideal)
    (hl : loads x0 x1 x2 x3 x4 x5 x6 x7 x8 x9 x10 x11 x12 x13 x14 x15 x16 x17 (fun n => View.ld xs4 (winRect n)) xs5 = l) :
    out0_B_18 c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs4 xs5 fh0 fh1 (ix3 0 (halfTok a j) k)
      = l.weights.out (l.xr a j) (l.oar a j) (l.obr a j) k := by
  have hc := cover0_B_18 c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs4 xs5 fh0 fh1
  have e : loadsB x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 harg27 arg28 harg28 xs4 xs5 = l := by
    unfold loadsB
    refine Eq.trans (raw_eq x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 _ _) (Eq.trans ?_ hl)
    exact congrArg₂ (loads x0 x1 x2 x3 x4 x5 x6 x7 x8 x9 x10 x11 x12 x13 x14 x15 x16 x17) (funext fun n => part_load _ _ _ _) (whole_load _ _ _ zero2 _)
  unfold out0_B_18
  rw [View.read_writes_eq_canon _ _ _ hc]
  rw [run_pieces_B, e] at hc ⊢
  rw [pieces_canon _ _ _ _ _ hc]
  exact stored_row _ _ _ _ l a j k

/-- The output block of the first grid point. -/
theorem out_A (hc0 : cond0_0 i) (hc1 : cond0_1 i)
    (a : Fin 2) (j : Fin 512) (k : Fin 1024) (l : Loads Ideal)
    (hl : loads x0 x1 x2 x3 x4 x5 x6 x7 x8 x9 x10 x11 x12 x13 x14 x15 x16 x17 (fun n => View.ld (View.read (Elt Ideal) (Memref.whole main_v10).view fh0) (winRect n))
      (View.read (Elt Ideal) (Memref.whole main_v11).view fh1) = l) :
    out0_A_18 c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 fh0 fh1 (ix3 0 (halfTok a j) k)
      = l.weights.out (l.xr a j) (l.oar a j) (l.obr a j) k := by
  have hc := cover0_A_18 c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 fh0 fh1
  have e : loadsA c x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg27 arg28 fh0 fh1 = l := by
    unfold loadsA
    refine Eq.trans (raw_eq x0 x1 x2 x3 x4 x5 x6 x7 x8 x9 x10 x11 x12 x13 x14 x15 x16 x17 arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 _ _) (Eq.trans ?_ hl)
    exact congrArg₂ (loads x0 x1 x2 x3 x4 x5 x6 x7 x8 x9 x10 x11 x12 x13 x14 x15 x16 x17) (funext fun n => filled_load _ _ _)
      ((filled_load arg28 _ _).trans (View.ld_unit_lit' _ _ zero2))
  unfold out0_A_18
  rw [View.read_writes_eq_canon _ _ _ hc]
  rw [run_pieces_A, e] at hc ⊢
  rw [pieces_canon _ _ _ _ _ hc]
  exact stored_row _ _ _ _ l a j k

/-- The first point fills the scratch of the feed-forward's first weights. -/
theorem fill_A4 (hc0 : cond0_0 i) (hc1 : cond0_1 i) :
    sout0_A_4 c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 fh0 fh1 = View.read (Elt Ideal) (Memref.whole main_v10).view fh0 :=
  filled_read _ _ _

/-- The first point fills the scratch of the feed-forward's second weights. -/
theorem fill_A5 (hc0 : cond0_0 i) (hc1 : cond0_1 i) :
    sout0_A_5 c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 fh0 fh1 = View.read (Elt Ideal) (Memref.whole main_v11).view fh1 :=
  filled_read _ _ _

end Points

section Scratch
variable (m : (ℓ : Loc nD τ sig) → Buf (Elt Ideal) ℓ) (c : Dev nD)

/-- After every point the scratch holds the feed-forward's first weights. -/
theorem scratch4 : ∀ (n : ℕ) (hn : n < cfg0.N), (outsAt0 m c n hn).2.1 = View.read (Elt Ideal) (Memref.whole main_v10).view (V m c main_v10)
  | 0, hn => by
    refine (congrArg (fun z => z.2.1) (outsAt0_A m c ⟨0, hn⟩ rfl rfl)).trans ?_
    dsimp only
    exact fill_A4 ..
  | n + 1, hn => by
    have hN : n + 1 < 16 := lt_of_lt_of_eq hn N_0
    have h : ¬(n + 1) % 16 = 0 := by omega
    refine (congrArg (fun z => z.2.1) (outsAt0_B m c ⟨n + 1, hn⟩ h h)).trans ?_
    dsimp only [sout0_B_4, sout0_B_5]
    exact scratch4 n (Nat.lt_of_succ_lt hn)

/-- After every point the scratch holds the feed-forward's second weights. -/
theorem scratch5 : ∀ (n : ℕ) (hn : n < cfg0.N), (outsAt0 m c n hn).2.2 = View.read (Elt Ideal) (Memref.whole main_v11).view (V m c main_v11)
  | 0, hn => by
    refine (congrArg (fun z => z.2.2) (outsAt0_A m c ⟨0, hn⟩ rfl rfl)).trans ?_
    dsimp only
    exact fill_A5 ..
  | n + 1, hn => by
    have hN : n + 1 < 16 := lt_of_lt_of_eq hn N_0
    have h : ¬(n + 1) % 16 = 0 := by omega
    refine (congrArg (fun z => z.2.2) (outsAt0_B m c ⟨n + 1, hn⟩ h h)).trans ?_
    dsimp only [sout0_B_4, sout0_B_5]
    exact scratch5 n (Nat.lt_of_succ_lt hn)

/-- The loads of a grid point, whichever it is. -/
def ptLoads (t : Fin cfg0.N) : Loads Ideal :=
  loads (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (fun n => View.ld (View.read (Elt Ideal) (Memref.whole main_v10).view (V m c main_v10)) (winRect n))
    (View.read (Elt Ideal) (Memref.whole main_v11).view (V m c main_v11))

/-- The block that a grid point leaves, at row `j` of half `a`. -/
theorem block_row (t : Fin cfg0.N) (a : Fin 2) (j : Fin 512) (k : Fin 1024) :
    (outsAt0 m c t.val t.isLt).1 (ix3 0 (halfTok a j) k)
      = (ptLoads m c t).weights.out ((ptLoads m c t).xr a j) ((ptLoads m c t).oar a j) ((ptLoads m c t).obr a j) k := by
  by_cases h : t.val % 16 = 0
  · refine (congrFun (congrArg Prod.fst (outsAt0_A m c t h h)) _).trans ?_
    dsimp only
    refine out_A (hl := ?_) ..
    rfl
  · refine (congrFun (congrArg Prod.fst (outsAt0_B m c t h h)) _).trans ?_
    dsimp only
    refine out_B (hl := ?_) ..
    rw [scratch4, scratch5]
    rfl

end Scratch
end Cert.TailBlock
-- ==== Proof.TailHost.lean ====
module

public import proofs.«01_k».proof.Proof.Gen.TailIdeal.Value
public import Idealize.ShloMosaic.Lib.StableHlo.RunRead
public import Idealize.ShloMosaic.Lib.ValueIdx
public import Idealize.ShloMosaic.Lib.Pipeline.Value

/-! What the tail's host code hands to the call: the arguments themselves, four of them with another shape. -/

@[expose] public section

set_option maxRecDepth 16384

noncomputable section

namespace Cert.TailHost

open Idealize.ShloMosaic
open Idealize.ShloMosaic.ValueIdx Idealize.SL.Sem Cert.TailIdeal Cert.TailIdeal.Gen Idealize.ShloMosaic.StableHlo

variable (m : (ℓ : Loc nD τ sig) → Buf (Elt Ideal) ℓ) (c : Dev nD)

/-- The call's rows of `x`. -/
theorem Vx : V m c main_arg0 = m (c.tc.loc main_arg0) := by
  after_reads_simp

/-- The call's first attention. -/
theorem V0 : V m c main_v0 = m (c.tc.loc main_arg1) := by
  after_reads_simp
  rfl

/-- The call's second attention. -/
theorem V1 : V m c main_v1 = m (c.tc.loc main_arg2) := by
  after_reads_simp
  rfl

/-- The call's gates' weights. -/
theorem V5 : V m c main_v5 = m (c.tc.loc main_arg6) := by
  after_reads_simp
  rfl

/-- The call's first attention's projection. -/
theorem V7 : V m c main_v7 = m (c.tc.loc main_arg8) := by
  after_reads_simp
  rfl

/-- The call's second attention's projection. -/
theorem V8 : V m c main_v8 = m (c.tc.loc main_arg9) := by
  after_reads_simp
  rfl

/-- The call's merged rows' projection. -/
theorem V9 : V m c main_v9 = m (c.tc.loc main_arg10) := by
  after_reads_simp
  rfl

/-- The call's feed-forward's first weights. -/
theorem V10 : V m c main_v10 = m (c.tc.loc main_arg11) := by
  after_reads_simp
  rfl

/-- The call's feed-forward's second weights. -/
theorem V11 : V m c main_v11 = m (c.tc.loc main_arg12) := by
  after_reads_simp
  rfl

/-- The call's modulation rows. -/
theorem V2 (b : Fin 2) (r : Fin 6) (k : Fin 1024) :
    ((V m c main_v2 : S2x6x1024.Idx → EReal) (ix3 b r k) : EReal)
      = (show S2x6144.Idx → EReal from m (c.tc.loc main_arg3)) (ix2 b ⟨1024 * r.val + k.val, by omega⟩) := by
  have e : V m c main_v2 = shapeCast S2x6x1024 (show FVec Ideal S2x6144 .f32 from m (c.tc.loc main_arg3)) shapeCasts_S2x6144_S2x6x1024 := by
    after_reads_simp
    rfl
  refine (congrFun e _).trans (shapeCast_apply _ _ _ _ ?_)
  rw [Shape.rowMajor_val_two, Shape.rowMajor_val_three]
  show b.val * 6144 + (1024 * r.val + k.val) = (b.val * 6 + r.val) * 1024 + k.val
  omega

/-- A vector as one row. -/
theorem asRow {n : Nat} (x : (⟨1, ![n]⟩ : Shape).Idx → EReal) (h : Shape.ShapeCasts ⟨1, ![n]⟩ ⟨2, ![1, n]⟩) (k : Fin n) :
    shapeCast (⟨2, ![1, n]⟩ : Shape) x h (ix2 0 k) = x (ix1 k) := by
  refine shapeCast_apply _ _ _ _ ?_
  rw [Shape.rowMajor_val_one, Shape.rowMajor_val_two]
  show k.val = 0 * n + k.val
  omega

/-- The call's first norm's gain. -/
theorem V3 (k : Fin 1024) : ((V m c main_v3 : S1x1024.Idx → EReal) (ix2 0 k) : EReal)
    = (show S1024.Idx → EReal from m (c.tc.loc main_arg4)) (ix1 k) := by
  have e : V m c main_v3 = shapeCast S1x1024 (show FVec Ideal S1024 .f32 from m (c.tc.loc main_arg4)) shapeCasts_S1024_S1x1024 := by
    after_reads_simp
    rfl
  exact (congrFun e _).trans (asRow _ _ k)

/-- The call's second norm's gain. -/
theorem V4 (k : Fin 1024) : ((V m c main_v4 : S1x1024.Idx → EReal) (ix2 0 k) : EReal)
    = (show S1024.Idx → EReal from m (c.tc.loc main_arg5)) (ix1 k) := by
  have e : V m c main_v4 = shapeCast S1x1024 (show FVec Ideal S1024 .f32 from m (c.tc.loc main_arg5)) shapeCasts_S1024_S1x1024 := by
    after_reads_simp
    rfl
  exact (congrFun e _).trans (asRow _ _ k)

/-- The call's gates' bias. -/
theorem V6 (k : Fin 2048) : ((V m c main_v6 : S1x2048.Idx → EReal) (ix2 0 k) : EReal)
    = (show S2048.Idx → EReal from m (c.tc.loc main_arg7)) (ix1 k) := by
  have e : V m c main_v6 = shapeCast S1x2048 (show FVec Ideal S2048 .f32 from m (c.tc.loc main_arg7)) shapeCasts_S2048_S1x2048 := by
    after_reads_simp
    rfl
  exact (congrFun e _).trans (asRow _ _ k)

end Cert.TailHost
-- ==== Proof.TailArrays.lean ====
module

public import proofs.«01_k».proof.Proof.TailPoint
public import proofs.«01_k».proof.Proof.TailHost

/-! What the tail's result array holds, as the formula of TailSpec.lean over the arguments. -/

@[expose] public section

set_option maxRecDepth 16384

noncomputable section

namespace Cert.TailArrays

open Idealize.ShloMosaic hiding ix1 ix2 ix3
open Idealize.ShloMosaic.Pipeline Idealize.ShloMosaic.ValueIdx Idealize.SL.Sem Cert.TailIdeal Cert.TailIdeal.Gen Cert.TailBlock
open Cert.TailSpec Cert.TailHost

/-- The batch of a grid point. -/
def batchOf (t : Fin cfg0.N) : Fin 2 := grid0.coords t 0

/-- The token of a grid point's block. -/
def tokOf (t : Fin cfg0.N) (i : Fin 1024) : Fin 8192 :=
  ⟨1024 * (show Fin 8 from grid0.coords t 1).val + i.val, by
    have h : (show Fin 8 from grid0.coords t 1).val < 8 := (show Fin 8 from grid0.coords t 1).isLt
    omega⟩

/-- Which block window 0 is. -/
theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

/-- Where window 0's block lies. -/
theorem emb0 (t : Fin cfg0.N) (i : Fin 1024) (k : Fin 1024) :
    (win0_0.blk t).view.emb (ix3 0 i k) = ix3 (batchOf t) (tokOf t i) k := by
  funext d
  refine Fin.ext ?_
  blk_simp [index0]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 1024 + k.val = k.val; omega

/-- Which block window 1 is. -/
theorem index1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])

/-- Where window 1's block lies. -/
theorem emb1 (t : Fin cfg0.N) (i : Fin 1024) (k : Fin 512) :
    (win0_1.blk t).view.emb (ix3 0 i k) = ix3 (batchOf t) (tokOf t i) k := by
  funext d
  refine Fin.ext ?_
  blk_simp [index1]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 512 + k.val = k.val; omega

/-- Which block window 2 is. -/
theorem index2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])

/-- Where window 2's block lies. -/
theorem emb2 (t : Fin cfg0.N) (i : Fin 1024) (k : Fin 256) :
    (win0_2.blk t).view.emb (ix3 0 i k) = ix3 (batchOf t) (tokOf t i) k := by
  funext d
  refine Fin.ext ?_
  blk_simp [index2]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 256 + k.val = k.val; omega

/-- Which block window 18 is. -/
theorem index18 : ∀ t : Fin cfg0.N, win0_18.index t = ![(grid0.coords t 0).val, (grid0.coords t 1).val, 0] :=
  (by decide +kernel : ∀ t : Fin grid0.N, win0_18.index t = ![(grid0.coords t 0).val, (grid0.coords t 1).val, 0])

/-- Where window 18's block lies. -/
theorem emb18 (t : Fin cfg0.N) (i : Fin 1024) (k : Fin 1024) :
    (win0_18.blk t).view.emb (ix3 0 i k) = ix3 (batchOf t) (tokOf t i) k := by
  funext d
  refine Fin.ext ?_
  blk_simp [index18]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 1024 + k.val = k.val; omega

/-- Which block the modulation is. -/
theorem index3 : ∀ t : Fin cfg0.N, win0_3.index t = ![(grid0.coords t 0).val, 0, 0] :=
  (by decide +kernel : ∀ t : Fin grid0.N, win0_3.index t = ![(grid0.coords t 0).val, 0, 0])

/-- Where the modulation's block lies. -/
theorem emb3 (t : Fin cfg0.N) (r : Fin 6) (k : Fin 1024) :
    (win0_3.blk t).view.emb (ix3 0 r k) = ix3 (batchOf t) r k := by
  funext d
  refine Fin.ext ?_
  blk_simp [index3]
  match d with
  | ⟨0, _⟩ => show (grid0.coords t 0).val * 1 + 0 = (grid0.coords t 0).val; omega
  | ⟨1, _⟩ => show 0 * 6 + r.val = r.val; omega
  | ⟨2, _⟩ => show 0 * 1024 + k.val = k.val; omega

/-- Window 4 is one block. -/
theorem index4 : ∀ t : Fin cfg0.N, win0_4.index t = ![0, 0] :=
  (by decide +kernel : ∀ t : Fin grid0.N, win0_4.index t = ![0, 0])

/-- Window 4's block is its array. -/
theorem emb4 (t : Fin cfg0.N) (k : Fin 1) (j : Fin 1024) : (win0_4.blk t).view.emb (ix2 k j) = ix2 k j := by
  funext d
  refine Fin.ext ?_
  blk_simp [index4]
  match d with
  | ⟨0, _⟩ => show 0 * 1 + k.val = k.val; omega
  | ⟨1, _⟩ => show 0 * 1024 + j.val = j.val; omega

/-- Window 5 is one block. -/
theorem index5 : ∀ t : Fin cfg0.N, win0_5.index t = ![0, 0] :=
  (by decide +kernel : ∀ t : Fin grid0.N, win0_5.index t = ![0, 0])

/-- Window 5's block is its array. -/
theorem emb5 (t : Fin cfg0.N) (k : Fin 1) (j : Fin 1024) : (win0_5.blk t).view.emb (ix2 k j) = ix2 k j := by
  funext d
  refine Fin.ext ?_
  blk_simp [index5]
  match d with
  | ⟨0, _⟩ => show 0 * 1 + k.val = k.val; omega
  | ⟨1, _⟩ => show 0 * 1024 + j.val = j.val; omega

/-- Window 6 is one block. -/
theorem index6 : ∀ t : Fin cfg0.N, win0_6.index t = ![0, 0] :=
  (by decide +kernel : ∀ t : Fin grid0.N, win0_6.index t = ![0, 0])

/-- Window 6's block is its array. -/
theorem emb6 (t : Fin cfg0.N) (k : Fin 1) (j : Fin 2048) : (win0_6.blk t).view.emb (ix2 k j) = ix2 k j := by
  funext d
  refine Fin.ext ?_
  blk_simp [index6]
  match d with
  | ⟨0, _⟩ => show 0 * 1 + k.val = k.val; omega
  | ⟨1, _⟩ => show 0 * 2048 + j.val = j.val; omega

/-- Window 7 is one block. -/
theorem index7 : ∀ t : Fin cfg0.N, win0_7.index t = ![0, 0] :=
  (by decide +kernel : ∀ t : Fin grid0.N, win0_7.index t = ![0, 0])

/-- Window 7's block is its array. -/
theorem emb7 (t : Fin cfg0.N) (k : Fin 512) (j : Fin 1024) : (win0_7.blk t).view.emb (ix2 k j) = ix2 k j := by
  funext d
  refine Fin.ext ?_
  blk_simp [index7]
  match d with
  | ⟨0, _⟩ => show 0 * 512 + k.val = k.val; omega
  | ⟨1, _⟩ => show 0 * 1024 + j.val = j.val; omega

/-- Window 8 is one block. -/
theorem index8 : ∀ t : Fin cfg0.N, win0_8.index t = ![0, 0] :=
  (by decide +kernel : ∀ t : Fin grid0.N, win0_8.index t = ![0, 0])

/-- Window 8's block is its array. -/
theorem emb8 (t : Fin cfg0.N) (k : Fin 256) (j : Fin 1024) : (win0_8.blk t).view.emb (ix2 k j) = ix2 k j := by
  funext d
  refine Fin.ext ?_
  blk_simp [index8]
  match d with
  | ⟨0, _⟩ => show 0 * 256 + k.val = k.val; omega
  | ⟨1, _⟩ => show 0 * 1024 + j.val = j.val; omega

/-- Window 9 is one block. -/
theorem index9 : ∀ t : Fin cfg0.N, win0_9.index t = ![0, 0] :=
  (by decide +kernel : ∀ t : Fin grid0.N, win0_9.index t = ![0, 0])

/-- Window 9's block is its array. -/
theorem emb9 (t : Fin cfg0.N) (k : Fin 1024) (j : Fin 1024) : (win0_9.blk t).view.emb (ix2 k j) = ix2 k j := by
  funext d
  refine Fin.ext ?_
  blk_simp [index9]
  match d with
  | ⟨0, _⟩ => show 0 * 1024 + k.val = k.val; omega
  | ⟨1, _⟩ => show 0 * 1024 + j.val = j.val; omega

/-- The column of `w_in` that column `j` of the gates' tile `n` is. -/
abbrev gateCol (n : Fin 8) (j : Fin 256) : Fin 5888 := ⟨3840 + (256 * n.val + j.val), by omega⟩

/-- Which column block the gates' tile 0 is. -/
theorem index10 : ∀ t : Fin cfg0.N, win0_10.index t = ![0, 15] :=
  (by decide +kernel : ∀ t : Fin grid0.N, win0_10.index t = ![0, 15])

/-- Where the gates' tile 0 lies. -/
theorem emb10 (t : Fin cfg0.N) (k : Fin 1024) (j : Fin 256) :
    (win0_10.blk t).view.emb (ix2 k j) = ix2 k (gateCol 0 j) := by
  funext d
  refine Fin.ext ?_
  blk_simp [index10]
  match d with
  | ⟨0, _⟩ => show 0 * 1024 + k.val = k.val; omega
  | ⟨1, _⟩ => show 15 * 256 + j.val = 3840 + (256 * 0 + j.val); omega

/-- Which column block the gates' tile 1 is. -/
theorem index11 : ∀ t : Fin cfg0.N, win0_11.index t = ![0, 16] :=
  (by decide +kernel : ∀ t : Fin grid0.N, win0_11.index t = ![0, 16])

/-- Where the gates' tile 1 lies. -/
theorem emb11 (t : Fin cfg0.N) (k : Fin 1024) (j : Fin 256) :
    (win0_11.blk t).view.emb (ix2 k j) = ix2 k (gateCol 1 j) := by
  funext d
  refine Fin.ext ?_
  blk_simp [index11]
  match d with
  | ⟨0, _⟩ => show 0 * 1024 + k.val = k.val; omega
  | ⟨1, _⟩ => show 16 * 256 + j.val = 3840 + (256 * 1 + j.val); omega

/-- Which column block the gates' tile 2 is. -/
theorem index12 : ∀ t : Fin cfg0.N, win0_12.index t = ![0, 17] :=
  (by decide +kernel : ∀ t : Fin grid0.N, win0_12.index t = ![0, 17])

/-- Where the gates' tile 2 lies. -/
theorem emb12 (t : Fin cfg0.N) (k : Fin 1024) (j : Fin 256) :
    (win0_12.blk t).view.emb (ix2 k j) = ix2 k (gateCol 2 j) := by
  funext d
  refine Fin.ext ?_
  blk_simp [index12]
  match d with
  | ⟨0, _⟩ => show 0 * 1024 + k.val = k.val; omega
  | ⟨1, _⟩ => show 17 * 256 + j.val = 3840 + (256 * 2 + j.val); omega

/-- Which column block the gates' tile 3 is. -/
theorem index13 : ∀ t : Fin cfg0.N, win0_13.index t = ![0, 18] :=
  (by decide +kernel : ∀ t : Fin grid0.N, win0_13.index t = ![0, 18])

/-- Where the gates' tile 3 lies. -/
theorem emb13 (t : Fin cfg0.N) (k : Fin 1024) (j : Fin 256) :
    (win0_13.blk t).view.emb (ix2 k j) = ix2 k (gateCol 3 j) := by
  funext d
  refine Fin.ext ?_
  blk_simp [index13]
  match d with
  | ⟨0, _⟩ => show 0 * 1024 + k.val = k.val; omega
  | ⟨1, _⟩ => show 18 * 256 + j.val = 3840 + (256 * 3 + j.val); omega

/-- Which column block the gates' tile 4 is. -/
theorem index14 : ∀ t : Fin cfg0.N, win0_14.index t = ![0, 19] :=
  (by decide +kernel : ∀ t : Fin grid0.N, win0_14.index t = ![0, 19])

/-- Where the gates' tile 4 lies. -/
theorem emb14 (t : Fin cfg0.N) (k : Fin 1024) (j : Fin 256) :
    (win0_14.blk t).view.emb (ix2 k j) = ix2 k (gateCol 4 j) := by
  funext d
  refine Fin.ext ?_
  blk_simp [index14]
  match d with
  | ⟨0, _⟩ => show 0 * 1024 + k.val = k.val; omega
  | ⟨1, _⟩ => show 19 * 256 + j.val = 3840 + (256 * 4 + j.val); omega

/-- Which column block the gates' tile 5 is. -/
theorem index15 : ∀ t : Fin cfg0.N, win0_15.index t = ![0, 20] :=
  (by decide +kernel : ∀ t : Fin grid0.N, win0_15.index t = ![0, 20])

/-- Where the gates' tile 5 lies. -/
theorem emb15 (t : Fin cfg0.N) (k : Fin 1024) (j : Fin 256) :
    (win0_15.blk t).view.emb (ix2 k j) = ix2 k (gateCol 5 j) := by
  funext d
  refine Fin.ext ?_
  blk_simp [index15]
  match d with
  | ⟨0, _⟩ => show 0 * 1024 + k.val = k.val; omega
  | ⟨1, _⟩ => show 20 * 256 + j.val = 3840 + (256 * 5 + j.val); omega

/-- Which column block the gates' tile 6 is. -/
theorem index16 : ∀ t : Fin cfg0.N, win0_16.index t = ![0, 21] :=
  (by decide +kernel : ∀ t : Fin grid0.N, win0_16.index t = ![0, 21])

/-- Where the gates' tile 6 lies. -/
theorem emb16 (t : Fin cfg0.N) (k : Fin 1024) (j : Fin 256) :
    (win0_16.blk t).view.emb (ix2 k j) = ix2 k (gateCol 6 j) := by
  funext d
  refine Fin.ext ?_
  blk_simp [index16]
  match d with
  | ⟨0, _⟩ => show 0 * 1024 + k.val = k.val; omega
  | ⟨1, _⟩ => show 21 * 256 + j.val = 3840 + (256 * 6 + j.val); omega

/-- Which column block the gates' tile 7 is. -/
theorem index17 : ∀ t : Fin cfg0.N, win0_17.index t = ![0, 22] :=
  (by decide +kernel : ∀ t : Fin grid0.N, win0_17.index t = ![0, 22])

/-- Where the gates' tile 7 lies. -/
theorem emb17 (t : Fin cfg0.N) (k : Fin 1024) (j : Fin 256) :
    (win0_17.blk t).view.emb (ix2 k j) = ix2 k (gateCol 7 j) := by
  funext d
  refine Fin.ext ?_
  blk_simp [index17]
  match d with
  | ⟨0, _⟩ => show 0 * 1024 + k.val = k.val; omega
  | ⟨1, _⟩ => show 22 * 256 + j.val = 3840 + (256 * 7 + j.val); omega

section Blocks

variable (m : (ℓ : Loc nD τ sig) → Buf (Elt Ideal) ℓ) (c : Dev nD)

/-- `x`. -/
abbrev A0 : S2x8192x1024.Idx → EReal := m (c.tc.loc main_arg0)

/-- The first attention's output. -/
abbrev A1 : S2x8192x512.Idx → EReal := m (c.tc.loc main_arg1)

/-- The second attention's output. -/
abbrev A2 : S2x8192x256.Idx → EReal := m (c.tc.loc main_arg2)

/-- The modulation. -/
abbrev A3 : S2x6144.Idx → EReal := m (c.tc.loc main_arg3)

/-- The first norm's gain. -/
abbrev A4 : S1024.Idx → EReal := m (c.tc.loc main_arg4)

/-- The second norm's gain. -/
abbrev A5 : S1024.Idx → EReal := m (c.tc.loc main_arg5)

/-- The first weights. -/
abbrev A6 : S1024x5888.Idx → EReal := m (c.tc.loc main_arg6)

/-- The gates' bias. -/
abbrev A7 : S2048.Idx → EReal := m (c.tc.loc main_arg7)

/-- The first attention's projection. -/
abbrev A8 : S512x1024.Idx → EReal := m (c.tc.loc main_arg8)

/-- The second attention's projection. -/
abbrev A9 : S256x1024.Idx → EReal := m (c.tc.loc main_arg9)

/-- The merged rows' projection. -/
abbrev A10 : S1024x1024.Idx → EReal := m (c.tc.loc main_arg10)

/-- The feed-forward's first weights. -/
abbrev A11 : S1024x5632.Idx → EReal := m (c.tc.loc main_arg11)

/-- The feed-forward's second weights. -/
abbrev A12 : S2816x1024.Idx → EReal := m (c.tc.loc main_arg12)

/-- Window 0's block, at a row. -/
theorem blk0 (t : Fin cfg0.N) (i : Fin 1024) (k : Fin 1024) :
    (iblk m c 0 t (ix3 0 i k) : EReal) = A0 m c (ix3 (batchOf t) (tokOf t i) k) := by
  rw [← emb0]
  exact congrFun (Vx m c) _

/-- Window 1's block, at a row. -/
theorem blk1 (t : Fin cfg0.N) (i : Fin 1024) (k : Fin 512) :
    (iblk m c 1 t (ix3 0 i k) : EReal) = A1 m c (ix3 (batchOf t) (tokOf t i) k) := by
  rw [← emb1]
  exact congrFun (V0 m c) _

/-- Window 2's block, at a row. -/
theorem blk2 (t : Fin cfg0.N) (i : Fin 1024) (k : Fin 256) :
    (iblk m c 2 t (ix3 0 i k) : EReal) = A2 m c (ix3 (batchOf t) (tokOf t i) k) := by
  rw [← emb2]
  exact congrFun (V1 m c) _

/-- The modulation's block. -/
theorem blk3 (t : Fin cfg0.N) (r : Fin 6) (k : Fin 1024) :
    (iblk m c 3 t (ix3 0 r k) : EReal) = A3 m c (ix2 (batchOf t) ⟨1024 * r.val + k.val, by omega⟩) := by
  refine Eq.trans ?_ (V2 m c (batchOf t) r k)
  rw [← emb3 t r k]; rfl

/-- Window 4's block. -/
theorem blk4 (t : Fin cfg0.N) (k : Fin 1024) : (iblk m c 4 t (ix2 0 k) : EReal) = A4 m c (ix1 k) := by
  exact Eq.trans (congrArg (V m c main_v3 : S1x1024.Idx → EReal) (emb4 t 0 k)) (V3 m c k)

/-- Window 5's block. -/
theorem blk5 (t : Fin cfg0.N) (k : Fin 1024) : (iblk m c 5 t (ix2 0 k) : EReal) = A5 m c (ix1 k) := by
  exact Eq.trans (congrArg (V m c main_v4 : S1x1024.Idx → EReal) (emb5 t 0 k)) (V4 m c k)

/-- Window 6's block. -/
theorem blk6 (t : Fin cfg0.N) (k : Fin 2048) : (iblk m c 6 t (ix2 0 k) : EReal) = A7 m c (ix1 k) := by
  exact Eq.trans (congrArg (V m c main_v6 : S1x2048.Idx → EReal) (emb6 t 0 k)) (V6 m c k)

/-- Window 7's block. -/
theorem blk7 (t : Fin cfg0.N) (k : Fin 512) (j : Fin 1024) : (iblk m c 7 t (ix2 k j) : EReal) = A8 m c (ix2 k j) := by
  have e : (A8 m c) ((win0_7.blk t).view.emb (ix2 k j)) = A8 m c (ix2 k j) := congrArg (A8 m c) (emb7 t k j)
  exact Eq.trans (congrFun (V7 m c) _) e

/-- Window 8's block. -/
theorem blk8 (t : Fin cfg0.N) (k : Fin 256) (j : Fin 1024) : (iblk m c 8 t (ix2 k j) : EReal) = A9 m c (ix2 k j) := by
  have e : (A9 m c) ((win0_8.blk t).view.emb (ix2 k j)) = A9 m c (ix2 k j) := congrArg (A9 m c) (emb8 t k j)
  exact Eq.trans (congrFun (V8 m c) _) e

/-- Window 9's block. -/
theorem blk9 (t : Fin cfg0.N) (k : Fin 1024) (j : Fin 1024) : (iblk m c 9 t (ix2 k j) : EReal) = A10 m c (ix2 k j) := by
  have e : (A10 m c) ((win0_9.blk t).view.emb (ix2 k j)) = A10 m c (ix2 k j) := congrArg (A10 m c) (emb9 t k j)
  exact Eq.trans (congrFun (V9 m c) _) e

/-- A tile of the gates' weights. -/
theorem gate_tile (t : Fin cfg0.N) (n : Fin 8) (k : Fin 1024) (j : Fin 256) :
    ((ptLoads m c t).wg n (ix2 k j) : EReal) = A6 m c (ix2 k (gateCol n j)) := by
  match n with
  | 0 => rw [← emb10 t k j]; exact congrFun (V5 m c) _
  | 1 => rw [← emb11 t k j]; exact congrFun (V5 m c) _
  | 2 => rw [← emb12 t k j]; exact congrFun (V5 m c) _
  | 3 => rw [← emb13 t k j]; exact congrFun (V5 m c) _
  | 4 => rw [← emb14 t k j]; exact congrFun (V5 m c) _
  | 5 => rw [← emb15 t k j]; exact congrFun (V5 m c) _
  | 6 => rw [← emb16 t k j]; exact congrFun (V5 m c) _
  | 7 => rw [← emb17 t k j]; exact congrFun (V5 m c) _

/-- A tile of the gates' bias. -/
theorem bias_tile (t : Fin cfg0.N) (n : Fin 8) (j : Fin 256) (r : Fin 2048) (hr : r.val = 256 * n.val + j.val) :
    ((ptLoads m c t).bg n (ix2 0 j) : EReal) = A7 m c (ix1 r) := by
  refine Eq.trans ?_ (blk6 m c t r)
  refine View.ld_unit_apply_of (show Vec Ideal S1x2048 .f32 from iblk m c 6 t) _ _ _ _ _ fun d => ?_
  match d with
  | ⟨0, _⟩ => rfl
  | ⟨1, _⟩ => exact hr

/-- A tile of the projection of window 7. -/
theorem pa_tile (t : Fin cfg0.N) (n : Fin 4) (k : Fin 512) (j : Fin 256) (r : Fin 1024) (hr : r.val = 256 * n.val + j.val) :
    ((ptLoads m c t).wpa n (ix2 k j) : EReal) = A8 m c (ix2 k r) := by
  refine Eq.trans ?_ (blk7 m c t k r)
  refine View.ld_unit_apply_of (show Vec Ideal S512x1024 .bf16 from iblk m c 7 t) _ _ _ _ _ fun d => ?_
  match d with
  | ⟨0, _⟩ => exact (Nat.zero_add _).symm
  | ⟨1, _⟩ => exact hr

/-- A tile of the projection of window 8. -/
theorem pb_tile (t : Fin cfg0.N) (n : Fin 4) (k : Fin 256) (j : Fin 256) (r : Fin 1024) (hr : r.val = 256 * n.val + j.val) :
    ((ptLoads m c t).wpb n (ix2 k j) : EReal) = A9 m c (ix2 k r) := by
  refine Eq.trans ?_ (blk8 m c t k r)
  refine View.ld_unit_apply_of (show Vec Ideal S256x1024 .bf16 from iblk m c 8 t) _ _ _ _ _ fun d => ?_
  match d with
  | ⟨0, _⟩ => exact (Nat.zero_add _).symm
  | ⟨1, _⟩ => exact hr

/-- A tile of the feed-forward's first weights. -/
theorem win_tile (t : Fin cfg0.N) (n : Fin 22) (k : Fin 1024) (j : Fin 256) (r : Fin 5632) (hr : r.val = 256 * n.val + j.val) :
    ((ptLoads m c t).win n (ix2 k j) : EReal) = A11 m c (ix2 k r) := by
  refine Eq.trans ?_ (congrFun (V10 m c) (ix2 k r))
  refine View.ld_unit_apply_of _ _ _ _ _ _ fun d => ?_
  match d with
  | ⟨0, _⟩ => exact (Nat.zero_add _).symm
  | ⟨1, _⟩ => exact hr

/-- The weights of batch `b`. -/
abbrev argWeights (b : Fin 2) : Weights :=
  weights b (A3 m c) (A4 m c) (A5 m c) (A6 m c) (A7 m c) (A8 m c) (A9 m c) (A10 m c) (A11 m c) (A12 m c)

/-- The weights that a grid point loads are the arguments'. -/
theorem weights_eq (t : Fin cfg0.N) : (ptLoads m c t).weights = argWeights m c (batchOf t) := by
  unfold Loads.weights argWeights weights
  rw [Weights.mk.injEq]
  refine ⟨funext fun r => funext fun k => blk3 m c t r k, funext fun k => blk4 m c t k, funext fun k => blk5 m c t k,
    funext fun j => funext fun k => (gate_tile m c t _ k _).trans (congrArg (fun r => A6 m c (ix2 k r)) (Fin.ext ?_)),
    funext fun j => funext fun k => (gate_tile m c t _ k _).trans (congrArg (fun r => A6 m c (ix2 k r)) (Fin.ext ?_)),
    funext fun j => bias_tile m c t _ _ _ ?_, funext fun j => bias_tile m c t _ _ _ ?_,
    funext fun j => funext fun k => pa_tile m c t _ k _ _ ?_, funext fun j => funext fun k => pb_tile m c t _ k _ _ ?_,
    funext fun j => funext fun k => blk9 m c t k j,
    funext fun j => funext fun k => win_tile m c t _ k _ _ ?_, funext fun j => funext fun k => win_tile m c t _ k _ _ ?_,
    funext fun j => funext fun k => congrFun (V11 m c) (ix2 k j)⟩
  · show 3840 + (256 * (j.val / 256) + j.val % 256) = 3840 + j.val; omega
  · show 3840 + (256 * (4 + j.val / 256) + j.val % 256) = 3840 + (1024 + j.val); omega
  · show j.val = 256 * (j.val / 256) + j.val % 256; omega
  · show 1024 + j.val = 256 * (4 + j.val / 256) + j.val % 256; omega
  · show j.val = 256 * (j.val / 256) + j.val % 256; omega
  · show j.val = 256 * (j.val / 256) + j.val % 256; omega
  · show j.val = 256 * (j.val / 256) + j.val % 256; omega
  · show 2816 + j.val = 256 * (11 + j.val / 256) + j.val % 256; omega

/-- The loaded rows of window 0. -/
theorem xr_eq (t : Fin cfg0.N) (a : Fin 2) (i : Fin 512) :
    (ptLoads m c t).xr a i = fun k => A0 m c (ix3 (batchOf t) (tokOf t (halfTok a i)) k) := by
  funext k
  refine Eq.trans ?_ (blk0 m c t (halfTok a i) k)
  refine View.ld_unit_apply_of (show Vec Ideal S1x1024x1024 .f32 from iblk m c 0 t) _ _ _ _ _ fun d => ?_
  match d with
  | ⟨0, _⟩ => rfl
  | ⟨1, _⟩ => rfl
  | ⟨2, _⟩ => exact (Nat.zero_add _).symm

/-- The loaded rows of window 1. -/
theorem oar_eq (t : Fin cfg0.N) (a : Fin 2) (i : Fin 512) :
    (ptLoads m c t).oar a i = fun k => A1 m c (ix3 (batchOf t) (tokOf t (halfTok a i)) k) := by
  funext k
  refine Eq.trans ?_ (blk1 m c t (halfTok a i) k)
  refine View.ld_unit_apply_of (show Vec Ideal S1x1024x512 .bf16 from iblk m c 1 t) _ _ _ _ _ fun d => ?_
  match d with
  | ⟨0, _⟩ => rfl
  | ⟨1, _⟩ => rfl
  | ⟨2, _⟩ => exact (Nat.zero_add _).symm

/-- The loaded rows of window 2. -/
theorem obr_eq (t : Fin cfg0.N) (a : Fin 2) (i : Fin 512) :
    (ptLoads m c t).obr a i = fun k => A2 m c (ix3 (batchOf t) (tokOf t (halfTok a i)) k) := by
  funext k
  refine Eq.trans ?_ (blk2 m c t (halfTok a i) k)
  refine View.ld_unit_apply_of (show Vec Ideal S1x1024x256 .bf16 from iblk m c 2 t) _ _ _ _ _ fun d => ?_
  match d with
  | ⟨0, _⟩ => rfl
  | ⟨1, _⟩ => rfl
  | ⟨2, _⟩ => exact (Nat.zero_add _).symm

/-- The result array. -/
theorem array_eq (G : S2x8192x1024.Idx → EReal)
    (hG : ∀ b s k, G (ix3 b s k) = (argWeights m c b).out (fun j => A0 m c (ix3 b s j)) (fun j => A1 m c (ix3 b s j))
      (fun j => A2 m c (ix3 b s j)) k) :
    (dats m 0 c).arrAt 18 cfg0.N = G := by
  refine (dats m 0 c).arrAt_eq_of_covers 18 G (by decide +kernel) fun t hf y => ?_
  blk_simp
  rw [after0_18]
  obtain ⟨a, i, k, hy⟩ : ∃ (a : Fin 2) (i : Fin 512) (k : Fin 1024), y = ix3 0 (halfTok a i) k := by
    have h1 : (y 1).val < 1024 := (y 1).isLt
    refine ⟨⟨(y 1).val / 512, by omega⟩, ⟨(y 1).val % 512, by omega⟩, y 2, funext fun d => Fin.ext ?_⟩
    match d with
    | ⟨0, _⟩ => show (y 0).val = 0; have : (y 0).val < 1 := (y 0).isLt; omega
    | ⟨1, _⟩ => show (y 1).val = 512 * ((y 1).val / 512) + (y 1).val % 512; omega
    | ⟨2, _⟩ => rfl
  subst hy
  refine (block_row m c t a i k).trans ?_
  rw [weights_eq, xr_eq, oar_eq, obr_eq, ← hG]
  exact congrArg G (emb18 t (halfTok a i) k).symm

end Blocks

end Cert.TailArrays
-- ==== Proof.TailRef.lean ====
module

public import proofs.«01_k».proof.Proof.TailSpec
public import proofs.«01_k».proof.Proof.Consts
public import proofs.«01_k».proof.Proof.Gen.TailReferenceIdeal.Read
public import Idealize.ShloMosaic.Lib.ValueIdx

/-! What the tail's reference computes: at each index it is the row formula of TailSpec.lean. -/

@[expose] public section

noncomputable section

namespace Cert.TailRef

open Idealize.ShloMosaic Idealize.ShloMosaic.ValueIdx Cert.TailReferenceIdeal Cert.TailReferenceIdeal.Gen
  Cert.TailReferenceIdeal.Read Cert.TailSpec

/-- Two indices of rank 1 with the same coordinate are the same. -/
theorem ext1 {n : Fin 1 → Nat} {i j : (⟨1, n⟩ : Shape).Idx} (h0 : (i 0).val = (j 0).val) : i = j := by
  funext a
  match a with
  | ⟨0, _⟩ => exact Fin.ext h0

/-- Two indices of rank 2 with the same coordinates are the same. -/
theorem ext2 {n : Fin 2 → Nat} {i j : (⟨2, n⟩ : Shape).Idx} (h0 : (i 0).val = (j 0).val) (h1 : (i 1).val = (j 1).val) : i = j := by
  funext a
  match a with
  | ⟨0, _⟩ => exact Fin.ext h0
  | ⟨1, _⟩ => exact Fin.ext h1

/-- Two indices of rank 3 with the same coordinates are the same. -/
theorem ext3 {n : Fin 3 → Nat} {i j : (⟨3, n⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-- An array read at an index with these coordinates. -/
theorem at3 {n0 n1 n2 : Nat} (f : (⟨3, ![n0, n1, n2]⟩ : Shape).Idx → EReal) {i : (⟨3, ![n0, n1, n2]⟩ : Shape).Idx} (b : Fin n0)
    (s : Fin n1) (k : Fin n2) {v : EReal} (h : f (ix3 b s k) = v) (h0 : (i 0).val = b.val) (h1 : (i 1).val = s.val)
    (h2 : (i 2).val = k.val) : f i = v := by
  rw [← h]
  exact congrArg f (ext3 h0 h1 h2)

variable (x0 : S2x8192x1024.Idx → EReal) (x1 : S2x8192x512.Idx → EReal) (x2 : S2x8192x256.Idx → EReal)
  (x3 : S2x6144.Idx → EReal) (x4 x5 : S1024.Idx → EReal) (x6 : S1024x5888.Idx → EReal) (x7 : S2048.Idx → EReal)
  (x8 : S512x1024.Idx → EReal) (x9 : S256x1024.Idx → EReal) (x10 : S1024x1024.Idx → EReal) (x11 : S1024x5632.Idx → EReal)
  (x12 : S2816x1024.Idx → EReal) (b : Fin 2) (s : Fin 8192)

/-- The weights that the reference's arguments hold. -/
abbrev W : Weights := weights b x3 x4 x5 x6 x7 x8 x9 x10 x11 x12

/-- The normalised rows. -/
theorem h_apply (k : Fin 1024) : val_main_v30 (F := Ideal) x0 x3 x4 (ix3 b s k)
    = (W x3 x4 x5 x6 x7 x8 x9 x10 x11 x12 b).h (fun j => x0 (ix3 b s j)) k := by
  rw [val_main_v30_apply, val_main_v28_apply, val_main_v24_apply, val_main_v21_apply, val_main_v20_apply, val_main_v19_apply,
    val_main_v18_apply, val_main_v16_apply, val_main_v14_apply, val_main_v13_apply, val_main_v23_apply, val_main_v22_apply,
    val_main_v27_apply, val_main_v26_apply, val_main_v7_apply, val_main_v1_apply, val_main_v29_apply, val_main_v6_apply,
    val_main_v0_apply]
  refine congrArg₂ (· + ·) (congrArg₂ (· * ·) (congrArg₂ (· * ·) (congrArg (x0 (ix3 b s k) * ·) ?_) ?_) ?_) ?_
  · refine congrArg (fun z => Ideal.rsqrt (Ideal.div z _ + _)) ?_
    refine (congrArg (· + _) (Ideal.ofBits_zero_f32)).trans ((zero_add _).trans ?_)
    exact Finset.sum_congr rfl fun j _ => congrArg (fun z => x0 z * x0 z) (ext3 rfl rfl rfl)
  · exact congrArg x4 (ext1 rfl)
  · exact congrArg (fun z => one + x3 z) (ext2 rfl rfl)
  · exact congrArg x3 (ext2 rfl (Nat.zero_add _).symm)

/-- Both gates, before their logistic. -/
theorem pre_apply (j : Fin 2048) : val_main_v35 (F := Ideal) x0 x3 x4 x6 x7 (ix3 b s j)
    = dot ((W x3 x4 x5 x6 x7 x8 x9 x10 x11 x12 b).h (fun j => x0 (ix3 b s j))) (fun k => x6 (ix2 k ⟨3840 + j.val, by omega⟩))
      + x7 (ix1 j) := by
  rw [val_main_v35_apply, val_main_v32_apply, val_main_v31_apply, val_main_v34_apply, val_main_v33_apply]
  refine congrArg₂ (· + ·) (Finset.sum_congr rfl fun k _ => congrArg₂ (· * ·) ?_ (congrArg x6 (ext2 rfl rfl))) (congrArg x7 (ext1 rfl))
  exact at3 (val_main_v30 (F := Ideal) x0 x3 x4) b s _ (h_apply x0 x3 x4 x5 x6 x7 x8 x9 x10 x11 x12 b s k) rfl rfl rfl

/-- The gates. -/
theorem gate_apply (j : Fin 2048) : val_main_v41 (F := Ideal) x0 x3 x4 x6 x7 (ix3 b s j)
    = sgm (dot ((W x3 x4 x5 x6 x7 x8 x9 x10 x11 x12 b).h (fun j => x0 (ix3 b s j))) (fun k => x6 (ix2 k ⟨3840 + j.val, by omega⟩))
      + x7 (ix1 j)) := by
  rw [val_main_v41_apply, val_main_v40_apply, val_main_v39_apply, val_main_v38_apply, val_main_v37_apply, val_main_v36_apply,
    pre_apply x0 x3 x4 x5 x6 x7 x8 x9 x10 x11 x12 b s j]
  rfl

/-- The merged rows. -/
theorem m_apply (j : Fin 1024) : val_main_v48 (F := Ideal) x0 x1 x2 x3 x4 x6 x7 x8 x9 (ix3 b s j)
    = (W x3 x4 x5 x6 x7 x8 x9 x10 x11 x12 b).m (fun j => x0 (ix3 b s j)) (fun j => x1 (ix3 b s j)) (fun j => x2 (ix3 b s j)) j := by
  rw [val_main_v48_apply, val_main_v45_apply, val_main_v47_apply, val_main_v42_apply, val_main_v43_apply, val_main_v44_apply,
    val_main_v46_apply]
  refine congrArg₂ (· + ·) (congrArg₂ (· * ·) ?_ ?_) (congrArg₂ (· * ·) ?_ ?_)
  · exact at3 (val_main_v41 (F := Ideal) x0 x3 x4 x6 x7) b s _ (gate_apply x0 x3 x4 x5 x6 x7 x8 x9 x10 x11 x12 b s ⟨j.val, by omega⟩) rfl rfl rfl
  · exact Finset.sum_congr rfl fun k _ => congrArg₂ (· * ·) (congrArg x1 (ext3 rfl rfl rfl)) (congrArg x8 (ext2 rfl rfl))
  · exact at3 (val_main_v41 (F := Ideal) x0 x3 x4 x6 x7) b s _ (gate_apply x0 x3 x4 x5 x6 x7 x8 x9 x10 x11 x12 b s ⟨1024 + j.val, by omega⟩) rfl rfl rfl
  · exact Finset.sum_congr rfl fun k _ => congrArg₂ (· * ·) (congrArg x2 (ext3 rfl rfl rfl)) (congrArg x9 (ext2 rfl rfl))

/-- The rows after the first residual. -/
theorem x1_apply (k : Fin 1024) : val_main_v52 (F := Ideal) x0 x1 x2 x3 x4 x6 x7 x8 x9 x10 (ix3 b s k)
    = (W x3 x4 x5 x6 x7 x8 x9 x10 x11 x12 b).x1 (fun j => x0 (ix3 b s j)) (fun j => x1 (ix3 b s j)) (fun j => x2 (ix3 b s j)) k := by
  rw [val_main_v52_apply, val_main_v51_apply, val_main_v50_apply, val_main_v8_apply, val_main_v2_apply, val_main_v49_apply]
  refine congrArg (x0 (ix3 b s k) + ·) (congrArg₂ (· * ·) (congrArg x3 (ext2 rfl rfl)) ?_)
  refine Finset.sum_congr rfl fun j _ => congrArg₂ (· * ·) ?_ (congrArg x10 (ext2 rfl rfl))
  exact at3 (val_main_v48 (F := Ideal) x0 x1 x2 x3 x4 x6 x7 x8 x9) b s _ (m_apply x0 x1 x2 x3 x4 x5 x6 x7 x8 x9 x10 x11 x12 b s j) rfl rfl rfl

/-- The second normalised rows. -/
theorem h2_apply (k : Fin 1024) : val_main_v71 (F := Ideal) x0 x1 x2 x3 x4 x5 x6 x7 x8 x9 x10 (ix3 b s k)
    = (W x3 x4 x5 x6 x7 x8 x9 x10 x11 x12 b).h2 (fun j => x0 (ix3 b s j)) (fun j => x1 (ix3 b s j)) (fun j => x2 (ix3 b s j)) k := by
  rw [val_main_v71_apply, val_main_v69_apply, val_main_v65_apply, val_main_v62_apply, val_main_v61_apply, val_main_v60_apply,
    val_main_v59_apply, val_main_v57_apply, val_main_v55_apply, val_main_v54_apply, val_main_v64_apply, val_main_v63_apply,
    val_main_v68_apply, val_main_v67_apply, val_main_v10_apply, val_main_v4_apply, val_main_v70_apply, val_main_v9_apply,
    val_main_v3_apply]
  have e (k : Fin 1024) := x1_apply x0 x1 x2 x3 x4 x5 x6 x7 x8 x9 x10 x11 x12 b s k
  refine congrArg₂ (· + ·) (congrArg₂ (· * ·) (congrArg₂ (· * ·) (congrArg₂ (· * ·) (e k) ?_) ?_) ?_) ?_
  · refine congrArg (fun z => Ideal.rsqrt (Ideal.div z _ + _)) ?_
    refine (congrArg (· + _) (Ideal.ofBits_zero_f32)).trans ((zero_add _).trans ?_)
    refine Finset.sum_congr rfl fun j _ => congrArg (fun z => z * z) ?_
    exact at3 (val_main_v52 (F := Ideal) x0 x1 x2 x3 x4 x6 x7 x8 x9 x10) b s _ (e j) rfl rfl rfl
  · exact congrArg x5 (ext1 rfl)
  · exact congrArg (fun z => one + x3 z) (ext2 rfl rfl)
  · exact congrArg x3 (ext2 rfl rfl)

/-- Both halves of the feed-forward's first product. -/
theorem ff_apply (f : Fin 5632) : val_main_v72 (F := Ideal) x0 x1 x2 x3 x4 x5 x6 x7 x8 x9 x10 x11 (ix3 b s f)
    = dot ((W x3 x4 x5 x6 x7 x8 x9 x10 x11 x12 b).h2 (fun j => x0 (ix3 b s j)) (fun j => x1 (ix3 b s j)) (fun j => x2 (ix3 b s j)))
      fun k => x11 (ix2 k f) := by
  rw [val_main_v72_apply]
  refine Finset.sum_congr rfl fun k _ => congrArg₂ (· * ·) ?_ (congrArg x11 (ext2 rfl rfl))
  exact at3 (val_main_v71 (F := Ideal) x0 x1 x2 x3 x4 x5 x6 x7 x8 x9 x10) b s _ (h2_apply x0 x1 x2 x3 x4 x5 x6 x7 x8 x9 x10 x11 x12 b s k) rfl rfl rfl

/-- The activation's gating product. -/
theorem ffa_apply (f : Fin 2816) : val_main_v73 (F := Ideal) x0 x1 x2 x3 x4 x5 x6 x7 x8 x9 x10 x11 (ix3 b s f)
    = dot ((W x3 x4 x5 x6 x7 x8 x9 x10 x11 x12 b).h2 (fun j => x0 (ix3 b s j)) (fun j => x1 (ix3 b s j)) (fun j => x2 (ix3 b s j)))
      fun k => x11 (ix2 k ⟨f.val, by omega⟩) := by
  rw [val_main_v73_apply]
  exact at3 (val_main_v72 (F := Ideal) x0 x1 x2 x3 x4 x5 x6 x7 x8 x9 x10 x11) b s _ (ff_apply x0 x1 x2 x3 x4 x5 x6 x7 x8 x9 x10 x11 x12 b s ⟨f.val, by omega⟩) rfl rfl rfl

/-- The activation. -/
theorem a_apply (f : Fin 2816) : val_main_v76 (F := Ideal) x0 x1 x2 x3 x4 x5 x6 x7 x8 x9 x10 x11 (ix3 b s f)
    = (W x3 x4 x5 x6 x7 x8 x9 x10 x11 x12 b).a (fun j => x0 (ix3 b s j)) (fun j => x1 (ix3 b s j)) (fun j => x2 (ix3 b s j)) f := by
  rw [val_main_v76_apply, val_main_v75_apply, val_main_call0_v5_apply, val_main_call0_v4_apply, val_main_call0_v3_apply,
    val_main_call0_v2_apply, val_main_call0_v1_apply, val_main_call0_v0_apply,
    ffa_apply x0 x1 x2 x3 x4 x5 x6 x7 x8 x9 x10 x11 x12 b s f, val_main_v74_apply]
  refine congrArg₂ (· * ·) rfl ?_
  exact at3 (val_main_v72 (F := Ideal) x0 x1 x2 x3 x4 x5 x6 x7 x8 x9 x10 x11) b s _ (ff_apply x0 x1 x2 x3 x4 x5 x6 x7 x8 x9 x10 x11 x12 b s ⟨2816 + f.val, by omega⟩) rfl rfl rfl

/-- The result. -/
theorem out_apply (k : Fin 1024) : val_main_v80 (F := Ideal) x0 x1 x2 x3 x4 x5 x6 x7 x8 x9 x10 x11 x12 (ix3 b s k)
    = (W x3 x4 x5 x6 x7 x8 x9 x10 x11 x12 b).out (fun j => x0 (ix3 b s j)) (fun j => x1 (ix3 b s j)) (fun j => x2 (ix3 b s j)) k := by
  rw [val_main_v80_apply, val_main_v79_apply, val_main_v78_apply, val_main_v11_apply, val_main_v5_apply, val_main_v77_apply,
    x1_apply x0 x1 x2 x3 x4 x5 x6 x7 x8 x9 x10 x11 x12 b s k]
  refine congrArg₂ (· + ·) rfl (congrArg₂ (· * ·) (congrArg x3 (ext2 rfl rfl)) ?_)
  refine Finset.sum_congr rfl fun f _ => congrArg₂ (· * ·) ?_ (congrArg x12 (ext2 rfl rfl))
  exact at3 (val_main_v76 (F := Ideal) x0 x1 x2 x3 x4 x5 x6 x7 x8 x9 x10 x11) b s _ (a_apply x0 x1 x2 x3 x4 x5 x6 x7 x8 x9 x10 x11 x12 b s f) rfl rfl rfl

end Cert.TailRef
-- ==== Proof.QkvFrameIdeal.lean ====
module

public import proofs.«01_k».proof.Proof.Gen.QkvIdeal.Frame.RunA
public import Idealize.ShloMosaic.Lib.Claim

/-! The frame of the projections' program, as the generated module states it, with a larger budget for its obligation. -/

@[expose] public section

-- membership in a rectangle of production extents (`View.cover_of_tiled`): the elaborator's structural look
-- recurses once per coordinate of the long axes
set_option maxRecDepth 16384

noncomputable section

namespace Cert.QkvIdeal.Whole

open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Pieces

variable (c : Dev nD) (i : grid0.Coords)
variable
  (arg2 : Memref sig .tc .vmem S1x1024x1024 .f32)
  (harg2 : arg2.IsWhole)
  (arg3 : Memref sig .tc .vmem S1x6x1024 .f32)
  (harg3 : arg3.IsWhole)
  (arg4 : Memref sig .tc .vmem S1x1024 .f32)
  (harg4 : arg4.IsWhole)
  (arg5 : Memref sig .tc .vmem S1024x3840 .bf16)
  (harg5 : arg5.IsWhole)
  (arg6 : Memref sig .tc .vmem S4x256 .f32)
  (harg6 : arg6.IsWhole)
  (arg7 : Memref sig .tc .vmem S256x256 .bf16)
  (harg7 : arg7.IsWhole)
  (arg8 : Memref sig .tc .vmem S1024x128 .f32)
  (harg8 : arg8.IsWhole)
  (arg9 : Memref sig .tc .vmem S1024x128 .f32)
  (harg9 : arg9.IsWhole)
  (arg10 : Memref sig .tc .vmem S32x1024 .f32)
  (harg10 : arg10.IsWhole)
  (arg11 : Memref sig .tc .vmem S16x1024 .f32)
  (harg11 : arg11.IsWhole)
  (arg12 : Memref sig .tc .vmem S64x1024 .f32)
  (harg12 : arg12.IsWhole)
  (arg13 : Memref sig .tc .vmem S64x5632 .f32)
  (harg13 : arg13.IsWhole)
  (arg14 : Memref sig .tc .vmem S176x1024 .f32)
  (harg14 : arg14.IsWhole)
  (arg15 : Memref sig .tc .vmem S1x1024x512 .bf16)
  (harg15 : arg15.IsWhole)
  (arg16 : Memref sig .tc .vmem S1x1024x512 .bf16)
  (harg16 : arg16.IsWhole)
  (arg17 : Memref sig .tc .vmem S1x1024x512 .bf16)
  (harg17 : arg17.IsWhole)
  (arg18 : Memref sig .tc .vmem S1x1024x256 .bf16)
  (harg18 : arg18.IsWhole)
  (arg19 : Memref sig .tc .vmem S1x1024x256 .bf16)
  (harg19 : arg19.IsWhole)
  (arg20 : Memref sig .tc .vmem S1x1024x256 .bf16)
  (harg20 : arg20.IsWhole)
  (arg21 : Memref sig .tc .vmem S1x1024x256 .bf16)
  (harg21 : arg21.IsWhole)
  (arg22 : Memref sig .tc .vmem S1x1024x256 .bf16)
  (harg22 : arg22.IsWhole)
  (arg23 : Memref sig .tc .vmem S1x1024x256 .bf16)
  (harg23 : arg23.IsWhole)
  (arg24 : Memref sig .tc .vmem S1x1024x256 .bf16)
  (harg24 : arg24.IsWhole)
  (arg25 : Memref sig .tc .vmem S1x1024x256 .bf16)
  (harg25 : arg25.IsWhole)
  (arg26 : Memref sig .tc .vmem S1x1024x256 .bf16)
  (harg26 : arg26.IsWhole)
  (arg27 : Memref sig .tc .vmem S32x1024 .bf16)
  (harg27 : arg27.IsWhole)
  (arg28 : Memref sig .tc .vmem S16x1024 .bf16)
  (harg28 : arg28.IsWhole)
  (arg29 : Memref sig .tc .vmem S64x1024 .bf16)
  (harg29 : arg29.IsWhole)
  (arg30 : Memref sig .tc .vmem S64x5632 .bf16)
  (harg30 : arg30.IsWhole)
  (arg31 : Memref sig .tc .vmem S176x1024 .bf16)
  (harg31 : arg31.IsWhole)
  (arg32 : Memref sig .tc .vmem S1024x1024 .bf16)
  (harg32 : arg32.IsWhole)
  (arg33 : Memref sig .tc .vmem S2x2x1024x128 .f32)
  (harg33 : arg33.IsWhole)
  (arg34 : Memref sig .tc .vmem S2x1024x128 .f32)
  (harg34 : arg34.IsWhole)
  (x0 : Vec F S1x1024x1024 .f32)
  (x1 : Vec F S1x6x1024 .f32)
  (x2 : Vec F S1x1024 .f32)
  (x3 : Vec F S1024x3840 .bf16)
  (x4 : Vec F S4x256 .f32)
  (x5 : Vec F S256x256 .bf16)
  (x6 : Vec F S1024x128 .f32)
  (x7 : Vec F S1024x128 .f32)
  (x8 : Vec F S32x1024 .f32)
  (x9 : Vec F S16x1024 .f32)
  (x10 : Vec F S64x1024 .f32)
  (x11 : Vec F S64x5632 .f32)
  (x12 : Vec F S176x1024 .f32)

/-- The run's stores cover the block of output 13. -/
theorem cover0_A_13 (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).1 S1x512x256.size (by sl_kernel_rfl) y

/-- The block that the run leaves of output 13. -/
def out0_A_13 : Vec F S1x1024x512 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).1)

/-- The run's stores cover the block of output 14. -/
theorem cover0_A_14 (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.1 S1x512x256.size (by sl_kernel_rfl) y

/-- The block that the run leaves of output 14. -/
def out0_A_14 : Vec F S1x1024x512 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.1)

/-- The run's stores cover the block of output 15. -/
theorem cover0_A_15 (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.1 S1x512x256.size (by sl_kernel_rfl) y

/-- The block that the run leaves of output 15. -/
def out0_A_15 : Vec F S1x1024x512 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.1)

/-- The run's stores cover the block of output 16. -/
theorem cover0_A_16 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.1 S1x512x256.size (by sl_kernel_rfl) y

/-- The block that the run leaves of output 16. -/
def out0_A_16 : Vec F S1x1024x256 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.1)

/-- The run's stores cover the block of output 17. -/
theorem cover0_A_17 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.1 S1x256x128.size (by sl_kernel_rfl) y

/-- The block that the run leaves of output 17. -/
def out0_A_17 : Vec F S1x1024x256 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.1)

/-- The run's stores cover the block of output 18. -/
theorem cover0_A_18 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.1 S1x64x128.size (by sl_kernel_rfl) y

/-- The block that the run leaves of output 18. -/
def out0_A_18 : Vec F S1x1024x256 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.1)

/-- The run's stores cover the block of output 19. -/
theorem cover0_A_19 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.1 S1x512x256.size (by sl_kernel_rfl) y

/-- The block that the run leaves of output 19. -/
def out0_A_19 : Vec F S1x1024x256 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.1)

/-- The run's stores cover the block of output 20. -/
theorem cover0_A_20 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.1 S1x256x128.size (by sl_kernel_rfl) y

/-- The block that the run leaves of output 20. -/
def out0_A_20 : Vec F S1x1024x256 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.1)

/-- The run's stores cover the block of output 21. -/
theorem cover0_A_21 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.1 S1x64x128.size (by sl_kernel_rfl) y

/-- The block that the run leaves of output 21. -/
def out0_A_21 : Vec F S1x1024x256 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.1)

/-- The run's stores cover the block of output 22. -/
theorem cover0_A_22 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.1 S1x512x256.size (by sl_kernel_rfl) y

/-- The block that the run leaves of output 22. -/
def out0_A_22 : Vec F S1x1024x256 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.1)

/-- The run's stores cover the block of output 23. -/
theorem cover0_A_23 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.1 S1x256x128.size (by sl_kernel_rfl) y

/-- The block that the run leaves of output 23. -/
def out0_A_23 : Vec F S1x1024x256 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.1)

/-- The run's stores cover the block of output 24. -/
theorem cover0_A_24 (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.1 S1x64x128.size (by sl_kernel_rfl) y

/-- The block that the run leaves of output 24. -/
def out0_A_24 : Vec F S1x1024x256 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.1)

/-- The run's stores cover the block of output 25. -/
theorem cover0_A_25 (y : S32x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.1 S32x1024.size (by sl_kernel_rfl) y

/-- The block that the run leaves of output 25. -/
def out0_A_25 : Vec F S32x1024 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.1)

/-- The run's stores cover the block of output 26. -/
theorem cover0_A_26 (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.1 S16x1024.size (by sl_kernel_rfl) y

/-- The block that the run leaves of output 26. -/
def out0_A_26 : Vec F S16x1024 .bf16 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.1)

/-- The run's stores cover the block of output 27. -/
theorem cover0_A_27 (y : S64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.1 S64x1024.size (by sl_kernel_rfl) y

/-- The block that the run leaves of output 27. -/
def out0_A_27 : Vec F S64x1024 .bf16 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.1)

/-- The run's stores cover the block of output 28. -/
theorem cover0_A_28 (y : S64x5632.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.2.1 S64x5632.size (by sl_kernel_rfl) y

/-- The block that the run leaves of output 28. -/
def out0_A_28 : Vec F S64x5632 .bf16 :=
  VO0_28.read (Elt F) (VO0_28.writes (Elt F) VO0_28.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.2.1)

/-- The run's stores cover the block of output 29. -/
theorem cover0_A_29 (y : S176x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.2.2.1 S176x1024.size (by sl_kernel_rfl) y

/-- The block that the run leaves of output 29. -/
def out0_A_29 : Vec F S176x1024 .bf16 :=
  VO0_29.read (Elt F) (VO0_29.writes (Elt F) VO0_29.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.2.2.2.2.2.2.2.1)

/-! ## What the outputs hold after each point -/

end Pieces

/-- The blocks after a grid point. -/
def outsAt0 (c : Dev nD) (t : Fin cfg0.N) : Vec F S1x1024x512 .bf16 × Vec F S1x1024x512 .bf16 × Vec F S1x1024x512 .bf16 × Vec F S1x1024x256 .bf16 × Vec F S1x1024x256 .bf16 × Vec F S1x1024x256 .bf16 × Vec F S1x1024x256 .bf16 × Vec F S1x1024x256 .bf16 × Vec F S1x1024x256 .bf16 × Vec F S1x1024x256 .bf16 × Vec F S1x1024x256 .bf16 × Vec F S1x1024x256 .bf16 × Vec F S32x1024 .bf16 × Vec F S16x1024 .bf16 × Vec F S64x1024 .bf16 × Vec F S64x5632 .bf16 × Vec F S176x1024 .bf16 :=
  (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t).1
    | ⟨14, _⟩ => (outsAt0 m c t).2.1
    | ⟨15, _⟩ => (outsAt0 m c t).2.2.1
    | ⟨16, _⟩ => (outsAt0 m c t).2.2.2.1
    | ⟨17, _⟩ => (outsAt0 m c t).2.2.2.2.1
    | ⟨18, _⟩ => (outsAt0 m c t).2.2.2.2.2.1
    | ⟨19, _⟩ => (outsAt0 m c t).2.2.2.2.2.2.1
    | ⟨20, _⟩ => (outsAt0 m c t).2.2.2.2.2.2.2.1
    | ⟨21, _⟩ => (outsAt0 m c t).2.2.2.2.2.2.2.2.1
    | ⟨22, _⟩ => (outsAt0 m c t).2.2.2.2.2.2.2.2.2.1
    | ⟨23, _⟩ => (outsAt0 m c t).2.2.2.2.2.2.2.2.2.2.1
    | ⟨24, _⟩ => (outsAt0 m c t).2.2.2.2.2.2.2.2.2.2.2.1
    | ⟨25, _⟩ => (outsAt0 m c t).2.2.2.2.2.2.2.2.2.2.2.2.1
    | ⟨26, _⟩ => (outsAt0 m c t).2.2.2.2.2.2.2.2.2.2.2.2.2.1
    | ⟨27, _⟩ => (outsAt0 m c t).2.2.2.2.2.2.2.2.2.2.2.2.2.2.1
    | ⟨28, _⟩ => (outsAt0 m c t).2.2.2.2.2.2.2.2.2.2.2.2.2.2.2.1
    | ⟨29, _⟩ => (outsAt0 m c t).2.2.2.2.2.2.2.2.2.2.2.2.2.2.2.2
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t).1 := by dsimp only [dats]
theorem after0_14 (c : Dev nD) (t : Fin cfg0.N) : (dats m 0 c).after 14 t = (outsAt0 m c t).2.1 := by dsimp only [dats]
theorem after0_15 (c : Dev nD) (t : Fin cfg0.N) : (dats m 0 c).after 15 t = (outsAt0 m c t).2.2.1 := by dsimp only [dats]
theorem after0_16 (c : Dev nD) (t : Fin cfg0.N) : (dats m 0 c).after 16 t = (outsAt0 m c t).2.2.2.1 := by dsimp only [dats]
theorem after0_17 (c : Dev nD) (t : Fin cfg0.N) : (dats m 0 c).after 17 t = (outsAt0 m c t).2.2.2.2.1 := by dsimp only [dats]
theorem after0_18 (c : Dev nD) (t : Fin cfg0.N) : (dats m 0 c).after 18 t = (outsAt0 m c t).2.2.2.2.2.1 := by dsimp only [dats]
theorem after0_19 (c : Dev nD) (t : Fin cfg0.N) : (dats m 0 c).after 19 t = (outsAt0 m c t).2.2.2.2.2.2.1 := by dsimp only [dats]
theorem after0_20 (c : Dev nD) (t : Fin cfg0.N) : (dats m 0 c).after 20 t = (outsAt0 m c t).2.2.2.2.2.2.2.1 := by dsimp only [dats]
theorem after0_21 (c : Dev nD) (t : Fin cfg0.N) : (dats m 0 c).after 21 t = (outsAt0 m c t).2.2.2.2.2.2.2.2.1 := by dsimp only [dats]
theorem after0_22 (c : Dev nD) (t : Fin cfg0.N) : (dats m 0 c).after 22 t = (outsAt0 m c t).2.2.2.2.2.2.2.2.2.1 := by dsimp only [dats]
theorem after0_23 (c : Dev nD) (t : Fin cfg0.N) : (dats m 0 c).after 23 t = (outsAt0 m c t).2.2.2.2.2.2.2.2.2.2.1 := by dsimp only [dats]
theorem after0_24 (c : Dev nD) (t : Fin cfg0.N) : (dats m 0 c).after 24 t = (outsAt0 m c t).2.2.2.2.2.2.2.2.2.2.2.1 := by dsimp only [dats]
theorem after0_25 (c : Dev nD) (t : Fin cfg0.N) : (dats m 0 c).after 25 t = (outsAt0 m c t).2.2.2.2.2.2.2.2.2.2.2.2.1 := by dsimp only [dats]
theorem after0_26 (c : Dev nD) (t : Fin cfg0.N) : (dats m 0 c).after 26 t = (outsAt0 m c t).2.2.2.2.2.2.2.2.2.2.2.2.2.1 := by dsimp only [dats]
theorem after0_27 (c : Dev nD) (t : Fin cfg0.N) : (dats m 0 c).after 27 t = (outsAt0 m c t).2.2.2.2.2.2.2.2.2.2.2.2.2.2.1 := by dsimp only [dats]
theorem after0_28 (c : Dev nD) (t : Fin cfg0.N) : (dats m 0 c).after 28 t = (outsAt0 m c t).2.2.2.2.2.2.2.2.2.2.2.2.2.2.2.1 := by dsimp only [dats]
theorem after0_29 (c : Dev nD) (t : Fin cfg0.N) : (dats m 0 c).after 29 t = (outsAt0 m c t).2.2.2.2.2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 3200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.castSucc = Pipeline.ΦA spec0 c from rfl, PhiA0_eq]
  unfold outsAt0
  unfold out0_A_13 out0_A_14 out0_A_15 out0_A_16 out0_A_17 out0_A_18 out0_A_19 out0_A_20 out0_A_21 out0_A_22 out0_A_23 out0_A_24 out0_A_25 out0_A_26 out0_A_27 out0_A_28 out0_A_29; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t)).2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [HS2]; · iexact HS2
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.QkvIdeal.Whole

end
-- ==== Proof.QkvFrameIdealRun.lean ====
module

public import proofs.«01_k».proof.Proof.QkvFrameIdeal
public import Idealize.ShloMosaic.Lib.Claim

/-! The frame of the projections' program, as the generated module states it, with a larger budget for its obligation. -/

@[expose] public section

-- membership in a rectangle of production extents (`View.cover_of_tiled`): the elaborator's structural look
-- recurses once per coordinate of the long axes
set_option maxRecDepth 16384

noncomputable section

namespace Cert.QkvIdeal.Whole

open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 19200000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.QkvIdeal.Whole

end
-- ==== Proof.QkvFrameBits.lean ====
module

public import proofs.«01_k».proof.Defs
public import proofs.«01_k».proof.Proof.Gen.Qkv
public import proofs.«01_k».proof.Proof.QkvFrameIdealRun

/-! The frame of the projections' program, taken from that of its idealization: the two have one text. -/

@[expose] public section

set_option maxRecDepth 65536

noncomputable section

namespace Cert.QkvBits

open Idealize.ShloMosaic Idealize.SL.Sem

set_option maxHeartbeats 8000000 in
/-- The two programs call the same bodies. -/
theorem bodies_eq : Cert.Qkv.defs₀ (F := Bits) = Cert.QkvIdeal.defs₀ (F := Bits) := by
  unfold Cert.Qkv.defs₀ Cert.QkvIdeal.defs₀
  refine congrArg Defs.onTc (funext fun l => funext fun a => ?_)
  match l, a with
  | 0, (t, s) => rfl

set_option maxHeartbeats 8000000 in
/-- The two programs launch the same pipelines. -/
theorem pipelines_eq : Cert.Qkv.defs (F := Bits) = Cert.QkvIdeal.defs (F := Bits) :=
  congrArg (Pipeline.defs (Cert.QkvIdeal.pcfgs (F := Bits))) bodies_eq

set_option maxHeartbeats 8000000 in
/-- The two programs have the same host code. -/
theorem host_eq : Cert.Qkv.main (F := Bits) = Cert.QkvIdeal.main (F := Bits) := rfl

set_option maxHeartbeats 8000000 in
/-- The projections' program runs, leaves its arguments and every semaphore at zero. -/
theorem frame : Cert.quiescent_Qkv := fun m ρ _ => by
  rw [pipelines_eq, host_eq]
  exact Cert.QkvIdeal.Whole.frame (F := Bits) m ρ

end Cert.QkvBits

end
-- ==== Proof.QkvHost.lean ====
module

public import proofs.«01_k».proof.Proof.Gen.QkvIdeal.Frame.Runs
public import Idealize.ShloMosaic.Lib.StableHlo.RunRead
public import Idealize.ShloMosaic.Lib.ValueIdx
public import Idealize.ShloMosaic.Lib.Pipeline.Value
public import Idealize.ShloMosaic.Lib.Routing.OpsSearch
public import proofs.«01_k».proof.Proof.Tile

/-! What the projections' host code hands to the call: the arguments, the tiled gains and the head means' matrix. -/

@[expose] public section

set_option maxRecDepth 16384

noncomputable section

namespace Cert.QkvHost

open Idealize.ShloMosaic
open Idealize.ShloMosaic.ValueIdx Idealize.SL.Sem Cert.QkvIdeal Cert.QkvIdeal.Gen Idealize.ShloMosaic.StableHlo

variable (m : (ℓ : Loc nD τ sig) → Buf (Elt Ideal) ℓ) (c : Dev nD)

/-- The call's rows of `x`. -/
theorem Vx : V m c main_arg0 = m (c.tc.loc main_arg0) := by
  after_reads_simp

/-- The call's weights. -/
theorem Vw : V m c main_v30 = m (c.tc.loc main_arg3) := by
  after_reads_simp
  rfl

/-- The call's modulation rows. -/
theorem Vmod (b : Fin 2) (r : Fin 6) (k : Fin 1024) :
    ((V m c main_v28 : S2x6x1024.Idx → EReal) (ix3 b r k) : EReal)
      = (show S2x6144.Idx → EReal from m (c.tc.loc main_arg1)) (ix2 b ⟨1024 * r.val + k.val, by omega⟩) := by
  have e : V m c main_v28 = shapeCast S2x6x1024 (show FVec Ideal S2x6144 .f32 from m (c.tc.loc main_arg1)) shapeCasts_S2x6144_S2x6x1024 := by
    after_reads_simp
    rfl
  refine (congrFun e _).trans (shapeCast_apply _ _ _ _ ?_)
  rw [Shape.rowMajor_val_two, Shape.rowMajor_val_three]
  show b.val * 6144 + (1024 * r.val + k.val) = (b.val * 6 + r.val) * 1024 + k.val
  omega

/-- The call's norm's gain. -/
theorem Vgain (k : Fin 1024) : ((V m c main_v29 : S1x1024.Idx → EReal) (ix2 0 k) : EReal)
    = (show S1024.Idx → EReal from m (c.tc.loc main_arg2)) (ix1 k) := by
  have e : V m c main_v29 = shapeCast S1x1024 (show FVec Ideal S1024 .f32 from m (c.tc.loc main_arg2)) shapeCasts_S1024_S1x1024 := by
    after_reads_simp
    rfl
  refine (congrFun e _).trans (shapeCast_apply _ _ _ _ ?_)
  rw [Shape.rowMajor_val_one, Shape.rowMajor_val_two]
  show k.val = 0 * 1024 + k.val
  omega

/-- A head's gain, tiled over four heads, as one row. -/
def tiled (g : FVec Ideal S64 .f32) : FVec Ideal S1x256 .f32 :=
  broadcastInDim S1x256 ![1] bcast_S256_S1x256_1
    (shapeCast S256 (broadcastInDim S4x64 ![0, 1] bcast_S1x64_S4x64_0_1 (shapeCast S1x64 g shapeCasts_S64_S1x64)) shapeCasts_S4x64_S256)

/-- The tiled gain, at a column. -/
theorem tiled_apply (g : FVec Ideal S64 .f32) (j : Fin 256) : tiled g (ix2 0 j) = g (ix1 ⟨j.val % 64, by omega⟩) := by
  unfold tiled
  refine (broadcastInDim_apply _ _ _ _ (ix1 j) fun d => by match d with | ⟨0, _⟩ => rfl).trans ?_
  refine (shapeCast_apply _ _ _ (ix2 (⟨j.val / 64, by omega⟩ : Fin 4) (⟨j.val % 64, by omega⟩ : Fin 64)) ?_).trans ?_
  · rw [Shape.rowMajor_val_one, Shape.rowMajor_val_two]
    show j.val / 64 * 64 + j.val % 64 = j.val
    omega
  refine (broadcastInDim_apply _ _ _ _ (ix2 (0 : Fin 1) (⟨j.val % 64, by omega⟩ : Fin 64)) fun d => by match d with | ⟨0, _⟩ => rfl | ⟨1, _⟩ => rfl).trans ?_
  refine shapeCast_apply _ _ _ _ ?_
  rw [Shape.rowMajor_val_one, Shape.rowMajor_val_two]
  show j.val % 64 = 0 * 64 + j.val % 64
  omega

/-- The call's four gains. -/
theorem Vgains : V m c main_v16 = concatenate S4x256 0
    [⟨S1x256, tiled (m (c.tc.loc main_arg4))⟩, ⟨S1x256, tiled (m (c.tc.loc main_arg5))⟩, ⟨S1x256, tiled (m (c.tc.loc main_arg6))⟩,
      ⟨S1x256, tiled (m (c.tc.loc main_arg7))⟩] concatenates_S1x256_S1x256_S1x256_S1x256_S4x256_d0 := by
  after_reads_simp
  rfl

/-- A gain of the call, at a column. -/
theorem gain_apply (r : Fin 4) (g : FVec Ideal S64 .f32)
    (hg : g = ![(m (c.tc.loc main_arg4) : FVec Ideal S64 .f32), m (c.tc.loc main_arg5), m (c.tc.loc main_arg6), m (c.tc.loc main_arg7)] r)
    (j : Fin 256) : ((V m c main_v16 : S4x256.Idx → EReal) (ix2 r j) : EReal) = g (ix1 ⟨j.val % 64, by omega⟩) := by
  subst hg
  refine (congrFun (Vgains m c) _).trans ?_
  refine (Cert.NaBlock.rows (L := 4) (n := 1) (w := 256) (N := 4)
    (fun a => tiled (![(m (c.tc.loc main_arg4) : FVec Ideal S64 .f32), m (c.tc.loc main_arg5), m (c.tc.loc main_arg6), m (c.tc.loc main_arg7)] a))
    _ rfl _ r 0 j r (by show r.val = 1 * r.val + 0; omega)).trans ?_
  exact tiled_apply _ j

/-- The heads of the columns, as words. -/
def heads : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- The head of a column. -/
theorem heads_apply (j : Fin 256) : heads (ix1 j) = BitVec.ofNat 32 (j.val / 64) :=
  (show heads (ix1 j) = Idealize.ShloMosaic.Routing.pyDiv0 (fun _ => BitVec.ofNat 32 j.val) (fun _ => 64#32) ix0 from rfl).trans
    (Idealize.ShloMosaic.Routing.pyDiv0_ap _ _ (a := j.val) (b := 64) rfl rfl (by omega) (by omega) (by omega))

/-- The call's matrix of the heads' means. -/
theorem Vones : V m c main_v27 = (truncf .bf16 (mulf (uitofp .f32 (cmpi .eq
      (broadcastInDim S256x256 ![0, 1] bcast_S256x1_S256x256_0_1 (broadcastInDim S256x1 ![0] bcast_S256_S256x1_0 heads))
      (broadcastInDim S256x256 ![0, 1] bcast_S1x256_S256x256_0_1 (broadcastInDim S1x256 ![1] bcast_S256_S1x256_1 heads))))
    (broadcastInDim S256x256 ![] bcast_S_S256x256 (constant S_ .f32 0x3C800000#32))) bitsLt_bf16_f32 : FVec Ideal S256x256 .bf16) := by
  after_reads_simp
  rfl

/-- The matrix of the heads' means at an element. -/
theorem ones_apply (k j : Fin 256) : ((V m c main_v27 : S256x256.Idx → EReal) (ix2 k j) : EReal)
    = if k.val / 64 = j.val / 64 then Ideal.ofBits .f32 0x3C800000#32 else 0 := by
  refine (congrFun (Vones m c) _).trans ?_
  show ((((IntOp.cmpi .eq (heads (ix1 k)) (heads (ix1 j))).toNat : ℝ) : EReal)) * Ideal.ofBits .f32 0x3C800000#32 = _
  rw [heads_apply, heads_apply]
  by_cases h : k.val / 64 = j.val / 64
  · rw [if_pos h, h]
    have e : IntOp.cmpi .eq (BitVec.ofNat 32 (j.val / 64)) (BitVec.ofNat 32 (j.val / 64)) = 1#1 := by
      simp [IntOp.cmpi]
    rw [e]
    simp
  · rw [if_neg h]
    have e : IntOp.cmpi .eq (BitVec.ofNat 32 (k.val / 64)) (BitVec.ofNat 32 (j.val / 64)) = 0#1 := by
      have hn : BitVec.ofNat 32 (k.val / 64) ≠ BitVec.ofNat 32 (j.val / 64) := by
        intro he
        have := congrArg BitVec.toNat he
        simp only [BitVec.toNat_ofNat] at this
        omega
      show BitVec.ofBool (BitVec.ofNat 32 (k.val / 64) == BitVec.ofNat 32 (j.val / 64)) = 0#1
      rw [beq_eq_false_iff_ne.2 hn]
      rfl
    rw [e]
    simp

end Cert.QkvHost
-- ==== Proof.QkvSpec.lean ====
module

public import proofs.«01_k».proof.Proof.TailSpec
public import Idealize.ShloMosaic.Lib.ValueIdx

/-! The projections of a token's row, as row formulas over the extended reals. -/

@[expose] public section

noncomputable section

namespace Cert.QkvSpec

open Idealize.ShloMosaic Idealize.ShloMosaic.ValueIdx Cert.TailSpec

/-- One column of a head, divided by the head's root mean square, times a gain. -/
def head (y g : Fin 64 → EReal) (k : Fin 64) : EReal :=
  y k * Ideal.rsqrt (Ideal.div (∑ j, y j * y j) (Ideal.ofBits .f32 0x42800000#32) + Ideal.ofBits .f32 0x358637BD#32) * g k

/-- The arguments that the projections read. -/
structure Args where
  x : (⟨3, ![2, 8192, 1024]⟩ : Shape).Idx → EReal
  md : (⟨2, ![2, 6144]⟩ : Shape).Idx → EReal
  g : (⟨1, ![1024]⟩ : Shape).Idx → EReal
  w : (⟨2, ![1024, 5888]⟩ : Shape).Idx → EReal

/-- The modulated row of token `s`. -/
def Args.h (A : Args) (b : Fin 2) (s : Fin 8192) : Fin 1024 → EReal :=
  norm (fun k => A.md (ix2 b ⟨k.val, by omega⟩)) (fun k => A.md (ix2 b ⟨1024 + k.val, by omega⟩)) (fun k => A.x (ix3 b s k))
    (fun k => A.g (ix1 k))

/-- Column `p` of token `s`'s projection. -/
def Args.proj (A : Args) (b : Fin 2) (s : Fin 8192) (p : Fin 5888) : EReal := dot (A.h b s) (fun k => A.w (ix2 k p))

/-- Column `p` of the columns from `o` on. -/
def Args.plain (A : Args) (o n : Nat) (ho : o + n ≤ 5888) (b : Fin 2) (s : Fin 8192) (p : Fin n) : EReal :=
  A.proj b s ⟨o + p.val, by omega⟩

/-- Column `p` of the 512 columns from `o` on, normed by heads of 64 columns. -/
def Args.normed (A : Args) (o : Nat) (ho : o + 512 ≤ 5888) (g : (⟨1, ![64]⟩ : Shape).Idx → EReal) (b : Fin 2) (s : Fin 8192)
    (p : Fin 512) : EReal :=
  head (fun j => A.proj b s ⟨o + (p.val / 64 * 64 + j.val), by omega⟩) (fun j => g (ix1 j)) ⟨p.val % 64, by omega⟩

end Cert.QkvSpec
-- ==== Proof.QkvHeads.lean ====
module

public import proofs.«01_k».proof.Proof.QkvSpec
public import proofs.«01_k».proof.Proof.Consts
public import Idealize.ShloMosaic.Lib.IdealHost
public import Idealize.ShloMosaic.Lib.Pipeline.ValueKit.Acc

/-! The heads' mean squares as the kernel takes them: a product with a matrix of ones over 64 on the heads' diagonal blocks. -/

@[expose] public section

noncomputable section

namespace Cert.QkvHeads

open Idealize.ShloMosaic Cert.TailSpec Cert.QkvSpec

/-- The word of 64. -/
theorem w64 : Ideal.ofBits .f32 0x42800000#32 = ((64 : ℝ) : EReal) := by
  simp [Ideal.ofBits, Ideal.ieee]
  rw [← EReal.coe_mul]
  norm_num

/-- The word of one over 64. -/
theorem wInv : Ideal.ofBits .f32 0x3C800000#32 = ((1 / 64 : ℝ) : EReal) := by
  simp [Ideal.ofBits, Ideal.ieee]
  rw [← EReal.coe_mul]
  norm_num

/-- A square is not negative. -/
theorem sq_nonneg' (y : EReal) : 0 ≤ y * y := by
  rcases le_total 0 y with h | h
  · exact mul_nonneg h h
  · rw [← neg_mul_neg]
    exact mul_nonneg (EReal.neg_nonneg.2 h) (EReal.neg_nonneg.2 h)

/-- A constant moves out of a sum of numbers that are not negative. -/
theorem sum_const {n : Nat} (f : Fin n → EReal) (hf : ∀ i, 0 ≤ f i) (a : EReal) : ∑ i, f i * a = (∑ i, f i) * a := by
  have h : ∀ s : Finset (Fin n), ∑ i ∈ s, f i * a = (∑ i ∈ s, f i) * a := by
    intro s
    induction s using Finset.induction_on with
    | empty => simp
    | insert i s hi ih =>
      rw [Finset.sum_insert hi, Finset.sum_insert hi, ih,
        EReal.right_distrib_of_nonneg (hf i) (Finset.sum_nonneg fun j _ => hf j)]
  exact h Finset.univ

/-- One over 64 times a number is the quotient by 64. -/
theorem mul_inv (x : EReal) : x * Ideal.ofBits .f32 0x3C800000#32 = Ideal.div x (Ideal.ofBits .f32 0x42800000#32) := by
  have h0 : ((64 : ℝ) : EReal) ≠ 0 := by
    intro h
    have : (64 : ℝ) = 0 := EReal.coe_eq_zero.1 h
    norm_num at this
  rw [wInv, w64, ← Ideal.mul_one_div h0]
  refine congrArg (x * ·) ?_
  unfold Ideal.div
  rw [if_neg h0]
  rw [show (1 : EReal) = ((1 : ℝ) : EReal) from rfl, ← EReal.coe_inv, ← EReal.coe_mul]
  norm_num

/-- The kernel's mean square is the head's. -/
theorem mean_eq (y o : Fin 256 → EReal) (j : Fin 256)
    (ho : ∀ k, o k = if k.val / 64 = j.val / 64 then Ideal.ofBits .f32 0x3C800000#32 else 0) :
    ∑ k, y k * y k * o k = Ideal.div (∑ i : Fin 64, y ⟨j.val / 64 * 64 + i.val, by omega⟩ * y ⟨j.val / 64 * 64 + i.val, by omega⟩)
      (Ideal.ofBits .f32 0x42800000#32) := by
  rw [← Fin.sum_mul_add_fin 4 64 (fun k => y k * y k * o k),
    Finset.sum_eq_single (⟨j.val / 64, by omega⟩ : Fin 4) ?_ (fun h => absurd (Finset.mem_univ _) h)]
  · rw [← mul_inv, ← sum_const _ fun i => sq_nonneg' _]
    refine Finset.sum_congr rfl fun i _ => ?_
    rw [ho, if_pos]
    show (j.val / 64 * 64 + i.val) / 64 = j.val / 64
    omega
  · intro s _ hs
    refine Finset.sum_eq_zero fun i _ => ?_
    rw [ho, if_neg, mul_zero]
    intro h
    refine hs (Fin.ext ?_)
    have : (s.val * 64 + i.val) / 64 = j.val / 64 := h
    show s.val = j.val / 64
    omega

end Cert.QkvHeads
-- ==== Proof.QkvTile.lean ====
module

public import proofs.«01_k».proof.Proof.QkvHeads
public import proofs.«01_k».proof.Proof.TailTile
public import proofs.«01_k».proof.Proof.Gen.QkvIdeal.Skeleton

/-! The projections' tiles and what they hold at an index, over the extended reals. -/

@[expose] public section

set_option maxRecDepth 16384

noncomputable section

namespace Cert.QkvTile

open Idealize.ShloMosaic Idealize.ShloMosaic.ValueIdx Cert.QkvIdeal Cert.QkvIdeal.Gen Cert.TailSpec Cert.QkvSpec
open Cert.TailBlock (row_apply drop_apply)

variable {F : FTy → Type} [FloatOps F]

/-- The modulated rows of a block. -/
def rows (x : Vec F S1x1024x1024 .f32) (g : Vec F S1x1024 .f32) (md : Vec F S1x6x1024 .f32) : FVec F S1024x1024 .bf16 :=
  k0_pay13 (k0_pay8 x) (k0_pay9 g) (k0_pay10 md) (k0_pay11 md) (k0_pay12 x)

/-- Two tiles' columns of half the rows. -/
def wide (h : Vec F S512x1024 .bf16) (w : Vec F S1024x512 .bf16) : FVec F S512x512 .f32 :=
  matmul dot_S512x1024_S1024x512_S512x512_1_0_0_1_n_n none h
    (shapeCast S1024x512 w shapeCasts_S1024x512_S1024x512 : FVec F S1024x512 .bf16) (constant S512x512 .f32 0x00000000#32)

/-- A tile's columns, normed by heads. -/
def normTile (y : FVec F S512x256 .f32) (ones : Vec F S256x256 .bf16) (g : Vec F S1x256 .f32) : FVec F S512x256 .f32 :=
  mulf (mulf y (rsqrt (addf (matmul dot_S512x256_S256x256_S512x256_1_0_0_1_n_n none (truncf .bf16 (mulf y y) bitsLt_bf16_f32)
      (shapeCast S256x256 ones shapeCasts_S256x256_S256x256 : FVec F S256x256 .bf16) (constant S512x256 .f32 0x00000000#32))
      (broadcast S512x256 (Scalar.ofBits .f32 0x358637BD#32 : F .f32)))))
    (broadcastTo S512x256 (shapeCast S1x256 g shapeCasts_S1x256_S1x256 : FVec F S1x256 .f32) broadcasts_S1x256_S512x256)

/-- A tile as it is stored. -/
def stored (y : FVec F S512x256 .f32) : FVec F S1x512x256 .bf16 :=
  shapeCast S1x512x256 (truncf .bf16 y bitsLt_bf16_f32) shapeCasts_S512x256_S1x512x256

/-- The first tile of a pair. -/
def fst (y : FVec F S512x512 .f32) : FVec F S512x256 .f32 :=
  extractStridedSlice S512x256 ![0, 0] y slices_S512x512_o0_0_S512x256

/-- The second tile of a pair. -/
def snd (y : FVec F S512x512 .f32) : FVec F S512x256 .f32 :=
  extractStridedSlice S512x256 ![0, 256] y slices_S512x512_o0_256_S512x256

/-- The modulation's row `r`. -/
theorem md_apply (md : Vec Ideal S1x6x1024 .f32) (r : Fin 6) (h : Shape.Slices S6x1024 ![r.val, 0] S1x1024) (k : Fin 1024) :
    extractStridedSlice S1x1024 ![r.val, 0] (k0_pay7 (F := Ideal) md) h (ix2 0 k) = md (ix3 0 r k) := by
  refine (extractStridedSlice_apply _ _ _ _ (ix2 r k) ?_).trans (drop_apply md _ r k)
  intro a
  match a with
  | ⟨0, _⟩ => rfl
  | ⟨1, _⟩ => exact (Nat.zero_add _).symm

/-- The modulated rows at an index. -/
theorem rows_apply (x : Vec Ideal S1x1024x1024 .f32) (g : Vec Ideal S1x1024 .f32) (md : Vec Ideal S1x6x1024 .f32) (i k : Fin 1024) :
    rows x g md (ix2 i k)
      = norm (fun k => md (ix3 0 0 k)) (fun k => md (ix3 0 1 k)) (fun k => x (ix3 0 i k)) (fun k => g (ix2 0 k)) k := by
  have hx (k : Fin 1024) : k0_pay8 (F := Ideal) x (ix2 i k) = x (ix3 0 i k) := drop_apply x _ i k
  unfold rows k0_pay13
  rw [shapeCast_self]
  refine congrArg₂ (· + ·) (congrArg₂ (· * ·) (congrArg₂ (· * ·) (congrArg₂ (· * ·) (hx k) ?_) ?_) ?_) ?_
  · refine (broadcastTo_apply _ _ _ (ix2 i 0) ?_).trans ?_
    · intro a
      match a with
      | ⟨0, _⟩ => rfl
      | ⟨1, _⟩ => rfl
    refine congrArg (fun z => Ideal.rsqrt (Ideal.div z _ + _)) ?_
    refine (shapeCast_apply _ _ _ (ix1 i) ?_).trans ?_
    · rw [Shape.rowMajor_val_one, Shape.rowMajor_val_two]
      show i.val = i.val * 1 + 0; omega
    refine (Ideal.multiReduction_add_single _ _ _ _ _ (ix1 i)).trans ?_
    refine Finset.sum_congr rfl fun k _ => ?_
    refine Eq.trans (congrArg (k0_pay12 (F := Ideal) x) (?_ : _ = ix2 i k)) (congrArg (fun z : EReal => z * z) (hx k))
    funext a
    match a with
    | ⟨0, _⟩ => rfl
    | ⟨1, _⟩ => rfl
  · exact (row_apply _ _ (by decide) i k).trans (congrFun (shapeCast_self _ _) _)
  · refine (row_apply _ _ (by decide) i k).trans (congrArg (one + ·) ?_)
    exact md_apply md 1 slices_S6x1024_o1_0_S1x1024 k
  · exact (row_apply _ _ (by decide) i k).trans (md_apply md 0 slices_S6x1024_o0_0_S1x1024 k)

/-- A pair's columns at an index. -/
theorem wide_apply (h : Vec Ideal S512x1024 .bf16) (w : Vec Ideal S1024x512 .bf16) (i j : Fin 512) :
    wide h w (ix2 i j) = dot (fun k : Fin 1024 => h (ix2 i k)) fun k => w (ix2 k j) := by
  unfold wide
  rw [shapeCast_self]
  refine (Ideal.matmul_plain_apply (M := 512) (K := 1024) (N := 512) none _ _ _ i j).trans ?_
  rw [Cert.TailBlock.zero_apply, zero_add]
  rfl

/-- The first tile at an index. -/
theorem fst_apply (y : FVec Ideal S512x512 .f32) (i : Fin 512) (j : Fin 256) : fst y (ix2 i j) = y (ix2 i ⟨0 + j.val, by omega⟩) := by
  refine extractStridedSlice_apply _ _ _ _ (ix2 i ⟨0 + j.val, by omega⟩) ?_
  intro a
  match a with
  | ⟨0, _⟩ => exact (Nat.zero_add _).symm
  | ⟨1, _⟩ => rfl

/-- The second tile at an index. -/
theorem snd_apply (y : FVec Ideal S512x512 .f32) (i : Fin 512) (j : Fin 256) : snd y (ix2 i j) = y (ix2 i ⟨256 + j.val, by omega⟩) := by
  refine extractStridedSlice_apply _ _ _ _ (ix2 i ⟨256 + j.val, by omega⟩) ?_
  intro a
  match a with
  | ⟨0, _⟩ => exact (Nat.zero_add _).symm
  | ⟨1, _⟩ => rfl

/-- A stored tile at an index. -/
theorem stored_apply (y : FVec Ideal S512x256 .f32) (i : Fin 512) (j : Fin 256) : stored y (ix3 0 i j) = y (ix2 i j) := by
  unfold stored
  refine (shapeCast_addUnit_apply ![512, 256] _ _ _).trans (congrArg y ?_)
  funext a
  match a with
  | ⟨0, _⟩ => rfl
  | ⟨1, _⟩ => rfl

/-- A normed tile at an index. -/
theorem normTile_apply (y : FVec Ideal S512x256 .f32) (ones : Vec Ideal S256x256 .bf16) (g : Vec Ideal S1x256 .f32) (i : Fin 512)
    (j : Fin 256) (ho : ∀ k : Fin 256, (ones (ix2 k j) : EReal) = if k.val / 64 = j.val / 64 then Ideal.ofBits .f32 0x3C800000#32 else 0) :
    normTile y ones g (ix2 i j)
      = y (ix2 i j) * Ideal.rsqrt (Ideal.div (∑ l : Fin 64, y (ix2 i ⟨j.val / 64 * 64 + l.val, by omega⟩)
          * y (ix2 i ⟨j.val / 64 * 64 + l.val, by omega⟩)) (Ideal.ofBits .f32 0x42800000#32) + Ideal.ofBits .f32 0x358637BD#32)
        * g (ix2 0 j) := by
  unfold normTile
  refine congrArg₂ (· * ·) (congrArg (y (ix2 i j) * ·) (congrArg (fun z => Ideal.rsqrt (z + _)) ?_)) ?_
  · rw [shapeCast_self]
    refine (Ideal.matmul_plain_apply (M := 512) (K := 256) (N := 256) none _ _ _ i j).trans ?_
    rw [Cert.TailBlock.zero_apply, zero_add]
    exact QkvHeads.mean_eq (fun k => y (ix2 i k)) (fun k => ones (ix2 k j)) j ho
  · exact (row_apply _ _ (by decide) i j).trans (congrFun (shapeCast_self _ _) _)

end Cert.QkvTile
-- ==== Proof.QkvBlock.lean ====
module

public import proofs.«01_k».proof.Proof.QkvTile
public import Idealize.ShloMosaic.Lib.Pipeline.ReadBack
public import Idealize.ShloMosaic.Lib.Pipeline.ValueKit.Point
public import Idealize.ShloMosaic.Lib.Pipeline.Value

/-! The stores of a grid point of the projections, as tiles of QkvTile.lean, and the block that they leave. -/

@[expose] public section

set_option maxRecDepth 16384

noncomputable section

namespace Cert.QkvBlock

open Idealize.ShloMosaic hiding ix1 ix2 ix3
open Idealize.ShloMosaic.ValueIdx Cert.QkvIdeal Cert.QkvIdeal.Gen Cert.TailSpec Cert.QkvSpec Cert.QkvTile

variable {F : FTy → Type} [FloatOps F]

/-- Half `a`'s rows are rows of the block. -/
theorem h_inb (a : Fin 2) : ∀ d, (![512 * a.val, 0] : Fin 2 → Nat) d + S512x1024.size d ≤ S1024x1024.size d := by
  revert a; decide

/-- Tile pair `n`'s columns are columns of the weights. -/
theorem w_inb (n : Fin 7) : ∀ d, (![0, 512 * n.val] : Fin 2 → Nat) d + S1024x512.size d ≤ S1024x3840.size d := by
  revert n; decide

/-- Gain `r` is a row of the gains. -/
theorem g_inb (r : Fin 4) : ∀ d, (![r.val, 0] : Fin 2 → Nat) d + S1x256.size d ≤ S4x256.size d := by
  revert r; decide

/-- Half `a`, tile `b` is a part of a block of 512 columns. -/
theorem o_inb (a b : Fin 2) : ∀ d, (![0, 512 * a.val, 256 * b.val] : Fin 3 → Nat) d + S1x512x256.size d ≤ S1x1024x512.size d := by
  revert a b; decide

/-- Half `a` is a part of a block of 256 columns. -/
theorem p_inb (a : Fin 2) : ∀ d, (![0, 512 * a.val, 0] : Fin 3 → Nat) d + S1x512x256.size d ≤ S1x1024x256.size d := by
  revert a; decide

/-- Half `a` of the rows. -/
abbrev hRect (a : Fin 2) : Rect S1024x1024 := Rect.unit ![512 * a.val, 0] S512x1024.size (h_inb a)

/-- Tile pair `n` of the weights. -/
abbrev wRect (n : Fin 7) : Rect S1024x3840 := Rect.unit ![0, 512 * n.val] S1024x512.size (w_inb n)

/-- Gain `r`. -/
abbrev gRect (r : Fin 4) : Rect S4x256 := Rect.unit ![r.val, 0] S1x256.size (g_inb r)

/-- The columns of tile pair `n`. -/
def cols (h : FVec F S1024x1024 .bf16) (w : Vec F S1024x3840 .bf16) (n : Fin 7) (a : Fin 2) : FVec F S512x512 .f32 :=
  wide (View.ld h (hRect a)) (View.ld w (wRect n))

/-- Tile `b` of a pair. -/
def pick (y : FVec F S512x512 .f32) : Fin 2 → FVec F S512x256 .f32
  | 0 => fst y
  | 1 => snd y

/-- The stores of a block of 512 columns. -/
def pieces4 (T : Fin 2 → Fin 2 → FVec F S1x512x256 .bf16) : List (View.Piece (Elt F) S1x1024x512 .bf16) :=
  [⟨Rect.unit ![0, 512 * (1 : Fin 2).val, 256 * (1 : Fin 2).val] S1x512x256.size (o_inb 1 1), T 1 1⟩,
   ⟨Rect.unit ![0, 512 * (0 : Fin 2).val, 256 * (1 : Fin 2).val] S1x512x256.size (o_inb 0 1), T 0 1⟩,
   ⟨Rect.unit ![0, 512 * (1 : Fin 2).val, 256 * (0 : Fin 2).val] S1x512x256.size (o_inb 1 0), T 1 0⟩,
   ⟨Rect.unit ![0, 512 * (0 : Fin 2).val, 256 * (0 : Fin 2).val] S1x512x256.size (o_inb 0 0), T 0 0⟩]

/-- The stores of a block of 256 columns. -/
def pieces2 (T : Fin 2 → FVec F S1x512x256 .bf16) : List (View.Piece (Elt F) S1x1024x256 .bf16) :=
  [⟨Rect.unit ![0, 512 * (1 : Fin 2).val, 0] S1x512x256.size (p_inb 1), T 1⟩,
   ⟨Rect.unit ![0, 512 * (0 : Fin 2).val, 0] S1x512x256.size (p_inb 0), T 0⟩]

/-- Row `i` of half `a`. -/
abbrev tok (a : Fin 2) (i : Fin 512) : Fin 1024 := ⟨512 * a.val + i.val, by omega⟩

/-- Column `j` of tile `b`. -/
abbrev col (b : Fin 2) (j : Fin 256) : Fin 512 := ⟨256 * b.val + j.val, by omega⟩

/-- A store of a block of 512 columns is one of the tiles. -/
theorem mem_pieces4 (T : Fin 2 → Fin 2 → FVec F S1x512x256 .bf16) (p) (hp : p ∈ pieces4 T) :
    ∃ a b : Fin 2, p = ⟨Rect.unit ![0, 512 * a.val, 256 * b.val] S1x512x256.size (o_inb a b), T a b⟩ := by
  unfold pieces4 at hp
  simp only [List.mem_cons, List.not_mem_nil, or_false] at hp
  rcases hp with h | h | h | h
  · exact ⟨1, 1, h⟩
  · exact ⟨0, 1, h⟩
  · exact ⟨1, 0, h⟩
  · exact ⟨0, 0, h⟩

/-- A store of a block of 256 columns is one of the tiles. -/
theorem mem_pieces2 (T : Fin 2 → FVec F S1x512x256 .bf16) (p) (hp : p ∈ pieces2 T) :
    ∃ a : Fin 2, p = ⟨Rect.unit ![0, 512 * a.val, 0] S1x512x256.size (p_inb a), T a⟩ := by
  unfold pieces2 at hp
  simp only [List.mem_cons, List.not_mem_nil, or_false] at hp
  rcases hp with h | h
  · exact ⟨1, h⟩
  · exact ⟨0, h⟩

/-- A block of 512 columns at an index. -/
theorem canon4 (T : Fin 2 → Fin 2 → FVec F S1x512x256 .bf16) (hc : ∀ y, ∃ p ∈ pieces4 T, y ∈ p.1.set) (a b : Fin 2) (i : Fin 512)
    (j : Fin 256) : View.canon (pieces4 T) (ix3 0 (tok a i) (col b j)) = T a b (ix3 0 i j) := by
  refine View.canon_eq_of_allAt _ _ _ (hc _) ?_
  intro p hp
  obtain ⟨a', b', rfl⟩ := mem_pieces4 T p hp
  intro x hx
  have hd : ∀ d, (![0, 512 * a'.val, 256 * b'.val] : Fin 3 → Nat) d + (x d : Nat) = (ix3 (0 : Fin 1) (tok a i) (col b j) d).val :=
    fun d => by
      rw [← hx, Rect.emb_apply]
      show _ = _ + 1 * (x d : Nat)
      rw [Nat.one_mul]
      rfl
  have h1 : 512 * a'.val + (x 1).val = 512 * a.val + i.val := hd 1
  have h2 : 256 * b'.val + (x 2).val = 256 * b.val + j.val := hd 2
  have hi : (x 1).val < 512 := (x 1).isLt
  have hj : (x 2).val < 256 := (x 2).isLt
  have ea : a' = a := Fin.ext (by omega)
  have eb : b' = b := Fin.ext (by omega)
  subst ea eb
  refine congrArg (T a' b') (funext fun d => Fin.ext ?_)
  match d with
  | ⟨0, _⟩ => show (x 0).val = 0; have : (x 0).val < 1 := (x 0).isLt; omega
  | ⟨1, _⟩ => show (x 1).val = i.val; omega
  | ⟨2, _⟩ => show (x 2).val = j.val; omega

/-- A block of 256 columns at an index. -/
theorem canon2 (T : Fin 2 → FVec F S1x512x256 .bf16) (hc : ∀ y, ∃ p ∈ pieces2 T, y ∈ p.1.set) (a : Fin 2) (i : Fin 512)
    (j : Fin 256) : View.canon (pieces2 T) (ix3 0 (tok a i) j) = T a (ix3 0 i j) := by
  refine View.canon_eq_of_allAt _ _ _ (hc _) ?_
  intro p hp
  obtain ⟨a', rfl⟩ := mem_pieces2 T p hp
  intro x hx
  have hd : ∀ d, (![0, 512 * a'.val, 0] : Fin 3 → Nat) d + (x d : Nat) = (ix3 (0 : Fin 1) (tok a i) j d).val :=
    fun d => by
      rw [← hx, Rect.emb_apply]
      show _ = _ + 1 * (x d : Nat)
      rw [Nat.one_mul]
      rfl
  have h1 : 512 * a'.val + (x 1).val = 512 * a.val + i.val := hd 1
  have h2 : 0 + (x 2).val = j.val := hd 2
  have hi : (x 1).val < 512 := (x 1).isLt
  have ea : a' = a := Fin.ext (by omega)
  subst ea
  refine congrArg (T a') (funext fun d => Fin.ext ?_)
  match d with
  | ⟨0, _⟩ => show (x 0).val = 0; have : (x 0).val < 1 := (x 0).isLt; omega
  | ⟨1, _⟩ => show (x 1).val = i.val; omega
  | ⟨2, _⟩ => show (x 2).val = j.val; omega

/-- A load of a whole block is the block. -/
theorem load_whole {S : Shape} {e : EltTy} (arg : Memref sig .tc .vmem S e) (harg : arg.IsWhole) (x : Vec F S e)
    {off : Fin S.rank → Nat} (h : ∀ d, off d = 0) (inb : ∀ d, off d + S.size d ≤ S.size d) :
    View.readAt (Elt F) arg.view (Rect.unit off S.size inb).toLoadRect (harg.unread x) = x := by
  rw [View.readAt_eq_ld, harg.read_unread]
  exact View.ld_unit_lit' inb x h

/-- A load of a part of a block. -/
theorem load_part {S : Shape} {e : EltTy} (arg : Memref sig .tc .vmem S e) (harg : arg.IsWhole) (x : Vec F S e) (r : Rect S) :
    View.readAt (Elt F) arg.view r.toLoadRect (harg.unread x) = View.ld x r := by
  rw [View.readAt_eq_ld, harg.read_unread]

/-- A load of a part of a buffer that one store has filled. -/
theorem load_filled {S : Shape} {e : EltTy} (arg : Memref sig .tc .vmem S e) (Z : Vec F S e) (r : Rect S) {off : Fin S.rank → Nat}
    (h : ∀ d, off d = 0) (inb : ∀ d, off d + S.size d ≤ S.size d) :
    arg.view.readCov [⟨Rect.unit off S.size inb, Z⟩] r.toLoadRect = View.ld Z r :=
  View.readCov_fill arg.view _ Z [] r h

section Values
variable (x : Vec Ideal S1x1024x1024 .f32) (md : Vec Ideal S1x6x1024 .f32) (g1 : Vec Ideal S1x1024 .f32)
  (w : Vec Ideal S1024x3840 .bf16) (gv : Vec Ideal S4x256 .f32) (ones : Vec Ideal S256x256 .bf16)

/-- Row `s` of the block, modulated. -/
def hrow (s : Fin 1024) : Fin 1024 → EReal :=
  norm (fun k => md (ix3 0 0 k)) (fun k => md (ix3 0 1 k)) (fun k => x (ix3 0 s k)) (fun k => g1 (ix2 0 k))

/-- A pair's columns at an index. -/
theorem cols_apply (n : Fin 7) (a : Fin 2) (i j : Fin 512) :
    cols (rows x g1 md) w n a (ix2 i j) = dot (hrow x md g1 (tok a i)) fun k => w (ix2 k ⟨512 * n.val + j.val, by omega⟩) := by
  unfold cols
  rw [wide_apply]
  refine congrArg₂ dot (funext fun k => ?_) (funext fun k => ?_)
  · refine Eq.trans (View.ld_unit_apply_of (show Vec Ideal S1024x1024 .bf16 from rows x g1 md) _ _ _ _ (ix2 (tok a i) k) fun d => ?_) (rows_apply x g1 md (tok a i) k)
    match d with
    | ⟨0, _⟩ => rfl
    | ⟨1, _⟩ => exact (Nat.zero_add _).symm
  · refine View.ld_unit_apply_of w _ _ _ _ (ix2 k ⟨512 * n.val + j.val, by omega⟩) fun d => ?_
    match d with
    | ⟨0, _⟩ => exact (Nat.zero_add _).symm
    | ⟨1, _⟩ => rfl

/-- A tile of a pair at an index. -/
theorem pick_apply (n : Fin 7) (a b : Fin 2) (i : Fin 512) (j : Fin 256) :
    pick (cols (rows x g1 md) w n a) b (ix2 i j)
      = dot (hrow x md g1 (tok a i)) fun k => w (ix2 k ⟨512 * n.val + (col b j).val, by omega⟩) := by
  match b with
  | 0 => exact (fst_apply _ i j).trans (cols_apply x md g1 w n a i _)
  | 1 => exact (snd_apply _ i j).trans (cols_apply x md g1 w n a i _)

/-- A plain tile at an index. -/
theorem plain_apply (n : Fin 7) (a b : Fin 2) (i : Fin 512) (j : Fin 256) :
    stored (pick (cols (rows x g1 md) w n a) b) (ix3 0 i j)
      = dot (hrow x md g1 (tok a i)) fun k => w (ix2 k ⟨512 * n.val + (col b j).val, by omega⟩) :=
  (stored_apply _ i j).trans (pick_apply x md g1 w n a b i j)

/-- A normed tile at an index. -/
theorem normed_apply (n : Fin 7) (r : Fin 4) (a b : Fin 2) (i : Fin 512) (j : Fin 256)
    (ho : ∀ k j : Fin 256, (ones (ix2 k j) : EReal) = if k.val / 64 = j.val / 64 then Ideal.ofBits .f32 0x3C800000#32 else 0)
    (g : Fin 64 → EReal) (hg : ∀ j : Fin 256, (gv (ix2 r j) : EReal) = g ⟨j.val % 64, by omega⟩) :
    stored (normTile (pick (cols (rows x g1 md) w n a) b) ones (View.ld gv (gRect r))) (ix3 0 i j)
      = head (fun l => dot (hrow x md g1 (tok a i)) fun k => w (ix2 k ⟨512 * n.val + ((col b j).val / 64 * 64 + l.val), by
          have := (col b j).isLt; omega⟩))
        g ⟨(col b j).val % 64, by omega⟩ := by
  have e (p q : Nat) (hp : p < 3840) (hq : q < 3840) (h : p = q) :
      (dot (hrow x md g1 (tok a i)) fun k => w (ix2 k ⟨p, hp⟩)) = dot (hrow x md g1 (tok a i)) fun k => w (ix2 k ⟨q, hq⟩) := by
    subst h; rfl
  have hcol : (col b j).val = 256 * b.val + j.val := rfl
  refine (stored_apply _ i j).trans ((normTile_apply _ ones _ i j fun k => ho k j).trans ?_)
  unfold head
  refine congrArg₂ (· * ·) (congrArg₂ (· * ·) ?_ (congrArg (fun z => Ideal.rsqrt (Ideal.div z _ + _)) ?_)) ?_
  · exact (pick_apply x md g1 w n a b i j).trans (e _ _ _ _ (by show _ = 512 * n.val + (_ / 64 * 64 + _ % 64); omega))
  · refine Finset.sum_congr rfl fun l _ => congrArg (fun z : EReal => z * z) ?_
    refine (pick_apply x md g1 w n a b i _).trans (e _ _ _ _ ?_)
    show 512 * n.val + (256 * b.val + (j.val / 64 * 64 + l.val)) = 512 * n.val + ((256 * b.val + j.val) / 64 * 64 + l.val)
    omega
  · refine Eq.trans (View.ld_unit_apply_of gv _ _ _ _ (ix2 r j) fun d => ?_) ((hg j).trans (congrArg g (Fin.ext ?_)))
    · match d with
      | ⟨0, _⟩ => rfl
      | ⟨1, _⟩ => exact (Nat.zero_add _).symm
    · show j.val % 64 = (256 * b.val + j.val) % 64
      omega

end Values
end Cert.QkvBlock
-- ==== Proof.QkvInputs.lean ====
module

public import proofs.«01_k».proof.Proof.QkvHost
public import proofs.«01_k».proof.Proof.QkvBlock

/-! The blocks that a grid point of the projections loads, as parts of the arguments. -/

@[expose] public section

set_option maxRecDepth 16384

noncomputable section

namespace Cert.QkvArrays

open Idealize.ShloMosaic hiding ix1 ix2 ix3
open Idealize.ShloMosaic.Pipeline Idealize.ShloMosaic.ValueIdx Idealize.SL.Sem Cert.QkvIdeal Cert.QkvIdeal.Gen Cert.QkvBlock
open Cert.TailSpec Cert.QkvSpec Cert.QkvHost

/-- The batch of a grid point. -/
def batchOf (t : Fin cfg0.N) : Fin 2 := grid0.coords t 0

/-- The token of a grid point's block. -/
def tokOf (t : Fin cfg0.N) (i : Fin 1024) : Fin 8192 :=
  ⟨1024 * (show Fin 8 from grid0.coords t 1).val + i.val, by
    have h : (show Fin 8 from grid0.coords t 1).val < 8 := (show Fin 8 from grid0.coords t 1).isLt
    omega⟩

/-- Which block window 0 is. -/
theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

/-- Where window 0's block lies. -/
theorem emb0 (t : Fin cfg0.N) (i : Fin 1024) (k : Fin 1024) :
    (win0_0.blk t).view.emb (ix3 0 i k) = ix3 (batchOf t) (tokOf t i) k := by
  funext d
  refine Fin.ext ?_
  blk_simp [index0]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 1024 + k.val = k.val; omega

/-- Which block window 13 is. -/
theorem index13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])

/-- Where window 13's block lies. -/
theorem emb13 (t : Fin cfg0.N) (i : Fin 1024) (k : Fin 512) :
    (win0_13.blk t).view.emb (ix3 0 i k) = ix3 (batchOf t) (tokOf t i) k := by
  funext d
  refine Fin.ext ?_
  blk_simp [index13]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 512 + k.val = k.val; omega

/-- Which block window 14 is. -/
theorem index14 : ∀ t : Fin cfg0.N, win0_14.index t = ![(grid0.coords t 0).val, (grid0.coords t 1).val, 0] :=
  (by decide +kernel : ∀ t : Fin grid0.N, win0_14.index t = ![(grid0.coords t 0).val, (grid0.coords t 1).val, 0])

/-- Where window 14's block lies. -/
theorem emb14 (t : Fin cfg0.N) (i : Fin 1024) (k : Fin 512) :
    (win0_14.blk t).view.emb (ix3 0 i k) = ix3 (batchOf t) (tokOf t i) k := by
  funext d
  refine Fin.ext ?_
  blk_simp [index14]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 512 + k.val = k.val; omega

/-- Which block window 15 is. -/
theorem index15 : ∀ t : Fin cfg0.N, win0_15.index t = ![(grid0.coords t 0).val, (grid0.coords t 1).val, 0] :=
  (by decide +kernel : ∀ t : Fin grid0.N, win0_15.index t = ![(grid0.coords t 0).val, (grid0.coords t 1).val, 0])

/-- Where window 15's block lies. -/
theorem emb15 (t : Fin cfg0.N) (i : Fin 1024) (k : Fin 512) :
    (win0_15.blk t).view.emb (ix3 0 i k) = ix3 (batchOf t) (tokOf t i) k := by
  funext d
  refine Fin.ext ?_
  blk_simp [index15]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 512 + k.val = k.val; omega

/-- Which block window 22 is. -/
theorem index22 : ∀ t : Fin cfg0.N, win0_22.index t = ![(grid0.coords t 0).val, (grid0.coords t 1).val, 0] :=
  (by decide +kernel : ∀ t : Fin grid0.N, win0_22.index t = ![(grid0.coords t 0).val, (grid0.coords t 1).val, 0])

/-- Where window 22's block lies. -/
theorem emb22 (t : Fin cfg0.N) (i : Fin 1024) (k : Fin 256) :
    (win0_22.blk t).view.emb (ix3 0 i k) = ix3 (batchOf t) (tokOf t i) k := by
  funext d
  refine Fin.ext ?_
  blk_simp [index22]
  match d with
  | ⟨0, _⟩ => show (grid0.coords t 0).val * 1 + 0 = (grid0.coords t 0).val; omega
  | ⟨1, _⟩ => show (grid0.coords t 1).val * 1024 + i.val = 1024 * (grid0.coords t 1).val + i.val; omega
  | ⟨2, _⟩ => show 0 * 256 + k.val = k.val; omega

/-- Which block the modulation is. -/
theorem index1 : ∀ t : Fin cfg0.N, win0_1.index t = ![(grid0.coords t 0).val, 0, 0] :=
  (by decide +kernel : ∀ t : Fin grid0.N, win0_1.index t = ![(grid0.coords t 0).val, 0, 0])

/-- Where the modulation's block lies. -/
theorem emb1 (t : Fin cfg0.N) (r : Fin 6) (k : Fin 1024) :
    (win0_1.blk t).view.emb (ix3 0 r k) = ix3 (batchOf t) r k := by
  funext d
  refine Fin.ext ?_
  blk_simp [index1]
  match d with
  | ⟨0, _⟩ => show (grid0.coords t 0).val * 1 + 0 = (grid0.coords t 0).val; omega
  | ⟨1, _⟩ => show 0 * 6 + r.val = r.val; omega
  | ⟨2, _⟩ => show 0 * 1024 + k.val = k.val; omega

/-- Window 2 is one block. -/
theorem index2 : ∀ t : Fin cfg0.N, win0_2.index t = ![0, 0] :=
  (by decide +kernel : ∀ t : Fin grid0.N, win0_2.index t = ![0, 0])

/-- Window 2's block is its array. -/
theorem emb2 (t : Fin cfg0.N) (k : Fin 1) (j : Fin 1024) : (win0_2.blk t).view.emb (ix2 k j) = ix2 k j := by
  funext d
  refine Fin.ext ?_
  blk_simp [index2]
  match d with
  | ⟨0, _⟩ => show 0 * 1 + k.val = k.val; omega
  | ⟨1, _⟩ => show 0 * 1024 + j.val = j.val; omega

/-- Window 4 is one block. -/
theorem index4 : ∀ t : Fin cfg0.N, win0_4.index t = ![0, 0] :=
  (by decide +kernel : ∀ t : Fin grid0.N, win0_4.index t = ![0, 0])

/-- Window 4's block is its array. -/
theorem emb4 (t : Fin cfg0.N) (k : Fin 4) (j : Fin 256) : (win0_4.blk t).view.emb (ix2 k j) = ix2 k j := by
  funext d
  refine Fin.ext ?_
  blk_simp [index4]
  match d with
  | ⟨0, _⟩ => show 0 * 4 + k.val = k.val; omega
  | ⟨1, _⟩ => show 0 * 256 + j.val = j.val; omega

/-- Window 5 is one block. -/
theorem index5 : ∀ t : Fin cfg0.N, win0_5.index t = ![0, 0] :=
  (by decide +kernel : ∀ t : Fin grid0.N, win0_5.index t = ![0, 0])

/-- Window 5's block is its array. -/
theorem emb5 (t : Fin cfg0.N) (k : Fin 256) (j : Fin 256) : (win0_5.blk t).view.emb (ix2 k j) = ix2 k j := by
  funext d
  refine Fin.ext ?_
  blk_simp [index5]
  match d with
  | ⟨0, _⟩ => show 0 * 256 + k.val = k.val; omega
  | ⟨1, _⟩ => show 0 * 256 + j.val = j.val; omega

/-- The weights' window is one block. -/
theorem index3 : ∀ t : Fin cfg0.N, win0_3.index t = ![0, 0] :=
  (by decide +kernel : ∀ t : Fin grid0.N, win0_3.index t = ![0, 0])

section Blocks

variable (m : (ℓ : Loc nD τ sig) → Buf (Elt Ideal) ℓ) (c : Dev nD)

/-- The arguments that the projections read. -/
abbrev args : Args where
  x := m (c.tc.loc main_arg0)
  md := m (c.tc.loc main_arg1)
  g := m (c.tc.loc main_arg2)
  w := m (c.tc.loc main_arg3)

/-- The rows' block. -/
theorem blk0 (t : Fin cfg0.N) (i : Fin 1024) (k : Fin 1024) :
    (iblk m c 0 t (ix3 0 i k) : EReal) = (args m c).x (ix3 (batchOf t) (tokOf t i) k) := by
  rw [← emb0]
  exact congrFun (Vx m c) _

/-- The modulation's block. -/
theorem blk1 (t : Fin cfg0.N) (r : Fin 6) (k : Fin 1024) :
    (iblk m c 1 t (ix3 0 r k) : EReal) = (args m c).md (ix2 (batchOf t) ⟨1024 * r.val + k.val, by omega⟩) := by
  refine Eq.trans ?_ (Vmod m c (batchOf t) r k)
  rw [← emb1 t r k]; rfl

/-- The norm's gain's block. -/
theorem blk2 (t : Fin cfg0.N) (k : Fin 1024) : (iblk m c 2 t (ix2 0 k) : EReal) = (args m c).g (ix1 k) := by
  exact Eq.trans (congrArg (V m c main_v29 : S1x1024.Idx → EReal) (emb2 t 0 k)) (Vgain m c k)

/-- The weights' block: the first 3840 columns. -/
theorem blk3 (t : Fin cfg0.N) (k : Fin 1024) (j : Fin 3840) :
    (X0_3 m c t (ix2 k j) : EReal) = (args m c).w (ix2 k ⟨j.val, by omega⟩) := by
  unfold X0_3 Window.fill
  rw [dif_pos (moved0_3 t _)]
  refine Eq.trans (congrFun (Vw m c) _) (congrArg (args m c).w (funext fun d => Fin.ext ?_))
  blk_simp [index3]
  have key : ∀ d : Fin 2, ![0, 0] d * win0_3.size d + (ix2 k j d).val
      = (ix2 (n0 := 1024) (n1 := 5888) k ⟨j.val, by omega⟩ d).val := fun
    | 0 => by show 0 * _ + k.val = k.val; rw [Nat.zero_mul, Nat.zero_add]
    | 1 => by show 0 * _ + j.val = j.val; rw [Nat.zero_mul, Nat.zero_add]
  exact key d

/-- The gains' block. -/
theorem blk4 (t : Fin cfg0.N) (r : Fin 4) (g : FVec Ideal S64 .f32)
    (hg : g = ![(m (c.tc.loc main_arg4) : FVec Ideal S64 .f32), m (c.tc.loc main_arg5), m (c.tc.loc main_arg6), m (c.tc.loc main_arg7)] r)
    (j : Fin 256) : (iblk m c 4 t (ix2 r j) : EReal) = g (ix1 ⟨j.val % 64, by omega⟩) := by
  exact Eq.trans (congrArg (V m c main_v16 : S4x256.Idx → EReal) (emb4 t r j)) (gain_apply m c r g hg j)

/-- The means' matrix. -/
theorem blk5 (t : Fin cfg0.N) (k j : Fin 256) : (iblk m c 5 t (ix2 k j) : EReal)
    = if k.val / 64 = j.val / 64 then Ideal.ofBits .f32 0x3C800000#32 else 0 := by
  exact Eq.trans (congrArg (V m c main_v27 : S256x256.Idx → EReal) (emb5 t k j)) (ones_apply m c k j)

/-- The modulated rows of a grid point are the arguments'. -/
theorem hrow_eq (t : Fin cfg0.N) (i : Fin 1024) :
    hrow (iblk m c 0 t) (iblk m c 1 t) (iblk m c 2 t) i = (args m c).h (batchOf t) (tokOf t i) := by
  unfold hrow Args.h
  refine congr (congr (congr (congrArg norm (funext fun k => ?_)) (funext fun k => ?_)) (funext fun k => ?_)) (funext fun k => ?_)
  · refine (blk1 m c t 0 k).trans (congrArg (fun r => (args m c).md (ix2 (batchOf t) r)) (Fin.ext ?_))
    show 1024 * 0 + k.val = k.val
    omega
  · exact blk1 m c t 1 k
  · exact blk0 m c t i k
  · exact blk2 m c t k

/-- A product with a grid point's weights is a projection. -/
theorem proj_eq (t : Fin cfg0.N) (i : Fin 1024) (p : Fin 3840) (q : Fin 5888) (h : p.val = q.val) :
    (dot (hrow (iblk m c 0 t) (iblk m c 1 t) (iblk m c 2 t) i) fun k => X0_3 m c t (ix2 k p))
      = (args m c).proj (batchOf t) (tokOf t i) q := by
  rw [hrow_eq]
  unfold Args.proj
  refine congrArg (dot _) (funext fun k => (blk3 m c t k p).trans (congrArg (fun r => (args m c).w (ix2 k r)) (Fin.ext h)))

end Blocks

end Cert.QkvArrays
-- ==== Proof.QkvRun.lean ====
module

public import proofs.«01_k».proof.Proof.QkvBlock
public import proofs.«01_k».proof.Proof.Gen.QkvIdeal.Frame.RunA

/-! The blocks that a grid point of the projections leaves: its run's stores are the tiles of QkvBlock.lean. -/

@[expose] public section

set_option maxRecDepth 16384

noncomputable section

namespace Cert.QkvBlock

open Idealize.ShloMosaic hiding ix1 ix2 ix3
open Idealize.ShloMosaic.ValueIdx Cert.QkvIdeal Cert.QkvIdeal.Gen Cert.QkvTile

variable {F : FTy → Type} [FloatOps F]
variable (c : Dev nD) (i : grid0.Coords)
variable
  (arg2 : Memref sig .tc .vmem S1x1024x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1024x3840 .bf16) (harg5 : arg5.IsWhole)
  (arg6 : Memref sig .tc .vmem S4x256 .f32) (harg6 : arg6.IsWhole)
  (arg7 : Memref sig .tc .vmem S256x256 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S32x1024 .f32) (harg10 : arg10.IsWhole)
  (arg11 : Memref sig .tc .vmem S16x1024 .f32) (harg11 : arg11.IsWhole)
  (arg12 : Memref sig .tc .vmem S64x1024 .f32) (harg12 : arg12.IsWhole)
  (arg13 : Memref sig .tc .vmem S64x5632 .f32) (harg13 : arg13.IsWhole)
  (arg14 : Memref sig .tc .vmem S176x1024 .f32) (harg14 : arg14.IsWhole)
  (arg15 : Memref sig .tc .vmem S1x1024x512 .bf16) (harg15 : arg15.IsWhole)
  (arg16 : Memref sig .tc .vmem S1x1024x512 .bf16) (harg16 : arg16.IsWhole)
  (arg17 : Memref sig .tc .vmem S1x1024x512 .bf16) (harg17 : arg17.IsWhole)
  (arg18 : Memref sig .tc .vmem S1x1024x256 .bf16) (harg18 : arg18.IsWhole)
  (arg19 : Memref sig .tc .vmem S1x1024x256 .bf16) (harg19 : arg19.IsWhole)
  (arg20 : Memref sig .tc .vmem S1x1024x256 .bf16) (harg20 : arg20.IsWhole)
  (arg21 : Memref sig .tc .vmem S1x1024x256 .bf16) (harg21 : arg21.IsWhole)
  (arg22 : Memref sig .tc .vmem S1x1024x256 .bf16) (harg22 : arg22.IsWhole)
  (arg23 : Memref sig .tc .vmem S1x1024x256 .bf16) (harg23 : arg23.IsWhole)
  (arg24 : Memref sig .tc .vmem S1x1024x256 .bf16) (harg24 : arg24.IsWhole)
  (arg25 : Memref sig .tc .vmem S1x1024x256 .bf16) (harg25 : arg25.IsWhole)
  (arg26 : Memref sig .tc .vmem S1x1024x256 .bf16) (harg26 : arg26.IsWhole)
  (arg27 : Memref sig .tc .vmem S32x1024 .bf16) (harg27 : arg27.IsWhole)
  (arg28 : Memref sig .tc .vmem S16x1024 .bf16) (harg28 : arg28.IsWhole)
  (arg29 : Memref sig .tc .vmem S64x1024 .bf16) (harg29 : arg29.IsWhole)
  (arg30 : Memref sig .tc .vmem S64x5632 .bf16) (harg30 : arg30.IsWhole)
  (arg31 : Memref sig .tc .vmem S176x1024 .bf16) (harg31 : arg31.IsWhole)
  (arg32 : Memref sig .tc .vmem S1024x1024 .bf16) (harg32 : arg32.IsWhole)
  (arg33 : Memref sig .tc .vmem S2x2x1024x128 .f32) (harg33 : arg33.IsWhole)
  (arg34 : Memref sig .tc .vmem S2x1024x128 .f32) (harg34 : arg34.IsWhole)
variable
  (x0 : Vec F S1x1024x1024 .f32)
  (x1 : Vec F S1x6x1024 .f32)
  (x2 : Vec F S1x1024 .f32)
  (x3 : Vec F S1024x3840 .bf16)
  (x4 : Vec F S4x256 .f32)
  (x5 : Vec F S256x256 .bf16)
  (x6 : Vec F S1024x128 .f32)
  (x7 : Vec F S1024x128 .f32)
  (x8 : Vec F S32x1024 .f32)
  (x9 : Vec F S16x1024 .f32)
  (x10 : Vec F S64x1024 .f32)
  (x11 : Vec F S64x5632 .f32)
  (x12 : Vec F S176x1024 .f32)

/-- Zero on two axes. -/
theorem at2 : ∀ d, (![0, 0] : Fin 2 → Nat) d = 0 := by decide

/-- Zero on three axes. -/
theorem at3' : ∀ d, (![0, 0, 0] : Fin 3 → Nat) d = 0 := by decide

/-- The rows that the scratch holds. -/
theorem scratch_eq : kernelRun0_A.sl.HS0_1 c arg2 harg2 arg3 harg3 arg4 harg4 x0 x1 x2
    = [⟨Rect.unit ![0, 0] S1024x1024.size inb_S1024x1024_S1024x1024_0_0, rows x0 x2 x1⟩] := by
  unfold kernelRun0_A.sl.HS0_1 kernelRun0_A.sl.r kernelRun0_A.sl.r_1 kernelRun0_A.sl.r_2 kernelRun0_A.sl.r_3 kernelRun0_A.sl.r_4
  rw [load_whole arg2 harg2 x0 at3', load_whole arg3 harg3 x1 at3', load_whole arg4 harg4 x2 at2]
  rfl

/-- The first half of the rows, loaded back. -/
theorem v64_eq : kernelRun0_A.sl.v64 c arg2 harg2 arg3 harg3 arg4 harg4 arg32 x0 x1 x2 = View.ld (rows x0 x2 x1) (hRect 0) := by
  unfold kernelRun0_A.sl.v64
  rw [scratch_eq]
  exact load_filled arg32 (rows x0 x2 x1) (hRect 0) at2 _

/-- The second half of the rows, loaded back. -/
theorem v86_eq : kernelRun0_A.sl.v86 c arg2 harg2 arg3 harg3 arg4 harg4 arg32 x0 x1 x2 = View.ld (rows x0 x2 x1) (hRect 1) := by
  unfold kernelRun0_A.sl.v86
  rw [scratch_eq]
  exact load_filled arg32 (rows x0 x2 x1) (hRect 1) at2 _

/-- Both halves of the rows, loaded back. -/
def back : Fin 2 → Vec F S512x1024 .bf16
  | 0 => kernelRun0_A.sl.v64 c arg2 harg2 arg3 harg3 arg4 harg4 arg32 x0 x1 x2
  | 1 => kernelRun0_A.sl.v86 c arg2 harg2 arg3 harg3 arg4 harg4 arg32 x0 x1 x2

/-- Both halves of the rows. -/
theorem back_eq (a : Fin 2) : back c arg2 harg2 arg3 harg3 arg4 harg4 arg32 x0 x1 x2 a = View.ld (rows x0 x2 x1) (hRect a) := by
  match a with
  | 0 => exact v64_eq c arg2 harg2 arg3 harg3 arg4 harg4 arg32 x0 x1 x2
  | 1 => exact v86_eq c arg2 harg2 arg3 harg3 arg4 harg4 arg32 x0 x1 x2

/-- A pair's columns as the run takes them. -/
theorem run_cols (n : Fin 7) (a : Fin 2) :
    wide (back c arg2 harg2 arg3 harg3 arg4 harg4 arg32 x0 x1 x2 a) (View.readAt (Elt F) arg5.view (wRect n).toLoadRect (harg5.unread x3)) = cols (rows x0 x2 x1) x3 n a := by
  unfold cols
  rw [back_eq, load_part]

/-- The normed tiles of pair `n` with gain `r`. -/
def normedT (n : Fin 7) (r : Fin 4) (a b : Fin 2) : FVec F S1x512x256 .bf16 :=
  stored (normTile (pick (cols (rows x0 x2 x1) x3 n a) b) x5 (View.ld x4 (gRect r)))

/-- The plain tiles of pair `n`. -/
def plainT (n : Fin 7) (a b : Fin 2) : FVec F S1x512x256 .bf16 := stored (pick (cols (rows x0 x2 x1) x3 n a) b)

/-- The normed tiles of pair `n` with gain `r` as the run takes them. -/
def normedR (n : Fin 7) (r : Fin 4) (a b : Fin 2) : FVec F S1x512x256 .bf16 :=
  stored (normTile (pick (wide (back c arg2 harg2 arg3 harg3 arg4 harg4 arg32 x0 x1 x2 a) (View.readAt (Elt F) arg5.view (wRect n).toLoadRect (harg5.unread x3))) b)
    (View.readAt (Elt F) arg7.view (Rect.unit ![0, 0] S256x256.size inb_S256x256_S256x256_0_0).toLoadRect (harg7.unread x5))
    (View.readAt (Elt F) arg6.view (gRect r).toLoadRect (harg6.unread x4)))

/-- The plain tiles of pair `n` as the run takes them. -/
def plainR (n : Fin 7) (a b : Fin 2) : FVec F S1x512x256 .bf16 :=
  stored (pick (wide (back c arg2 harg2 arg3 harg3 arg4 harg4 arg32 x0 x1 x2 a) (View.readAt (Elt F) arg5.view (wRect n).toLoadRect (harg5.unread x3))) b)

/-- The run's normed tiles are those of the blocks. -/
theorem normedR_eq (n : Fin 7) (r : Fin 4) (a b : Fin 2) :
    normedR c arg2 harg2 arg3 harg3 arg4 harg4 arg5 harg5 arg6 harg6 arg7 harg7 arg32 x0 x1 x2 x3 x4 x5 n r a b = normedT x0 x1 x2 x3 x4 x5 n r a b := by
  unfold normedR normedT
  rw [run_cols, load_part arg6, load_whole arg7 harg7 x5 at2]

/-- The run's plain tiles are those of the blocks. -/
theorem plainR_eq (n : Fin 7) (a b : Fin 2) :
    plainR c arg2 harg2 arg3 harg3 arg4 harg4 arg5 harg5 arg32 x0 x1 x2 x3 n a b = plainT x0 x1 x2 x3 n a b := by
  unfold plainR plainT
  rw [run_cols]

set_option maxHeartbeats 4000000 in
/-- The stores of the queries. -/
theorem run_13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).1
    = pieces4 fun a b => normedT x0 x1 x2 x3 x4 x5 0 0 a b := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).1
      = pieces4 fun a b => normedR c arg2 harg2 arg3 harg3 arg4 harg4 arg5 harg5 arg6 harg6 arg7 harg7 arg32 x0 x1 x2 x3 x4 x5 0 0 a b := rfl
  rw [e]
  exact congrArg pieces4 (funext fun a => funext fun b => normedR_eq c arg2 harg2 arg3 harg3 arg4 harg4 arg5 harg5 arg6 harg6 arg7 harg7 arg32 x0 x1 x2 x3 x4 x5 0 0 a b)

set_option maxHeartbeats 4000000 in
/-- The stores of the keys. -/
theorem run_14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.1
    = pieces4 fun a b => normedT x0 x1 x2 x3 x4 x5 1 1 a b := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.1
      = pieces4 fun a b => normedR c arg2 harg2 arg3 harg3 arg4 harg4 arg5 harg5 arg6 harg6 arg7 harg7 arg32 x0 x1 x2 x3 x4 x5 1 1 a b := rfl
  rw [e]
  exact congrArg pieces4 (funext fun a => funext fun b => normedR_eq c arg2 harg2 arg3 harg3 arg4 harg4 arg5 harg5 arg6 harg6 arg7 harg7 arg32 x0 x1 x2 x3 x4 x5 1 1 a b)

set_option maxHeartbeats 4000000 in
/-- The stores of the values. -/
theorem run_15 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.1
    = pieces4 fun a b => plainT x0 x1 x2 x3 2 a b := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.1
      = pieces4 fun a b => plainR c arg2 harg2 arg3 harg3 arg4 harg4 arg5 harg5 arg32 x0 x1 x2 x3 2 a b := rfl
  rw [e]
  exact congrArg pieces4 (funext fun a => funext fun b => plainR_eq c arg2 harg2 arg3 harg3 arg4 harg4 arg5 harg5 arg32 x0 x1 x2 x3 2 a b)

set_option maxHeartbeats 4000000 in
/-- The stores of the first dilated group's values. -/
theorem run_22 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.1
    = pieces2 fun a => plainT x0 x1 x2 x3 6 a 0 := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12).2.2.2.2.2.2.2.2.2.1
      = pieces2 fun a => plainR c arg2 harg2 arg3 harg3 arg4 harg4 arg5 harg5 arg32 x0 x1 x2 x3 6 a 0 := rfl
  rw [e]
  exact congrArg pieces2 (funext fun a => plainR_eq c arg2 harg2 arg3 harg3 arg4 harg4 arg5 harg5 arg32 x0 x1 x2 x3 6 a 0)

end Cert.QkvBlock
-- ==== Proof.QkvValue.lean ====
module

public import proofs.«01_k».proof.Proof.QkvInputs
public import proofs.«01_k».proof.Proof.QkvRun

/-! The tiles of a grid point of the projections, as parts of the formula of QkvSpec.lean over the arguments. -/

@[expose] public section

set_option maxRecDepth 16384

noncomputable section

namespace Cert.QkvArrays

open Idealize.ShloMosaic hiding ix1 ix2 ix3
open Idealize.ShloMosaic.Pipeline Idealize.ShloMosaic.ValueIdx Idealize.SL.Sem Cert.QkvIdeal Cert.QkvIdeal.Gen Cert.QkvBlock
open Cert.TailSpec Cert.QkvSpec Cert.QkvHost

section Blocks
variable (m : (ℓ : Loc nD τ sig) → Buf (Elt Ideal) ℓ) (c : Dev nD)

/-- A normed tile of a grid point is a part of the formula. -/
theorem normed_blk (t : Fin cfg0.N) (n : Fin 7) (r : Fin 4) (ho : 512 * n.val + 512 ≤ 5888) (g : FVec Ideal S64 .f32)
    (hg : g = ![(m (c.tc.loc main_arg4) : FVec Ideal S64 .f32), m (c.tc.loc main_arg5), m (c.tc.loc main_arg6), m (c.tc.loc main_arg7)] r)
    (a b : Fin 2) (s : Fin 512) (j : Fin 256) :
    (normedT (iblk m c 0 t) (iblk m c 1 t) (iblk m c 2 t) (X0_3 m c t) (iblk m c 4 t) (iblk m c 5 t) n r a b (ix3 0 s j) : EReal)
      = (args m c).normed (512 * n.val) ho g (batchOf t) (tokOf t (tok a s)) (col b j) := by
  unfold normedT
  refine (normed_apply _ _ _ _ _ _ n r a b s j (blk5 m c t) (fun l => g (ix1 l)) (blk4 m c t r g hg)).trans ?_
  unfold Args.normed
  exact congrArg (fun f => head f _ _) (funext fun l => proj_eq m c t _ _ _ rfl)

/-- A plain tile of a grid point is a part of the formula. -/
theorem plain_blk (t : Fin cfg0.N) (n : Fin 7) (a b : Fin 2) (s : Fin 512) (j : Fin 256) (q : Fin 5888)
    (h : 512 * n.val + (col b j).val = q.val) :
    (plainT (iblk m c 0 t) (iblk m c 1 t) (iblk m c 2 t) (X0_3 m c t) n a b (ix3 0 s j) : EReal)
      = (args m c).proj (batchOf t) (tokOf t (tok a s)) q := by
  unfold plainT
  exact (plain_apply _ _ _ _ n a b s j).trans (proj_eq m c t _ _ _ h)

end Blocks

end Cert.QkvArrays
-- ==== Proof.QkvPoint.lean ====
module

public import proofs.«01_k».proof.Proof.QkvRun
public import proofs.«01_k».proof.Proof.QkvFrameIdeal

/-! The blocks that a grid point of the projections leaves, tile by tile. -/

@[expose] public section

set_option maxRecDepth 16384

noncomputable section

namespace Cert.QkvBlock

open Idealize.ShloMosaic hiding ix1 ix2 ix3
open Idealize.ShloMosaic.ValueIdx Cert.QkvIdeal Cert.QkvIdeal.Gen Cert.QkvIdeal.Whole Cert.QkvTile

variable {F : FTy → Type} [FloatOps F]
variable (c : Dev nD) (i : grid0.Coords)
variable
  (arg2 : Memref sig .tc .vmem S1x1024x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1024x3840 .bf16) (harg5 : arg5.IsWhole)
  (arg6 : Memref sig .tc .vmem S4x256 .f32) (harg6 : arg6.IsWhole)
  (arg7 : Memref sig .tc .vmem S256x256 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S32x1024 .f32) (harg10 : arg10.IsWhole)
  (arg11 : Memref sig .tc .vmem S16x1024 .f32) (harg11 : arg11.IsWhole)
  (arg12 : Memref sig .tc .vmem S64x1024 .f32) (harg12 : arg12.IsWhole)
  (arg13 : Memref sig .tc .vmem S64x5632 .f32) (harg13 : arg13.IsWhole)
  (arg14 : Memref sig .tc .vmem S176x1024 .f32) (harg14 : arg14.IsWhole)
  (arg15 : Memref sig .tc .vmem S1x1024x512 .bf16) (harg15 : arg15.IsWhole)
  (arg16 : Memref sig .tc .vmem S1x1024x512 .bf16) (harg16 : arg16.IsWhole)
  (arg17 : Memref sig .tc .vmem S1x1024x512 .bf16) (harg17 : arg17.IsWhole)
  (arg18 : Memref sig .tc .vmem S1x1024x256 .bf16) (harg18 : arg18.IsWhole)
  (arg19 : Memref sig .tc .vmem S1x1024x256 .bf16) (harg19 : arg19.IsWhole)
  (arg20 : Memref sig .tc .vmem S1x1024x256 .bf16) (harg20 : arg20.IsWhole)
  (arg21 : Memref sig .tc .vmem S1x1024x256 .bf16) (harg21 : arg21.IsWhole)
  (arg22 : Memref sig .tc .vmem S1x1024x256 .bf16) (harg22 : arg22.IsWhole)
  (arg23 : Memref sig .tc .vmem S1x1024x256 .bf16) (harg23 : arg23.IsWhole)
  (arg24 : Memref sig .tc .vmem S1x1024x256 .bf16) (harg24 : arg24.IsWhole)
  (arg25 : Memref sig .tc .vmem S1x1024x256 .bf16) (harg25 : arg25.IsWhole)
  (arg26 : Memref sig .tc .vmem S1x1024x256 .bf16) (harg26 : arg26.IsWhole)
  (arg27 : Memref sig .tc .vmem S32x1024 .bf16) (harg27 : arg27.IsWhole)
  (arg28 : Memref sig .tc .vmem S16x1024 .bf16) (harg28 : arg28.IsWhole)
  (arg29 : Memref sig .tc .vmem S64x1024 .bf16) (harg29 : arg29.IsWhole)
  (arg30 : Memref sig .tc .vmem S64x5632 .bf16) (harg30 : arg30.IsWhole)
  (arg31 : Memref sig .tc .vmem S176x1024 .bf16) (harg31 : arg31.IsWhole)
  (arg32 : Memref sig .tc .vmem S1024x1024 .bf16) (harg32 : arg32.IsWhole)
  (arg33 : Memref sig .tc .vmem S2x2x1024x128 .f32) (harg33 : arg33.IsWhole)
  (arg34 : Memref sig .tc .vmem S2x1024x128 .f32) (harg34 : arg34.IsWhole)
variable
  (x0 : Vec F S1x1024x1024 .f32)
  (x1 : Vec F S1x6x1024 .f32)
  (x2 : Vec F S1x1024 .f32)
  (x3 : Vec F S1024x3840 .bf16)
  (x4 : Vec F S4x256 .f32)
  (x5 : Vec F S256x256 .bf16)
  (x6 : Vec F S1024x128 .f32)
  (x7 : Vec F S1024x128 .f32)
  (x8 : Vec F S32x1024 .f32)
  (x9 : Vec F S16x1024 .f32)
  (x10 : Vec F S64x1024 .f32)
  (x11 : Vec F S64x5632 .f32)
  (x12 : Vec F S176x1024 .f32)

/-- The block of the queries. -/
theorem out_13 (a b : Fin 2) (s : Fin 512) (j : Fin 256) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 (ix3 0 (tok a s) (col b j))
      = normedT x0 x1 x2 x3 x4 x5 0 0 a b (ix3 0 s j) := by
  have hc := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12
  unfold out0_A_13
  rw [View.read_writes_eq_canon _ _ _ hc]
  rw [run_13] at hc ⊢
  exact canon4 _ hc a b s j

/-- The block of the keys. -/
theorem out_14 (a b : Fin 2) (s : Fin 512) (j : Fin 256) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 (ix3 0 (tok a s) (col b j))
      = normedT x0 x1 x2 x3 x4 x5 1 1 a b (ix3 0 s j) := by
  have hc := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12
  unfold out0_A_14
  rw [View.read_writes_eq_canon _ _ _ hc]
  rw [run_14] at hc ⊢
  exact canon4 _ hc a b s j

/-- The block of the values. -/
theorem out_15 (a b : Fin 2) (s : Fin 512) (j : Fin 256) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 (ix3 0 (tok a s) (col b j))
      = plainT x0 x1 x2 x3 2 a b (ix3 0 s j) := by
  have hc := cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12
  unfold out0_A_15
  rw [View.read_writes_eq_canon _ _ _ hc]
  rw [run_15] at hc ⊢
  exact canon4 _ hc a b s j

/-- The block of the first dilated group's values. -/
theorem out_22 (a : Fin 2) (s : Fin 512) (j : Fin 256) :
    out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 (ix3 0 (tok a s) j)
      = plainT x0 x1 x2 x3 6 a 0 (ix3 0 s j) := by
  have hc := cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12
  unfold out0_A_22
  rw [View.read_writes_eq_canon _ _ _ hc]
  rw [run_22] at hc ⊢
  exact canon2 _ hc a s j

end Cert.QkvBlock
-- ==== Proof.QkvArrays.lean ====
module

public import proofs.«01_k».proof.Proof.QkvValue
public import proofs.«01_k».proof.Proof.QkvPoint
public import proofs.«01_k».proof.Proof.QkvFrameIdeal

/-! What the projections' result arrays hold, as the formula of QkvSpec.lean over the arguments. -/

@[expose] public section

set_option maxRecDepth 16384

noncomputable section

namespace Cert.QkvArrays

open Idealize.ShloMosaic hiding ix1 ix2 ix3
open Idealize.ShloMosaic.Pipeline Idealize.ShloMosaic.ValueIdx Idealize.SL.Sem Cert.QkvIdeal Cert.QkvIdeal.Gen Cert.QkvIdeal.Whole
open Cert.QkvBlock Cert.TailSpec Cert.QkvSpec Cert.QkvHost

section Blocks
variable (m : (ℓ : Loc nD τ sig) → Buf (Elt Ideal) ℓ) (c : Dev nD)

/-- An index of a block of 512 columns, by tile. -/
theorem by_tile (y : S1x1024x512.Idx) : ∃ (a b : Fin 2) (s : Fin 512) (j : Fin 256), y = ix3 0 (tok a s) (col b j) := by
  have h1 : (y 1).val < 1024 := (y 1).isLt
  have h2 : (y 2).val < 512 := (y 2).isLt
  refine ⟨⟨(y 1).val / 512, by omega⟩, ⟨(y 2).val / 256, by omega⟩, ⟨(y 1).val % 512, by omega⟩, ⟨(y 2).val % 256, by omega⟩,
    funext fun d => Fin.ext ?_⟩
  match d with
  | ⟨0, _⟩ => show (y 0).val = 0; have : (y 0).val < 1 := (y 0).isLt; omega
  | ⟨1, _⟩ => show (y 1).val = 512 * ((y 1).val / 512) + (y 1).val % 512; omega
  | ⟨2, _⟩ => show (y 2).val = 256 * ((y 2).val / 256) + (y 2).val % 256; omega

/-- An index of a block of 256 columns, by tile. -/
theorem by_half (y : S1x1024x256.Idx) : ∃ (a : Fin 2) (s : Fin 512) (j : Fin 256), y = ix3 0 (tok a s) j := by
  have h1 : (y 1).val < 1024 := (y 1).isLt
  refine ⟨⟨(y 1).val / 512, by omega⟩, ⟨(y 1).val % 512, by omega⟩, y 2, funext fun d => Fin.ext ?_⟩
  match d with
  | ⟨0, _⟩ => show (y 0).val = 0; have : (y 0).val < 1 := (y 0).isLt; omega
  | ⟨1, _⟩ => show (y 1).val = 512 * ((y 1).val / 512) + (y 1).val % 512; omega
  | ⟨2, _⟩ => rfl

/-- The queries that a grid point leaves. -/
theorem left_13 (t : Fin cfg0.N) (a b : Fin 2) (s : Fin 512) (j : Fin 256) :
    (outsAt0 m c t).1 (ix3 0 (tok a s) (col b j)) = normedT (iblk m c 0 t) (iblk m c 1 t) (iblk m c 2 t) (X0_3 m c t) (iblk m c 4 t) (iblk m c 5 t) 0 0 a b (ix3 0 s j) := by
  have e : (outsAt0 m c t).1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) := by
    unfold outsAt0
    dsimp only
  rw [e]
  exact out_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) a b s j

/-- The queries' array is the formula's. -/
theorem array_13 (G : S2x8192x512.Idx → EReal)
    (hG : ∀ b s p, G (ix3 b s p) = (args m c).normed 0 (by omega) (m (c.tc.loc main_arg4) : FVec Ideal S64 .f32) b s p) :
    (dats m 0 c).arrAt 13 cfg0.N = G := by
  refine (dats m 0 c).arrAt_eq_of_covers 13 G (by decide +kernel) fun t hf y => ?_
  blk_simp
  rw [after0_13]
  obtain ⟨a, b, s, j, rfl⟩ := by_tile y
  refine (left_13 m c t a b s j).trans ((normed_blk m c t 0 0 (by decide) (m (c.tc.loc main_arg4) : FVec Ideal S64 .f32) rfl a b s j).trans ((hG (batchOf t) (tokOf t (tok a s)) (col b j)).symm.trans ?_))
  exact congrArg G (emb13 t (tok a s) (col b j)).symm

/-- The keys that a grid point leaves. -/
theorem left_14 (t : Fin cfg0.N) (a b : Fin 2) (s : Fin 512) (j : Fin 256) :
    (outsAt0 m c t).2.1 (ix3 0 (tok a s) (col b j)) = normedT (iblk m c 0 t) (iblk m c 1 t) (iblk m c 2 t) (X0_3 m c t) (iblk m c 4 t) (iblk m c 5 t) 1 1 a b (ix3 0 s j) := by
  have e : (outsAt0 m c t).2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) := by
    unfold outsAt0
    dsimp only
  rw [e]
  exact out_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) a b s j

/-- The keys' array is the formula's. -/
theorem array_14 (G : S2x8192x512.Idx → EReal)
    (hG : ∀ b s p, G (ix3 b s p) = (args m c).normed 512 (by omega) (m (c.tc.loc main_arg5) : FVec Ideal S64 .f32) b s p) :
    (dats m 0 c).arrAt 14 cfg0.N = G := by
  refine (dats m 0 c).arrAt_eq_of_covers 14 G (by decide +kernel) fun t hf y => ?_
  blk_simp
  rw [after0_14]
  obtain ⟨a, b, s, j, rfl⟩ := by_tile y
  refine (left_14 m c t a b s j).trans ((normed_blk m c t 1 1 (by decide) (m (c.tc.loc main_arg5) : FVec Ideal S64 .f32) rfl a b s j).trans ((hG (batchOf t) (tokOf t (tok a s)) (col b j)).symm.trans ?_))
  exact congrArg G (emb14 t (tok a s) (col b j)).symm

/-- The values that a grid point leaves. -/
theorem left_15 (t : Fin cfg0.N) (a b : Fin 2) (s : Fin 512) (j : Fin 256) :
    (outsAt0 m c t).2.2.1 (ix3 0 (tok a s) (col b j)) = plainT (iblk m c 0 t) (iblk m c 1 t) (iblk m c 2 t) (X0_3 m c t) 2 a b (ix3 0 s j) := by
  have e : (outsAt0 m c t).2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) := by
    unfold outsAt0
    dsimp only
  rw [e]
  exact out_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) a b s j

/-- The values' array is the formula's. -/
theorem array_15 (G : S2x8192x512.Idx → EReal)
    (hG : ∀ b s p, G (ix3 b s p) = (args m c).plain 1024 512 (by omega) b s p) :
    (dats m 0 c).arrAt 15 cfg0.N = G := by
  refine (dats m 0 c).arrAt_eq_of_covers 15 G (by decide +kernel) fun t hf y => ?_
  blk_simp
  rw [after0_15]
  obtain ⟨a, b, s, j, rfl⟩ := by_tile y
  refine (left_15 m c t a b s j).trans ((plain_blk m c t 2 a b s j ⟨1024 + (col b j).val, by have := (col b j).isLt; omega⟩ rfl).trans ((hG (batchOf t) (tokOf t (tok a s)) (col b j)).symm.trans ?_))
  exact congrArg G (emb15 t (tok a s) (col b j)).symm

/-- The first dilated group's values that a grid point leaves. -/
theorem left_22 (t : Fin cfg0.N) (a : Fin 2) (s : Fin 512) (j : Fin 256) :
    (outsAt0 m c t).2.2.2.2.2.2.2.2.2.1 (ix3 0 (tok a s) j) = plainT (iblk m c 0 t) (iblk m c 1 t) (iblk m c 2 t) (X0_3 m c t) 6 a 0 (ix3 0 s j) := by
  have e : (outsAt0 m c t).2.2.2.2.2.2.2.2.2.1 = out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) := by
    unfold outsAt0
    dsimp only
  rw [e]
  exact out_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) a s j

/-- The first dilated group's values' array is the formula's. -/
theorem array_22 (G : S2x8192x256.Idx → EReal)
    (hG : ∀ b s p, G (ix3 b s p) = (args m c).plain 3072 256 (by omega) b s p) :
    (dats m 0 c).arrAt 22 cfg0.N = G := by
  refine (dats m 0 c).arrAt_eq_of_covers 22 G (by decide +kernel) fun t hf y => ?_
  blk_simp
  rw [after0_22]
  obtain ⟨a, s, j, rfl⟩ := by_half y
  refine (left_22 m c t a s j).trans ((plain_blk m c t 6 a 0 s j ⟨3072 + j.val, by have := j.isLt; omega⟩ (by show 3072 + (256 * 0 + j.val) = 3072 + j.val; omega)).trans ((hG (batchOf t) (tokOf t (tok a s)) j).symm.trans ?_))
  exact congrArg G (emb22 t (tok a s) j).symm

end Blocks

end Cert.QkvArrays
-- ==== Proof.QkvResults.lean ====
module

public import proofs.«01_k».proof.Proof.QkvArrays
public import proofs.«01_k».proof.Proof.QkvFrameIdealRun

/-! The run of the projections' program, with its results as the blocks' arrays. -/

@[expose] public section

set_option maxRecDepth 16384

noncomputable section

namespace Cert.QkvArrays

open Idealize.ShloMosaic
open Idealize.ShloMosaic.TcCoe Idealize.SL.Sem Cert.QkvIdeal Cert.QkvIdeal.Gen Cert.QkvIdeal.Whole

/-- The run's four result arrays, and its arguments unchanged. -/
theorem run_results (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c.tc : Thread nD τ).loc main_v59_0) = (dats m 0 c).arrAt 13 cfg0.N
        ∧ r.2.mem ((c.tc : Thread nD τ).loc main_v59_1) = (dats m 0 c).arrAt 14 cfg0.N
        ∧ r.2.mem ((c.tc : Thread nD τ).loc main_v59_2) = (dats m 0 c).arrAt 15 cfg0.N
        ∧ r.2.mem ((c.tc : Thread nD τ).loc main_v59_9) = (dats m 0 c).arrAt 22 cfg0.N)
      ∧ ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  θ_run_and ((θ_run defs _ _).mono (fun _ h c => ⟨(h c).1 13, (h c).1 14, (h c).1 15, (h c).1 22⟩) (run_main m ρ)) (unchanged m ρ)

end Cert.QkvArrays
-- ==== Proof.QkvRef.lean ====
module

public import proofs.«01_k».proof.Proof.QkvSpec
public import proofs.«01_k».proof.Proof.Consts
public import proofs.«01_k».proof.Proof.Gen.QkvReferenceIdeal.Read
public import Idealize.ShloMosaic.Lib.ValueIdx

/-! What the reference of the projections computes: at each index it is the row formula of QkvSpec.lean. -/

@[expose] public section

noncomputable section

namespace Cert.QkvRef

open Idealize.ShloMosaic Idealize.ShloMosaic.ValueIdx Cert.QkvReferenceIdeal Cert.QkvReferenceIdeal.Gen
  Cert.QkvReferenceIdeal.Read Cert.TailSpec Cert.QkvSpec

/-- Indices of rank 1 with equal coordinates. -/
theorem same1 {n : Fin 1 → Nat} {i j : (⟨1, n⟩ : Shape).Idx} (h0 : (i 0).val = (j 0).val) : i = j :=
  funext fun a => match a with
    | ⟨0, _⟩ => Fin.ext h0

/-- Indices of rank 2 with equal coordinates. -/
theorem same2 {n : Fin 2 → Nat} {i j : (⟨2, n⟩ : Shape).Idx} (h0 : (i 0).val = (j 0).val) (h1 : (i 1).val = (j 1).val) : i = j :=
  funext fun a => match a with
    | ⟨0, _⟩ => Fin.ext h0
    | ⟨1, _⟩ => Fin.ext h1

/-- Indices of rank 3 with equal coordinates. -/
theorem same3 {n : Fin 3 → Nat} {i j : (⟨3, n⟩ : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

variable (x0 : S2x8192x1024.Idx → EReal) (x1 : S2x6144.Idx → EReal) (x2 : S1024.Idx → EReal) (x3 : S1024x5888.Idx → EReal)
  (x4 x5 : S64.Idx → EReal) (b : Fin 2) (s : Fin 8192)

/-- The modulated row. -/
theorem h_apply (k : Fin 1024) : val_main_v30 (F := Ideal) x0 x1 x2 (ix3 b s k) = (Args.mk x0 x1 x2 x3).h b s k := by
  rw [val_main_v30_apply, val_main_v28_apply, val_main_v24_apply, val_main_v21_apply, val_main_v20_apply, val_main_v19_apply,
    val_main_v18_apply, val_main_v16_apply, val_main_v14_apply, val_main_v13_apply, val_main_v23_apply, val_main_v22_apply,
    val_main_v27_apply, val_main_v26_apply, val_main_v7_apply, val_main_v1_apply, val_main_v29_apply, val_main_v6_apply,
    val_main_v0_apply]
  refine congrArg₂ (· + ·) (congrArg₂ (· * ·) (congrArg₂ (· * ·) (congrArg (x0 (ix3 b s k) * ·) ?_) ?_) ?_) ?_
  · refine congrArg (fun z => Ideal.rsqrt (Ideal.div z _ + _)) ?_
    refine (congrArg (· + _) (Ideal.ofBits_zero_f32)).trans ((zero_add _).trans ?_)
    exact Finset.sum_congr rfl fun j _ => congrArg (fun z => x0 z * x0 z) (same3 rfl rfl rfl)
  · exact congrArg x2 (same1 rfl)
  · exact congrArg (fun z => one + x1 z) (same2 rfl rfl)
  · exact congrArg x1 (same2 rfl rfl)

/-- The whole projection. -/
theorem proj_apply (i : S2x8192x5888.Idx) (p : Fin 5888) (h0 : (i 0).val = b.val) (h1 : (i 1).val = s.val)
    (h2 : (i 2).val = p.val) :
    val_main_v31 (F := Ideal) x0 x1 x2 x3 i = (Args.mk x0 x1 x2 x3).proj b s p := by
  rw [val_main_v31_apply]
  refine Finset.sum_congr rfl fun k _ => congrArg₂ (· * ·) ?_ (congrArg x3 (same2 (i := ridx_main_v31 i k) (j := ix2 k p) rfl h2))
  exact (congrArg (val_main_v30 (F := Ideal) x0 x1 x2) (same3 (i := lidx_main_v31 i k) (j := ix3 b s k) h0 h1 rfl)).trans (h_apply x0 x1 x2 x3 b s k)

/-- The queries' columns, read as heads. -/
theorem q_apply (i : S2x8192x8x64.Idx) (p : Fin 512) (j : Fin 64) (h0 : (i 0).val = b.val) (h1 : (i 1).val = s.val)
    (h2 : (i 2).val = p.val / 64) (h3 : (i 3).val = j.val) :
    val_main_v39 (F := Ideal) x0 x1 x2 x3 i
      = (Args.mk x0 x1 x2 x3).proj b s ⟨0 + (p.val / 64 * 64 + j.val), by omega⟩ := by
  rw [val_main_v39_apply, val_main_v32_apply]
  refine proj_apply x0 x1 x2 x3 b s _ _ ?_ ?_ ?_
  · show ((((i 0).val * 8192 + (i 1).val) * 8 + (i 2).val) * 64 + (i 3).val) / 4194304 = b.val
    omega
  · show ((((i 0).val * 8192 + (i 1).val) * 8 + (i 2).val) * 64 + (i 3).val) / 512 % 8192 = s.val
    omega
  · show ((((i 0).val * 8192 + (i 1).val) * 8 + (i 2).val) * 64 + (i 3).val) % 512 = 0 + (p.val / 64 * 64 + j.val)
    omega

/-- The keys' columns, read as heads. -/
theorem k_apply (i : S2x8192x8x64.Idx) (p : Fin 512) (j : Fin 64) (h0 : (i 0).val = b.val) (h1 : (i 1).val = s.val)
    (h2 : (i 2).val = p.val / 64) (h3 : (i 3).val = j.val) :
    val_main_v54 (F := Ideal) x0 x1 x2 x3 i
      = (Args.mk x0 x1 x2 x3).proj b s ⟨512 + (p.val / 64 * 64 + j.val), by omega⟩ := by
  rw [val_main_v54_apply, val_main_v33_apply]
  refine proj_apply x0 x1 x2 x3 b s _ _ ?_ ?_ ?_
  · show ((((i 0).val * 8192 + (i 1).val) * 8 + (i 2).val) * 64 + (i 3).val) / 4194304 = b.val
    omega
  · show ((((i 0).val * 8192 + (i 1).val) * 8 + (i 2).val) * 64 + (i 3).val) / 512 % 8192 = s.val
    omega
  · show 512 + ((((i 0).val * 8192 + (i 1).val) * 8 + (i 2).val) * 64 + (i 3).val) % 512 = 512 + (p.val / 64 * 64 + j.val)
    omega

/-- The queries. -/
theorem qa_apply (p : Fin 512) : val_main_v72 (F := Ideal) x0 x1 x2 x3 x4 (ix3 b s p)
    = (Args.mk x0 x1 x2 x3).normed 0 (by omega) x4 b s p := by
  rw [val_main_v72_apply, val_main_v53_apply, val_main_v52_apply, val_main_v49_apply, val_main_v48_apply, val_main_v47_apply,
    val_main_v46_apply, val_main_v44_apply, val_main_v42_apply, val_main_v41_apply, val_main_v51_apply, val_main_v50_apply]
  have e0 : (idx_main_v53 (ix3 b s p) 0).val = b.val := by
    show ((b.val * 8192 + s.val) * 512 + p.val) / 4194304 = b.val
    omega
  have e1 : (idx_main_v53 (ix3 b s p) 1).val = s.val := by
    show ((b.val * 8192 + s.val) * 512 + p.val) / 512 % 8192 = s.val
    omega
  have e2 : (idx_main_v53 (ix3 b s p) 2).val = p.val / 64 := by
    show ((b.val * 8192 + s.val) * 512 + p.val) / 64 % 8 = p.val / 64
    omega
  have e3 : (idx_main_v53 (ix3 b s p) 3).val = p.val % 64 := by
    show ((b.val * 8192 + s.val) * 512 + p.val) % 64 = p.val % 64
    omega
  refine congrArg₂ (· * ·) (congrArg₂ (· * ·) (q_apply x0 x1 x2 x3 b s _ p ⟨p.val % 64, by omega⟩ e0 e1 e2 e3) ?_) ?_
  · refine congrArg (fun z => Ideal.rsqrt (Ideal.div z _ + _)) ?_
    refine (congrArg (· + _) (Ideal.ofBits_zero_f32)).trans ((zero_add _).trans ?_)
    refine Finset.sum_congr rfl fun j _ => ?_
    rw [val_main_v40_apply]
    exact congrArg (fun z : EReal => z * z) (q_apply x0 x1 x2 x3 b s (idx_main_v41 (idx_main_v42 (idx_main_v48 (idx_main_v53 (ix3 b s p)))) j) p j e0 e1 e2 rfl)
  · exact congrArg x4 (same1 e3)

/-- The keys. -/
theorem ka_apply (p : Fin 512) : val_main_v73 (F := Ideal) x0 x1 x2 x3 x5 (ix3 b s p)
    = (Args.mk x0 x1 x2 x3).normed 512 (by omega) x5 b s p := by
  rw [val_main_v73_apply, val_main_v68_apply, val_main_v67_apply, val_main_v64_apply, val_main_v63_apply, val_main_v62_apply,
    val_main_v61_apply, val_main_v59_apply, val_main_v57_apply, val_main_v56_apply, val_main_v66_apply, val_main_v65_apply]
  have e0 : (idx_main_v68 (ix3 b s p) 0).val = b.val := by
    show ((b.val * 8192 + s.val) * 512 + p.val) / 4194304 = b.val
    omega
  have e1 : (idx_main_v68 (ix3 b s p) 1).val = s.val := by
    show ((b.val * 8192 + s.val) * 512 + p.val) / 512 % 8192 = s.val
    omega
  have e2 : (idx_main_v68 (ix3 b s p) 2).val = p.val / 64 := by
    show ((b.val * 8192 + s.val) * 512 + p.val) / 64 % 8 = p.val / 64
    omega
  have e3 : (idx_main_v68 (ix3 b s p) 3).val = p.val % 64 := by
    show ((b.val * 8192 + s.val) * 512 + p.val) % 64 = p.val % 64
    omega
  refine congrArg₂ (· * ·) (congrArg₂ (· * ·) (k_apply x0 x1 x2 x3 b s _ p ⟨p.val % 64, by omega⟩ e0 e1 e2 e3) ?_) ?_
  · refine congrArg (fun z => Ideal.rsqrt (Ideal.div z _ + _)) ?_
    refine (congrArg (· + _) (Ideal.ofBits_zero_f32)).trans ((zero_add _).trans ?_)
    refine Finset.sum_congr rfl fun j _ => ?_
    rw [val_main_v55_apply]
    exact congrArg (fun z : EReal => z * z) (k_apply x0 x1 x2 x3 b s (idx_main_v56 (idx_main_v57 (idx_main_v63 (idx_main_v68 (ix3 b s p)))) j) p j e0 e1 e2 rfl)
  · exact congrArg x5 (same1 e3)

/-- The values. -/
theorem va_apply (p : Fin 512) : val_main_v74 (F := Ideal) x0 x1 x2 x3 (ix3 b s p)
    = (Args.mk x0 x1 x2 x3).plain 1024 512 (by omega) b s p := by
  rw [val_main_v74_apply, val_main_v34_apply]
  exact proj_apply x0 x1 x2 x3 b s _ _ rfl rfl rfl

/-- The values of the first dilated group. -/
theorem vb_apply (p : Fin 256) : val_main_v75 (F := Ideal) x0 x1 x2 x3 (ix3 b s p)
    = (Args.mk x0 x1 x2 x3).plain 3072 256 (by omega) b s p := by
  rw [val_main_v75_apply, val_main_v71_apply, val_main_v70_apply, val_main_v69_apply, val_main_v37_apply]
  refine proj_apply x0 x1 x2 x3 b s _ _ ?_ ?_ ?_
  · show ((((((b.val * 8192 + s.val) * 256 + p.val) / 2097152 * 8192 + ((b.val * 8192 + s.val) * 256 + p.val) / 256 % 8192) * 12
      + ((b.val * 8192 + s.val) * 256 + p.val) / 64 % 4) * 64 + ((b.val * 8192 + s.val) * 256 + p.val) % 64)) / 6291456 = b.val
    omega
  · show ((((((b.val * 8192 + s.val) * 256 + p.val) / 2097152 * 8192 + ((b.val * 8192 + s.val) * 256 + p.val) / 256 % 8192) * 12
      + ((b.val * 8192 + s.val) * 256 + p.val) / 64 % 4) * 64 + ((b.val * 8192 + s.val) * 256 + p.val) % 64)) / 768 % 8192 = s.val
    omega
  · show 3072 + ((((((b.val * 8192 + s.val) * 256 + p.val) / 2097152 * 8192 + ((b.val * 8192 + s.val) * 256 + p.val) / 256 % 8192) * 12
      + ((b.val * 8192 + s.val) * 256 + p.val) / 64 % 4) * 64 + ((b.val * 8192 + s.val) * 256 + p.val) % 64)) % 768 = 3072 + p.val
    omega

end Cert.QkvRef
-- ==== Proof.QkvRefRun.lean ====
module

public import proofs.«01_k».proof.Proof.QkvRef
public import proofs.«01_k».proof.Proof.Gen.QkvReferenceIdeal.Run

/-! The run of the projections' reference, with its results as the stages of the generated read module. -/

@[expose] public section

set_option maxRecDepth 16384

noncomputable section

namespace Cert.QkvRef

open Idealize.ShloMosaic Idealize.ShloMosaic.TcCoe Idealize.SL.Sem Cert.QkvReferenceIdeal Cert.QkvReferenceIdeal.Read

/-- The run's four results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
        ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12) :=
  (θ_run defs _ _).mono
    (fun _ h c => ⟨(h c).1.trans (val_main_v72_eq m c), (h c).2.1.trans (val_main_v73_eq m c),
      (h c).2.2.1.trans (val_main_v74_eq _ _ _ _), (h c).2.2.2.1.trans (val_main_v75_eq _ _ _ _), (h c).2.2.2.2⟩)
    (Cert.QkvReferenceIdeal.Value.run (F := Ideal) m ρ)

end Cert.QkvRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Qkv
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Ref
public import proofs.«01_k».proof.Proof.Equation
public import proofs.«01_k».proof.Proof.Finite
public import proofs.«01_k».proof.Proof.TailArrays
public import proofs.«01_k».proof.Proof.TailRef
public import proofs.«01_k».proof.Proof.QkvFrameBits
public import proofs.«01_k».proof.Proof.QkvResults
public import proofs.«01_k».proof.Proof.QkvRefRun
public import Idealize.ShloMosaic.Adequacy
public import Idealize.ShloMosaic.Init

@[expose] public section

noncomputable section

namespace Cert.Proof

open Idealize.ShloMosaic hiding ix2 ix3
open Idealize.ShloMosaic.ValueIdx Idealize.SL.Sem

/-- The reference runs, leaves its arguments, and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's value, of the kernel's arguments. -/
def value (m : (ℓ : Loc Cert.KernelIdeal.nD Cert.KernelIdeal.τ Cert.KernelIdeal.sig) → Buf (Elt Ideal) ℓ)
    (c : Dev Cert.KernelIdeal.nD) : Spec.Act :=
  Cert.ReferenceIdeal.Read.val_main_v105 (F := Ideal) (m (c.tc.loc Cert.KernelIdeal.main_arg0))
    (m (c.tc.loc Cert.KernelIdeal.main_arg1)) (m (c.tc.loc Cert.KernelIdeal.main_arg2))
    (m (c.tc.loc Cert.KernelIdeal.main_arg3))

/-- The kernel's array after the launch holds the reference's value. -/
theorem kernel_value (m : (ℓ : Loc Cert.KernelIdeal.nD Cert.KernelIdeal.τ Cert.KernelIdeal.sig) → Buf (Elt Ideal) ℓ)
    (hm : Cert.Pre_KernelIdeal_finite_scores m) (c : Dev Cert.KernelIdeal.nD) :
    (Cert.KernelIdeal.Gen.dats m 0 c).arrAt 4 Cert.KernelIdeal.cfg0.N = value m c := by
  refine Cert.Arrays.array_eq m c (value m c) fun b r q h d => ?_
  obtain ⟨hQ, hK, hB⟩ := Cert.Finite.reals m hm c
  unfold Cert.Arrays.arrQ Cert.Arrays.arrK Cert.Arrays.arrV Cert.Arrays.arrT
  rw [Cert.Host.V5, Cert.Host.V6, Cert.Host.V7, Cert.Host.V77]
  exact (Cert.Ref.ref_apply _ _ _ _ b r q h d).trans (Cert.Equation.result_eq _ _ _ _ hQ hK hB b r q h d).symm

/-- The kernel's and the reference's results are equal over the reals. -/
theorem algebraic : Cert.algebraic_KernelIdeal_ReferenceIdeal_pre_finite_scores := fun m g m' g' hm hargs =>
  ⟨value m,
    (θ_run Cert.KernelIdeal.defs _ _).mono (fun _ h c => ⟨(h c).1.trans (kernel_value m hm c), (h c).2⟩)
      (Cert.KernelIdeal.Value.run_blocks (F := Ideal) m g),
    (θ_run Cert.ReferenceIdeal.defs _ _).mono
      (fun _ h c => ⟨(h c).1.trans ((Cert.ReferenceIdeal.Read.val_main_v105_eq m' c).trans (by
        rw [(hargs c).1, (hargs c).2.1, (hargs c).2.2.1, (hargs c).2.2.2]; rfl)), (h c).2⟩)
      (Cert.ReferenceIdeal.Value.run (F := Ideal) m' g')⟩

/-- The tail's reference runs, leaves its arguments, and declares no semaphore. -/
theorem frame_tail_reference : Cert.quiescent_TailReferenceIdeal := fun m ρ _ =>
  (θ_run Cert.TailReferenceIdeal.defs _ _).mono
    (fun r h => ⟨fun c => (h c).2, Idealize.ShloMosaic.sem_eq_zero_of_no_sems (by decide) r.2⟩)
    (Cert.TailReferenceIdeal.Value.run (F := Ideal) m ρ)

/-- The tail's reference's value, of the kernel's arguments. -/
def tailValue (m : (ℓ : Loc Cert.TailIdeal.nD Cert.TailIdeal.τ Cert.TailIdeal.sig) → Buf (Elt Ideal) ℓ)
    (c : Dev Cert.TailIdeal.nD) : Cert.TailIdeal.S2x8192x1024.Idx → EReal :=
  Cert.TailReferenceIdeal.Read.val_main_v80 (F := Ideal)
    (m (c.tc.loc Cert.TailIdeal.main_arg0)) (m (c.tc.loc Cert.TailIdeal.main_arg1)) (m (c.tc.loc Cert.TailIdeal.main_arg2)) (m (c.tc.loc Cert.TailIdeal.main_arg3)) (m (c.tc.loc Cert.TailIdeal.main_arg4)) (m (c.tc.loc Cert.TailIdeal.main_arg5)) (m (c.tc.loc Cert.TailIdeal.main_arg6)) (m (c.tc.loc Cert.TailIdeal.main_arg7)) (m (c.tc.loc Cert.TailIdeal.main_arg8)) (m (c.tc.loc Cert.TailIdeal.main_arg9)) (m (c.tc.loc Cert.TailIdeal.main_arg10)) (m (c.tc.loc Cert.TailIdeal.main_arg11)) (m (c.tc.loc Cert.TailIdeal.main_arg12))

/-- The tail's array after the launch holds the reference's value. -/
theorem tail_value (m : (ℓ : Loc Cert.TailIdeal.nD Cert.TailIdeal.τ Cert.TailIdeal.sig) → Buf (Elt Ideal) ℓ)
    (c : Dev Cert.TailIdeal.nD) : (Cert.TailIdeal.Gen.dats m 0 c).arrAt 18 Cert.TailIdeal.cfg0.N = tailValue m c :=
  Cert.TailArrays.array_eq m c (tailValue m c) fun b s k => Cert.TailRef.out_apply _ _ _ _ _ _ _ _ _ _ _ _ _ b s k

/-- The tail's and its reference's results are equal over the extended reals. -/
theorem algebraic_tail : Cert.algebraic_TailIdeal_TailReferenceIdeal := fun m g m' g' _ hargs =>
  ⟨tailValue m,
    (θ_run Cert.TailIdeal.defs _ _).mono (fun _ h c => ⟨(h c).1.trans (tail_value m c), (h c).2⟩)
      (Cert.TailIdeal.Value.run_blocks (F := Ideal) m g),
    (θ_run Cert.TailReferenceIdeal.defs _ _).mono
      (fun _ h c => ⟨(h c).1.trans ((Cert.TailReferenceIdeal.Read.val_main_v80_eq m' c).trans (by
        rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1, (hargs c).2.2.2.2.2.2.2.2.2.2.2.2]
        rfl)), (h c).2⟩)
      (Cert.TailReferenceIdeal.Value.run (F := Ideal) m' g')⟩

/-- The projections' reference runs, leaves its arguments, and declares no semaphore. -/
theorem frame_qkv_reference : Cert.quiescent_QkvReferenceIdeal := fun m ρ _ =>
  (θ_run Cert.QkvReferenceIdeal.defs _ _).mono
    (fun r h => ⟨fun c => (h c).2.2.2.2, Idealize.ShloMosaic.sem_eq_zero_of_no_sems (by decide) r.2⟩)
    (Cert.QkvRef.run_values m ρ)

/-- The reference's queries, of the kernel's arguments. -/
def qkvQueries (m : (ℓ : Loc Cert.QkvIdeal.nD Cert.QkvIdeal.τ Cert.QkvIdeal.sig) → Buf (Elt Ideal) ℓ)
    (c : Dev Cert.QkvIdeal.nD) : Cert.QkvIdeal.S2x8192x512.Idx → EReal :=
  Cert.QkvReferenceIdeal.Read.val_main_v72 (F := Ideal) (m (c.tc.loc Cert.QkvIdeal.main_arg0)) (m (c.tc.loc Cert.QkvIdeal.main_arg1)) (m (c.tc.loc Cert.QkvIdeal.main_arg2)) (m (c.tc.loc Cert.QkvIdeal.main_arg3)) (m (c.tc.loc Cert.QkvIdeal.main_arg4))

/-- The array of the queries after the launch holds the reference's. -/
theorem qkvQueries_value (m : (ℓ : Loc Cert.QkvIdeal.nD Cert.QkvIdeal.τ Cert.QkvIdeal.sig) → Buf (Elt Ideal) ℓ)
    (c : Dev Cert.QkvIdeal.nD) : (Cert.QkvIdeal.Whole.dats m 0 c).arrAt 13 Cert.QkvIdeal.cfg0.N = qkvQueries m c :=
  Cert.QkvArrays.array_13 m c (qkvQueries m c) fun b s p => Cert.QkvRef.qa_apply _ _ _ _ _ b s p

/-- The reference's keys, of the kernel's arguments. -/
def qkvKeys (m : (ℓ : Loc Cert.QkvIdeal.nD Cert.QkvIdeal.τ Cert.QkvIdeal.sig) → Buf (Elt Ideal) ℓ)
    (c : Dev Cert.QkvIdeal.nD) : Cert.QkvIdeal.S2x8192x512.Idx → EReal :=
  Cert.QkvReferenceIdeal.Read.val_main_v73 (F := Ideal) (m (c.tc.loc Cert.QkvIdeal.main_arg0)) (m (c.tc.loc Cert.QkvIdeal.main_arg1)) (m (c.tc.loc Cert.QkvIdeal.main_arg2)) (m (c.tc.loc Cert.QkvIdeal.main_arg3)) (m (c.tc.loc Cert.QkvIdeal.main_arg5))

/-- The array of the keys after the launch holds the reference's. -/
theorem qkvKeys_value (m : (ℓ : Loc Cert.QkvIdeal.nD Cert.QkvIdeal.τ Cert.QkvIdeal.sig) → Buf (Elt Ideal) ℓ)
    (c : Dev Cert.QkvIdeal.nD) : (Cert.QkvIdeal.Whole.dats m 0 c).arrAt 14 Cert.QkvIdeal.cfg0.N = qkvKeys m c :=
  Cert.QkvArrays.array_14 m c (qkvKeys m c) fun b s p => Cert.QkvRef.ka_apply _ _ _ _ _ b s p

/-- The reference's values, of the kernel's arguments. -/
def qkvValues (m : (ℓ : Loc Cert.QkvIdeal.nD Cert.QkvIdeal.τ Cert.QkvIdeal.sig) → Buf (Elt Ideal) ℓ)
    (c : Dev Cert.QkvIdeal.nD) : Cert.QkvIdeal.S2x8192x512.Idx → EReal :=
  Cert.QkvReferenceIdeal.Read.val_main_v74 (F := Ideal) (m (c.tc.loc Cert.QkvIdeal.main_arg0)) (m (c.tc.loc Cert.QkvIdeal.main_arg1)) (m (c.tc.loc Cert.QkvIdeal.main_arg2)) (m (c.tc.loc Cert.QkvIdeal.main_arg3))

/-- The array of the values after the launch holds the reference's. -/
theorem qkvValues_value (m : (ℓ : Loc Cert.QkvIdeal.nD Cert.QkvIdeal.τ Cert.QkvIdeal.sig) → Buf (Elt Ideal) ℓ)
    (c : Dev Cert.QkvIdeal.nD) : (Cert.QkvIdeal.Whole.dats m 0 c).arrAt 15 Cert.QkvIdeal.cfg0.N = qkvValues m c :=
  Cert.QkvArrays.array_15 m c (qkvValues m c) fun b s p => Cert.QkvRef.va_apply _ _ _ _ b s p

/-- The reference's first dilated group's values, of the kernel's arguments. -/
def qkvFirst (m : (ℓ : Loc Cert.QkvIdeal.nD Cert.QkvIdeal.τ Cert.QkvIdeal.sig) → Buf (Elt Ideal) ℓ)
    (c : Dev Cert.QkvIdeal.nD) : Cert.QkvIdeal.S2x8192x256.Idx → EReal :=
  Cert.QkvReferenceIdeal.Read.val_main_v75 (F := Ideal) (m (c.tc.loc Cert.QkvIdeal.main_arg0)) (m (c.tc.loc Cert.QkvIdeal.main_arg1)) (m (c.tc.loc Cert.QkvIdeal.main_arg2)) (m (c.tc.loc Cert.QkvIdeal.main_arg3))

/-- The array of the first dilated group's values after the launch holds the reference's. -/
theorem qkvFirst_value (m : (ℓ : Loc Cert.QkvIdeal.nD Cert.QkvIdeal.τ Cert.QkvIdeal.sig) → Buf (Elt Ideal) ℓ)
    (c : Dev Cert.QkvIdeal.nD) : (Cert.QkvIdeal.Whole.dats m 0 c).arrAt 22 Cert.QkvIdeal.cfg0.N = qkvFirst m c :=
  Cert.QkvArrays.array_22 m c (qkvFirst m c) fun b s p => Cert.QkvRef.vb_apply _ _ _ _ b s p

/-- The projections' and their reference's results are equal over the extended reals. -/
theorem algebraic_qkv : Cert.algebraic_QkvIdeal_QkvReferenceIdeal := fun m g m' g' _ hargs =>
  ⟨qkvQueries m, qkvKeys m, qkvValues m, qkvFirst m,
    (θ_run Cert.QkvIdeal.defs _ _).mono
      (fun _ h c => ⟨(h.1 c).1.trans (qkvQueries_value m c), (h.1 c).2.1.trans (qkvKeys_value m c),
        (h.1 c).2.2.1.trans (qkvValues_value m c), (h.1 c).2.2.2.trans (qkvFirst_value m c), h.2 c⟩)
      (Cert.QkvArrays.run_results m g),
    (θ_run Cert.QkvReferenceIdeal.defs _ _).mono
      (fun _ h c => ⟨(h c).1.trans (by rw [(hargs c).1, (hargs c).2.1, (hargs c).2.2.1, (hargs c).2.2.2.1, (hargs c).2.2.2.2.1]; rfl),
        (h c).2.1.trans (by rw [(hargs c).1, (hargs c).2.1, (hargs c).2.2.1, (hargs c).2.2.2.1, (hargs c).2.2.2.2.2.1]; rfl),
        (h c).2.2.1.trans (by rw [(hargs c).1, (hargs c).2.1, (hargs c).2.2.1, (hargs c).2.2.2.1]; rfl),
        (h c).2.2.2.1.trans (by rw [(hargs c).1, (hargs c).2.1, (hargs c).2.2.1, (hargs c).2.2.2.1]; rfl), (h c).2.2.2.2⟩)
      (Cert.QkvRef.run_values m' g')⟩

/-- Every claim of the certificate. -/
theorem claim : Cert.Claim :=
  ⟨Cert.Kernel.Gen.facts, Cert.KernelIdeal.Gen.facts, Cert.ReferenceIdeal.Gen.facts, Cert.Tail.Gen.facts,
    Cert.TailIdeal.Gen.facts, Cert.TailReferenceIdeal.Gen.facts, Cert.Qkv.Gen.facts, Cert.QkvIdeal.Gen.facts,
    Cert.QkvReferenceIdeal.Gen.facts, Cert.Finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Tail.Gen.frame m ρ, fun m ρ _ => Cert.TailIdeal.Gen.frame m ρ, frame_tail_reference,
    Cert.QkvBits.frame, fun m ρ _ => Cert.QkvIdeal.Whole.frame m ρ, frame_qkv_reference, trivial,
    algebraic, trivial, algebraic_tail, trivial, algebraic_qkv⟩

end Cert.Proof

end
